-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2 = (fun _ => 1#1)

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2)
      ∧ r.2.mem ((c.tc : Thread Cert.Q.nD Cert.Q.τ).loc Cert.Q.main_arg3) = m ((c.tc : Thread Cert.Q.nD Cert.Q.τ).loc Cert.Q.main_arg3)
      ∧ r.2.mem ((c.tc : Thread Cert.Q.nD Cert.Q.τ).loc Cert.Q.main_arg4) = m ((c.tc : Thread Cert.Q.nD Cert.Q.τ).loc Cert.Q.main_arg4))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3)
      ∧ r.2.mem ((c.tc : Thread Cert.QIdeal.nD Cert.QIdeal.τ).loc Cert.QIdeal.main_arg4) = m ((c.tc : Thread Cert.QIdeal.nD Cert.QIdeal.τ).loc Cert.QIdeal.main_arg4))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2)
      ∧ r.2.mem ((c.tc : Thread Cert.QRefIdeal.nD Cert.QRefIdeal.τ).loc Cert.QRefIdeal.main_arg3) = m ((c.tc : Thread Cert.QRefIdeal.nD Cert.QRefIdeal.τ).loc Cert.QRefIdeal.main_arg3)
      ∧ r.2.mem ((c.tc : Thread Cert.QRefIdeal.nD Cert.QRefIdeal.τ).loc Cert.QRefIdeal.main_arg4) = m ((c.tc : Thread Cert.QRefIdeal.nD Cert.QRefIdeal.τ).loc Cert.QRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v9_0)) (v1 : (c : Dev Cert.GateIdeal.nD) → Buf (Elt Ideal) ((c.tc : Thread Cert.GateIdeal.nD Cert.GateIdeal.τ).loc Cert.GateIdeal.main_v9_1)) (v2 : (c : Dev Cert.GateIdeal.nD) → Buf (Elt Ideal) ((c.tc : Thread Cert.GateIdeal.nD Cert.GateIdeal.τ).loc Cert.GateIdeal.main_v9_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v9_0) = v0 c
          ∧ r.2.mem ((c.tc : Thread Cert.GateIdeal.nD Cert.GateIdeal.τ).loc Cert.GateIdeal.main_v9_1) = v1 c
          ∧ r.2.mem ((c.tc : Thread Cert.GateIdeal.nD Cert.GateIdeal.τ).loc Cert.GateIdeal.main_v9_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v14) = v0 c
          ∧ r.2.mem ((c.tc : Thread Cert.GateRefIdeal.nD Cert.GateRefIdeal.τ).loc Cert.GateRefIdeal.main_v17) = v1 c
          ∧ r.2.mem ((c.tc : Thread Cert.GateRefIdeal.nD Cert.GateRefIdeal.τ).loc Cert.GateRefIdeal.main_v19) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)) (v2 : (c : Dev Cert.ConvIdeal.nD) → Buf (Elt Ideal) ((c.tc : Thread Cert.ConvIdeal.nD Cert.ConvIdeal.τ).loc Cert.ConvIdeal.main_v4_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_v4_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v6) = v0 c
          ∧ r.2.mem ((c.tc : Thread Cert.ConvRefIdeal.nD Cert.ConvRefIdeal.τ).loc Cert.ConvRefIdeal.main_v8) = v1 c
          ∧ r.2.mem ((c.tc : Thread Cert.ConvRefIdeal.nD Cert.ConvRefIdeal.τ).loc Cert.ConvRefIdeal.main_v12) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)) →
    ∃ (v0 : (c : Dev Cert.BranchIdeal.nD) → Buf (Elt Ideal) ((c.tc : Thread Cert.BranchIdeal.nD Cert.BranchIdeal.τ).loc Cert.BranchIdeal.main_v3)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v3) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v43) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v3_0)) (v1 : (c : Dev Cert.AttnIdeal.nD) → Buf (Elt Ideal) ((c.tc : Thread Cert.AttnIdeal.nD Cert.AttnIdeal.τ).loc Cert.AttnIdeal.main_v3_1)) (v2 : (c : Dev Cert.AttnIdeal.nD) → Buf (Elt Ideal) ((c.tc : Thread Cert.AttnIdeal.nD Cert.AttnIdeal.τ).loc Cert.AttnIdeal.main_v3_2)) (v3 : (c : Dev Cert.AttnIdeal.nD) → Buf (Elt Ideal) ((c.tc : Thread Cert.AttnIdeal.nD Cert.AttnIdeal.τ).loc Cert.AttnIdeal.main_v3_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3_0) = v0 c
          ∧ r.2.mem ((c.tc : Thread Cert.AttnIdeal.nD Cert.AttnIdeal.τ).loc Cert.AttnIdeal.main_v3_1) = v1 c
          ∧ r.2.mem ((c.tc : Thread Cert.AttnIdeal.nD Cert.AttnIdeal.τ).loc Cert.AttnIdeal.main_v3_2) = v2 c
          ∧ r.2.mem ((c.tc : Thread Cert.AttnIdeal.nD Cert.AttnIdeal.τ).loc Cert.AttnIdeal.main_v3_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v23) = v0 c
          ∧ r.2.mem ((c.tc : Thread Cert.AttnRefIdeal.nD Cert.AttnRefIdeal.τ).loc Cert.AttnRefIdeal.main_v25) = v1 c
          ∧ r.2.mem ((c.tc : Thread Cert.AttnRefIdeal.nD Cert.AttnRefIdeal.τ).loc Cert.AttnRefIdeal.main_v27) = v2 c
          ∧ r.2.mem ((c.tc : Thread Cert.AttnRefIdeal.nD Cert.AttnRefIdeal.τ).loc Cert.AttnRefIdeal.main_v29) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)
      ∧ m' ((c.tc : Thread Cert.QRefIdeal.nD Cert.QRefIdeal.τ).loc Cert.QRefIdeal.main_arg2) = m ((c.tc : Thread Cert.QIdeal.nD Cert.QIdeal.τ).loc Cert.QIdeal.main_arg2)
      ∧ m' ((c.tc : Thread Cert.QRefIdeal.nD Cert.QRefIdeal.τ).loc Cert.QRefIdeal.main_arg3) = m ((c.tc : Thread Cert.QIdeal.nD Cert.QIdeal.τ).loc Cert.QIdeal.main_arg3)
      ∧ m' ((c.tc : Thread Cert.QRefIdeal.nD Cert.QRefIdeal.τ).loc Cert.QRefIdeal.main_arg4) = m ((c.tc : Thread Cert.QIdeal.nD Cert.QIdeal.τ).loc Cert.QIdeal.main_arg4)) →
    ∃ (v0 : (c : Dev Cert.QIdeal.nD) → Buf (Elt Ideal) ((c.tc : Thread Cert.QIdeal.nD Cert.QIdeal.τ).loc Cert.QIdeal.main_v41)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v41) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2)
          ∧ r.2.mem ((c.tc : Thread Cert.QIdeal.nD Cert.QIdeal.τ).loc Cert.QIdeal.main_arg3) = m ((c.tc : Thread Cert.QIdeal.nD Cert.QIdeal.τ).loc Cert.QIdeal.main_arg3)
          ∧ r.2.mem ((c.tc : Thread Cert.QIdeal.nD Cert.QIdeal.τ).loc Cert.QIdeal.main_arg4) = m ((c.tc : Thread Cert.QIdeal.nD Cert.QIdeal.τ).loc Cert.QIdeal.main_arg4))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v61) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1)
          ∧ r.2.mem ((c.tc : Thread Cert.QRefIdeal.nD Cert.QRefIdeal.τ).loc Cert.QRefIdeal.main_arg2) = m' ((c.tc : Thread Cert.QRefIdeal.nD Cert.QRefIdeal.τ).loc Cert.QRefIdeal.main_arg2)
          ∧ r.2.mem ((c.tc : Thread Cert.QRefIdeal.nD Cert.QRefIdeal.τ).loc Cert.QRefIdeal.main_arg3) = m' ((c.tc : Thread Cert.QRefIdeal.nD Cert.QRefIdeal.τ).loc Cert.QRefIdeal.main_arg3)
          ∧ r.2.mem ((c.tc : Thread Cert.QRefIdeal.nD Cert.QRefIdeal.τ).loc Cert.QRefIdeal.main_arg4) = m' ((c.tc : Thread Cert.QRefIdeal.nD Cert.QRefIdeal.τ).loc Cert.QRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)) →
    ∃ (v0 : (c : Dev Cert.KvIdeal.nD) → Buf (Elt Ideal) ((c.tc : Thread Cert.KvIdeal.nD Cert.KvIdeal.τ).loc Cert.KvIdeal.main_v52_0)) (v1 : (c : Dev Cert.KvIdeal.nD) → Buf (Elt Ideal) ((c.tc : Thread Cert.KvIdeal.nD Cert.KvIdeal.τ).loc Cert.KvIdeal.main_v52_1)) (v2 : (c : Dev Cert.KvIdeal.nD) → Buf (Elt Ideal) ((c.tc : Thread Cert.KvIdeal.nD Cert.KvIdeal.τ).loc Cert.KvIdeal.main_v52_2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v52_0) = v0 c
          ∧ r.2.mem ((c.tc : Thread Cert.KvIdeal.nD Cert.KvIdeal.τ).loc Cert.KvIdeal.main_v52_1) = v1 c
          ∧ r.2.mem ((c.tc : Thread Cert.KvIdeal.nD Cert.KvIdeal.τ).loc Cert.KvIdeal.main_v52_2) = v2 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v69) = v0 c
          ∧ r.2.mem ((c.tc : Thread Cert.KvRefIdeal.nD Cert.KvRefIdeal.τ).loc Cert.KvRefIdeal.main_v71) = v1 c
          ∧ r.2.mem ((c.tc : Thread Cert.KvRefIdeal.nD Cert.KvRefIdeal.τ).loc Cert.KvRefIdeal.main_v73) = v2 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)) →
    ∃ (v0 : (c : Dev Cert.HeadIdeal.nD) → Buf (Elt Ideal) ((c.tc : Thread Cert.HeadIdeal.nD Cert.HeadIdeal.τ).loc Cert.HeadIdeal.main_v2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v2) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v3) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0))

def Claim : Prop :=
  ∃ (hGate : Cert.Gate.Facts) (hGateIdeal : Cert.GateIdeal.Facts) (hGateRefIdeal : Cert.GateRefIdeal.Facts) (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hOut : Cert.Out.Facts) (hOutIdeal : Cert.OutIdeal.Facts) (hOutRefIdeal : Cert.OutRefIdeal.Facts) (hBranch : Cert.Branch.Facts) (hBranchIdeal : Cert.BranchIdeal.Facts) (hBranchRefIdeal : Cert.BranchRefIdeal.Facts) (hAttn : Cert.Attn.Facts) (hAttnIdeal : Cert.AttnIdeal.Facts) (hAttnRefIdeal : Cert.AttnRefIdeal.Facts) (hQ : Cert.Q.Facts) (hQIdeal : Cert.QIdeal.Facts) (hQRefIdeal : Cert.QRefIdeal.Facts) (hKv : Cert.Kv.Facts) (hKvIdeal : Cert.KvIdeal.Facts) (hKvRefIdeal : Cert.KvRefIdeal.Facts) (hHead : Cert.Head.Facts) (hHeadIdeal : Cert.HeadIdeal.Facts) (hHeadRefIdeal : Cert.HeadRefIdeal.Facts) (hPre_attn_finite : Cert.Pre_attn_finite.Facts),
    quiescent_Gate (hGate := hGate)
    ∧ quiescent_GateIdeal (hGateIdeal := hGateIdeal)
    ∧ quiescent_GateRefIdeal (hGateRefIdeal := hGateRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Conv (hConv := hConv)
    ∧ quiescent_ConvIdeal (hConvIdeal := hConvIdeal)
    ∧ quiescent_ConvRefIdeal (hConvRefIdeal := hConvRefIdeal)
    ∧ quiescent_Out (hOut := hOut)
    ∧ quiescent_OutIdeal (hOutIdeal := hOutIdeal)
    ∧ quiescent_OutRefIdeal (hOutRefIdeal := hOutRefIdeal)
    ∧ quiescent_Branch (hBranch := hBranch)
    ∧ quiescent_BranchIdeal (hBranchIdeal := hBranchIdeal)
    ∧ quiescent_BranchRefIdeal (hBranchRefIdeal := hBranchRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Q (hQ := hQ)
    ∧ quiescent_QIdeal (hQIdeal := hQIdeal)
    ∧ quiescent_QRefIdeal (hQRefIdeal := hQRefIdeal)
    ∧ quiescent_Kv (hKv := hKv)
    ∧ quiescent_KvIdeal (hKvIdeal := hKvIdeal)
    ∧ quiescent_KvRefIdeal (hKvRefIdeal := hKvRefIdeal)
    ∧ quiescent_Head (hHead := hHead)
    ∧ quiescent_HeadIdeal (hHeadIdeal := hHeadIdeal)
    ∧ quiescent_HeadRefIdeal (hHeadRefIdeal := hHeadRefIdeal)
    ∧ preserves_Gate_GateIdeal
    ∧ algebraic_GateIdeal_GateRefIdeal (hGateIdeal := hGateIdeal) (hGateRefIdeal := hGateRefIdeal)
    ∧ preserves_Ffn_FfnIdeal
    ∧ algebraic_FfnIdeal_FfnRefIdeal (hFfnIdeal := hFfnIdeal) (hFfnRefIdeal := hFfnRefIdeal)
    ∧ preserves_Conv_ConvIdeal
    ∧ algebraic_ConvIdeal_ConvRefIdeal (hConvIdeal := hConvIdeal) (hConvRefIdeal := hConvRefIdeal)
    ∧ preserves_Out_OutIdeal
    ∧ algebraic_OutIdeal_OutRefIdeal (hOutIdeal := hOutIdeal) (hOutRefIdeal := hOutRefIdeal)
    ∧ preserves_Branch_BranchIdeal
    ∧ algebraic_BranchIdeal_BranchRefIdeal (hBranchIdeal := hBranchIdeal) (hBranchRefIdeal := hBranchRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Q_QIdeal
    ∧ algebraic_QIdeal_QRefIdeal (hQIdeal := hQIdeal) (hQRefIdeal := hQRefIdeal)
    ∧ preserves_Kv_KvIdeal
    ∧ algebraic_KvIdeal_KvRefIdeal (hKvIdeal := hKvIdeal) (hKvRefIdeal := hKvRefIdeal)
    ∧ preserves_Head_HeadIdeal
    ∧ algebraic_HeadIdeal_HeadRefIdeal (hHeadIdeal := hHeadIdeal) (hHeadRefIdeal := hHeadRefIdeal)
-- ==== Pre_attn_finite.lean ====
abbrev S16384x4096 : Shape := ⟨2, ![16384, 4096]⟩
abbrev S4x16x256x4096 : Shape := ⟨4, ![4, 16, 256, 4096]⟩
abbrev S16384x2048 : Shape := ⟨2, ![16384, 2048]⟩
abbrev S1x4096x11008 : Shape := ⟨3, ![1, 4096, 11008]⟩
abbrev S1x11008x4096 : Shape := ⟨3, ![1, 11008, 4096]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  bcast_S_S4x16x256x4096 : S_.BroadcastsInDim S4x16x256x4096 (![] : Fin 0 → Fin S4x16x256x4096.rank)

variable [Facts]

def fn {F : FTy → Type} [FloatOps F] (main_arg0 : FVec F S16384x4096 .bf16) (main_arg1 : FVec F S4x16x256x4096 .bf16) (main_arg2 : FVec F S16384x2048 .bf16) (main_arg3 : FVec F S1x4096x11008 .f32) (main_arg4 : FVec F S1x4096x11008 .f32) (main_arg5 : FVec F S1x11008x4096 .f32) : IVec S16384x4096 1 × IVec S4x16x256x4096 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S4x16x256x4096 .f32 := (extf .f32 · bitsLt_bf16_f32) main_arg1
  let main_v5 : FVec F S4x16x256x4096 .f32 := Host.absf main_v4
  let main_cst_0 : FVec F S_ .f32 := constant S_ .f32 0x7F800000#32
  let main_v6 : FVec F S4x16x256x4096 .f32 := broadcastInDim S4x16x256x4096 ![] bcast_S_S4x16x256x4096 main_cst_0
  let main_v7 : IVec S4x16x256x4096 1 := cmpf .olt main_v5 main_v6
  (main_v3, main_v7)
-- ==== Gate.lean ====
abbrev S16384x4096 : Shape := ⟨2, ![16384, 4096]⟩
abbrev S1x4096x15936 : Shape := ⟨3, ![1, 4096, 15936]⟩
abbrev S1x8192 : Shape := ⟨2, ![1, 8192]⟩
abbrev S1x2x2048x4096 : Shape := ⟨4, ![1, 2, 2048, 4096]⟩
abbrev S1x4096x4096 : Shape := ⟨3, ![1, 4096, 4096]⟩
abbrev S4096x15936 : Shape := ⟨2, ![4096, 15936]⟩
abbrev S15936x4096 : Shape := ⟨2, ![15936, 4096]⟩
abbrev S8256x4096 : Shape := ⟨2, ![8256, 4096]⟩
abbrev S8192 : Shape := ⟨1, ![8192]⟩
abbrev S2x2048x4096 : Shape := ⟨3, ![2, 2048, 4096]⟩
abbrev S4096x4096 : Shape := ⟨2, ![4096, 4096]⟩
abbrev S16384x8192 : Shape := ⟨2, ![16384, 8192]⟩
abbrev S1024x4096 : Shape := ⟨2, ![1024, 4096]⟩
abbrev S1x1024 : Shape := ⟨2, ![1, 1024]⟩
abbrev S32x4096 : Shape := ⟨2, ![32, 4096]⟩
abbrev S1024x1024 : Shape := ⟨2, ![1024, 1024]⟩

abbrev nBuf : Space → Nat
  | .hbm => 17
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S1x4096x15936, .f32⟩
  | .hbm, ⟨2, _⟩ => ⟨S1x8192, .f32⟩
  | .hbm, ⟨3, _⟩ => ⟨S1x2x2048x4096, .f32⟩
  | .hbm, ⟨4, _⟩ => ⟨S1x4096x4096, .f32⟩
  | .hbm, ⟨5, _⟩ => ⟨S4096x15936, .f32⟩
  | .hbm, ⟨6, _⟩ => ⟨S15936x4096, .f32⟩
  | .hbm, ⟨7, _⟩ => ⟨S8256x4096, .f32⟩
  | .hbm, ⟨8, _⟩ => ⟨S8256x4096, .bf16⟩
  | .hbm, ⟨9, _⟩ => ⟨S8192, .f32⟩
  | .hbm, ⟨10, _⟩ => ⟨S1x8192, .f32⟩
  | .hbm, ⟨11, _⟩ => ⟨S2x2048x4096, .f32⟩
  | .hbm, ⟨12, _⟩ => ⟨S4096x4096, .f32⟩
  | .hbm, ⟨13, _⟩ => ⟨S4096x4096, .f32⟩
  | .hbm, ⟨14, _⟩ => ⟨S16384x8192, .bf16⟩
  | .hbm, ⟨15, _⟩ => ⟨S4096x4096, .bf16⟩
  | .hbm, ⟨16, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S1024x1024, .bf16⟩
  | .local _ .vmem, ⟨11, _⟩ => ⟨S1024x1024, .bf16⟩
  | .local _ .vmem, ⟨12, _⟩ => ⟨S32x4096, .bf16⟩
  | .local _ .vmem, ⟨13, _⟩ => ⟨S32x4096, .bf16⟩
  | .local _ .vmem, ⟨14, _⟩ => ⟨S32x4096, .bf16⟩
  | .local _ .vmem, ⟨15, _⟩ => ⟨S32x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c64_i32 : BitVec 32 := 64#32
  let arg1 : BitVec 32 := BitVec.ofNat 32 (i 1).val
  let c1024_i32 : BitVec 32 := 1024#32
  let v0 : BitVec 32 := Scalar.muli arg1 c1024_i32
  let v1 : BitVec 32 := Scalar.addi c64_i32 v0
  v1
def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c128_i32 : BitVec 32 := 128#32
  let v2 : BitVec 1 := Scalar.cmpi .slt v1 c128_i32
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c128_i32_0 : BitVec 32 := 128#32
  let v5 : BitVec 1 := Scalar.cmpi .slt v1 c128_i32_0
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GateRefIdeal.lean ====
abbrev S16384x4096 : Shape := ⟨2, ![16384, 4096]⟩
abbrev S1x4096x15936 : Shape := ⟨3, ![1, 4096, 15936]⟩
abbrev S1x8192 : Shape := ⟨2, ![1, 8192]⟩
abbrev S1x2x2048x4096 : Shape := ⟨4, ![1, 2, 2048, 4096]⟩
abbrev S1x4096x4096 : Shape := ⟨3, ![1, 4096, 4096]⟩
abbrev S4096x15936 : Shape := ⟨2, ![4096, 15936]⟩
abbrev S16384x15936 : Shape := ⟨2, ![16384, 15936]⟩
abbrev S16384x8192 : Shape := ⟨2, ![16384, 8192]⟩
abbrev S8192 : Shape := ⟨1, ![8192]⟩
abbrev S_ : Shape := ⟨0, ![]⟩
abbrev S2x2048x4096 : Shape := ⟨3, ![2, 2048, 4096]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x15936, .f32⟩
  | .hbm, ⟨2, _⟩ => ⟨S1x8192, .f32⟩
  | .hbm, ⟨3, _⟩ => ⟨S1x2x2048x4096, .f32⟩
  | .hbm, ⟨4, _⟩ => ⟨S1x4096x4096, .f32⟩
  | .hbm, ⟨5, _⟩ => ⟨S16384x4096, .f32⟩
  | .hbm, ⟨6, _⟩ => ⟨S4096x15936, .f32⟩
  | .hbm, ⟨7, _⟩ => ⟨S16384x15936, .f32⟩
  | .hbm, ⟨8, _⟩ => ⟨S16384x8192, .f32⟩
  | .hbm, ⟨9, _⟩ => ⟨S8192, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S_, .f32⟩
  | .hbm, ⟨19, _⟩ => ⟨S16384x8192, .f32⟩
  | .hbm, ⟨20, _⟩ => ⟨S16384x8192, .f32⟩
  | .hbm, ⟨21, _⟩ => ⟨S16384x8192, .bf16⟩
  | .hbm, ⟨22, _⟩ => ⟨S2x2048x4096, .f32⟩
  | .hbm, ⟨23, _⟩ => ⟨S4096x4096, .f32⟩
  | .hbm, ⟨24, _⟩ => ⟨S4096x4096, .bf16⟩
  | .hbm, ⟨25, _⟩ => ⟨S4096x4096, .f32⟩
  | .hbm, ⟨26, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Ffn.lean ====
abbrev S16384x4096 : Shape := ⟨2, ![16384, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S4096x11008 : Shape := ⟨2, ![4096, 11008]⟩
abbrev S11008x4096 : Shape := ⟨2, ![11008, 4096]⟩
abbrev S4096x256 : Shape := ⟨2, ![4096, 256]⟩
abbrev S256x4096 : Shape := ⟨2, ![256, 4096]⟩
abbrev S1024x4096 : Shape := ⟨2, ![1024, 4096]⟩
abbrev S_ : Shape := ⟨0, ![]⟩
abbrev S256 : Shape := ⟨1, ![256]⟩
abbrev S256x1 : Shape := ⟨2, ![256, 1]⟩
abbrev S1024x256 : Shape := ⟨2, ![1024, 256]⟩

abbrev nBuf : Space → Nat
  | .hbm => 16
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x11008, .f32⟩
  | .hbm, ⟨9, _⟩ => ⟨S4096x11008, .bf16⟩
  | .hbm, ⟨10, _⟩ => ⟨S4096x11008, .f32⟩
  | .hbm, ⟨11, _⟩ => ⟨S4096x11008, .bf16⟩
  | .hbm, ⟨12, _⟩ => ⟨S11008x4096, .f32⟩
  | .hbm, ⟨13, _⟩ => ⟨S11008x4096, .bf16⟩
  | .hbm, ⟨14, _⟩ => ⟨S1x4096, .f32⟩
  | .hbm, ⟨15, _⟩ => ⟨S16384x4096, .f32⟩
  | .local _ .vmem, ⟨0, _⟩ => ⟨S1x4096, .f32⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S256x4096, .bf16⟩
  | .local _ .vmem, ⟨6, _⟩ => ⟨S256x4096, .bf16⟩
  | .local _ .vmem, ⟨7, _⟩ => ⟨S1x4096, .f32⟩
  | .local _ .vmem, ⟨8, _⟩ => ⟨S1024x4096, .f32⟩
  | .local _ .vmem, ⟨9, _⟩ => ⟨S1024x4096, .bf16⟩
  | .local _ .vmem, ⟨10, _⟩ => ⟨S1024x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![16, 43], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_10 : BitVec 32 := 0#32
  c0_i32_10
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1024_i32 : BitVec 32 := 1024#32
  let v22 : BitVec 32 := Scalar.muli arg0 c1024_i32
  v22
def k0_off1 (i : grid0.Coords) : Fin 2 → Nat :=
  let arg0 : BitVec 32 := BitVec.ofNat 32 (i 0).val
  let c1024_i32 : BitVec 32 := 1024#32
  let v22 : BitVec 32 := Scalar.muli arg0 c1024_i32
  let v23 : BitVec 32 := v22
  let c0_i32_10 : BitVec 32 := 0#32
  ![v23.toNat, 0]
def k0_cond4 (i : grid0.Coords) : BitVec 1 :=
  let arg1 : BitVec 32 := BitVec.ofNat 32 (i 1).val
  let c42_i32_6 : BitVec 32 := 42#32
  let v13 : BitVec 1 := Scalar.cmpi .eq arg1 c42_i32_6
  let arg0 : BitVec 32 := BitVec.ofNat 32 (i 0).val
  let c1_i32 : BitVec 32 := 1#32
  let v14 : BitVec 32 := Scalar.addi arg0 c1_i32
  let c16_i32 : BitVec 32 := 16#32
  let v15 : BitVec 1 := Scalar.cmpi .slt v14 c16_i32
  let v16 : BitVec 1 := Scalar.andi v13 v15
  let v17 : BitVec 32 := Scalar.extui v16
  let c0_i32_7 : BitVec 32 := 0#32
  let v18 : BitVec 1 := Scalar.cmpi .ne v17 c0_i32_7
  v18

def k0_mult3 (i : grid0.Coords) : BitVec 32 :=
  let arg0 : BitVec 32 := BitVec.ofNat 32 (i 0).val
  let c1_i32_10 : BitVec 32 := 1#32
  let v22 : BitVec 32 := Scalar.addi arg0 c1_i32_10
  let c1024_i32 : BitVec 32 := 1024#32
  let v23 : BitVec 32 := Scalar.muli v22 c1024_i32
  v23
def k0_off2 (i : grid0.Coords) : Fin 2 → Nat :=
  let arg0 : BitVec 32 := BitVec.ofNat 32 (i 0).val
  let c1_i32_10 : BitVec 32 := 1#32
  let v22 : BitVec 32 := Scalar.addi arg0 c1_i32_10
  let c1024_i32 : BitVec 32 := 1024#32
  let v23 : BitVec 32 := Scalar.muli v22 c1024_i32
  let v24 : BitVec 32 := v23
  let c0_i32_11 : BitVec 32 := 0#32
  ![v24.toNat, 0]
def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let c42_i32 : BitVec 32 := 42#32
  let v9 : BitVec 1 := Scalar.cmpi .slt arg1 c42_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond5 (i : grid0.Coords) : BitVec 1 :=
  let arg1 : BitVec 32 := BitVec.ofNat 32 (i 1).val
  let c42_i32_8 : BitVec 32 := 42#32
  let v19 : BitVec 1 := Scalar.cmpi .eq arg1 c42_i32_8
  let v20 : BitVec 32 := Scalar.extui v19
  let c0_i32_9 : BitVec 32 := 0#32
  let v21 : BitVec 1 := Scalar.cmpi .ne v20 c0_i32_9
  v21

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnRefIdeal.lean ====
abbrev S16384x4096 : Shape := ⟨2, ![16384, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S4096x11008 : Shape := ⟨2, ![4096, 11008]⟩
abbrev S16384x11008 : Shape := ⟨2, ![16384, 11008]⟩
abbrev S11008x4096 : Shape := ⟨2, ![11008, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S4096, .f32⟩
  | .hbm, ⟨6, _⟩ => ⟨S4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S4096x11008, .f32⟩
  | .hbm, ⟨24, _⟩ => ⟨S16384x11008, .f32⟩
  | .hbm, ⟨25, _⟩ => ⟨S16384x11008, .f32⟩
  | .hbm, ⟨26, _⟩ => ⟨S16384x11008, .f32⟩
  | .hbm, ⟨27, _⟩ => ⟨S_, .f32⟩
  | .hbm, ⟨28, _⟩ => ⟨S16384x11008, .f32⟩
  | .hbm, ⟨29, _⟩ => ⟨S16384x11008, .f32⟩
  | .hbm, ⟨30, _⟩ => ⟨S_, .f32⟩
  | .hbm, ⟨31, _⟩ => ⟨S16384x11008, .f32⟩
  | .hbm, ⟨32, _⟩ => ⟨S16384x11008, .f32⟩
  | .hbm, ⟨33, _⟩ => ⟨S16384x11008, .f32⟩
  | .hbm, ⟨34, _⟩ => ⟨S4096x11008, .f32⟩
  | .hbm, ⟨35, _⟩ => ⟨S16384x11008, .f32⟩
  | .hbm, ⟨36, _⟩ => ⟨S16384x11008, .f32⟩
  | .hbm, ⟨37, _⟩ => ⟨S11008x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x4096, .f32⟩
  | .hbm, ⟨52, _⟩ => ⟨S16384x4096, .f32⟩
  | .hbm, ⟨53, _⟩ => ⟨S1x4096, .f32⟩
  | .hbm, ⟨54, _⟩ => ⟨S16384x4096, .f32⟩
  | .hbm, ⟨55, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Conv.lean ====
abbrev S16384x4096 : Shape := ⟨2, ![16384, 4096]⟩
abbrev S1x4096x15936 : Shape := ⟨3, ![1, 4096, 15936]⟩
abbrev S4096x15936 : Shape := ⟨2, ![4096, 15936]⟩
abbrev S15936x4096 : Shape := ⟨2, ![15936, 4096]⟩
abbrev S7680x4096 : Shape := ⟨2, ![7680, 4096]⟩
abbrev S16384x2048 : Shape := ⟨2, ![16384, 2048]⟩
abbrev S8256x4096 : Shape := ⟨2, ![8256, 4096]⟩
abbrev S1024x4096 : Shape := ⟨2, ![1024, 4096]⟩
abbrev S512x4096 : Shape := ⟨2, ![512, 4096]⟩
abbrev S192x4096 : Shape := ⟨2, ![192, 4096]⟩
abbrev S1024x512 : Shape := ⟨2, ![1024, 512]⟩

abbrev nBuf : Space → Nat
  | .hbm => 9
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S1x4096x15936, .f32⟩
  | .hbm, ⟨2, _⟩ => ⟨S4096x15936, .f32⟩
  | .hbm, ⟨3, _⟩ => ⟨S15936x4096, .f32⟩
  | .hbm, ⟨4, _⟩ => ⟨S7680x4096, .f32⟩
  | .hbm, ⟨5, _⟩ => ⟨S7680x4096, .bf16⟩
  | .hbm, ⟨6, _⟩ => ⟨S16384x2048, .bf16⟩
  | .hbm, ⟨7, _⟩ => ⟨S16384x2048, .bf16⟩
  | .hbm, ⟨8, _⟩ => ⟨S8256x4096, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S192x4096, .f32⟩
  | .local _ .vmem, ⟨9, _⟩ => ⟨S192x4096, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S192x4096, .bf16⟩
  | .local _ .vmem, ⟨15, _⟩ => ⟨S192x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c43_i32 : BitVec 32 := 43#32
  let v2 : BitVec 1 := Scalar.cmpi .slt v1 c43_i32
  let v3 : BitVec 32 := Scalar.extui v2
  let c0_i32 : BitVec 32 := 0#32
  let v4 : BitVec 1 := Scalar.cmpi .ne v3 c0_i32
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c42_i32 : BitVec 32 := 42#32
  let v2 : BitVec 32 := Scalar.minsi v1 c42_i32
  let c40_i32 : BitVec 32 := 40#32
  let v3 : BitVec 32 := Scalar.addi c40_i32 v2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c42_i32 : BitVec 32 := 42#32
  let v2 : BitVec 32 := Scalar.minsi v1 c42_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S192x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S192x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvRefIdeal.lean ====
abbrev S16384x4096 : Shape := ⟨2, ![16384, 4096]⟩
abbrev S1x4096x15936 : Shape := ⟨3, ![1, 4096, 15936]⟩
abbrev S4096x15936 : Shape := ⟨2, ![4096, 15936]⟩
abbrev S16384x15936 : Shape := ⟨2, ![16384, 15936]⟩
abbrev S16384x2048 : Shape := ⟨2, ![16384, 2048]⟩
abbrev S4096x8256 : Shape := ⟨2, ![4096, 8256]⟩
abbrev S8256x4096 : Shape := ⟨2, ![8256, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x15936, .f32⟩
  | .hbm, ⟨2, _⟩ => ⟨S16384x4096, .f32⟩
  | .hbm, ⟨3, _⟩ => ⟨S4096x15936, .f32⟩
  | .hbm, ⟨4, _⟩ => ⟨S16384x15936, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .bf16⟩
  | .hbm, ⟨9, _⟩ => ⟨S16384x2048, .f32⟩
  | .hbm, ⟨10, _⟩ => ⟨S16384x2048, .bf16⟩
  | .hbm, ⟨11, _⟩ => ⟨S4096x15936, .f32⟩
  | .hbm, ⟨12, _⟩ => ⟨S4096x8256, .f32⟩
  | .hbm, ⟨13, _⟩ => ⟨S8256x4096, .f32⟩
  | .hbm, ⟨14, _⟩ => ⟨S8256x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Out.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Branch.lean ====
abbrev S16384x2048 : Shape := ⟨2, ![16384, 2048]⟩
abbrev S1x3x2048 : Shape := ⟨3, ![1, 3, 2048]⟩
abbrev S16384x8192 : Shape := ⟨2, ![16384, 8192]⟩
abbrev S1x2x2048x4096 : Shape := ⟨4, ![1, 2, 2048, 4096]⟩
abbrev S3x2048 : Shape := ⟨2, ![3, 2048]⟩
abbrev S2x2048x4096 : Shape := ⟨3, ![2, 2048, 4096]⟩
abbrev S16384x4096 : Shape := ⟨2, ![16384, 4096]⟩
abbrev S1024x2048 : Shape := ⟨2, ![1024, 2048]⟩
abbrev S16x2048 : Shape := ⟨2, ![16, 2048]⟩
abbrev S1024x512 : Shape := ⟨2, ![1024, 512]⟩
abbrev S1x2048x512 : Shape := ⟨3, ![1, 2048, 512]⟩
abbrev S1024x1 : Shape := ⟨2, ![1024, 1]⟩
abbrev S1x512 : Shape := ⟨2, ![1, 512]⟩
abbrev S2048x512 : Shape := ⟨2, ![2048, 512]⟩

abbrev nBuf : Space → Nat
  | .hbm => 10
  | .vmem => 22
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S1x3x2048, .f32⟩
  | .hbm, ⟨4, _⟩ => ⟨S16384x8192, .bf16⟩
  | .hbm, ⟨5, _⟩ => ⟨S1x2x2048x4096, .f32⟩
  | .hbm, ⟨6, _⟩ => ⟨S3x2048, .f32⟩
  | .hbm, ⟨7, _⟩ => ⟨S2x2048x4096, .f32⟩
  | .hbm, ⟨8, _⟩ => ⟨S2x2048x4096, .bf16⟩
  | .hbm, ⟨9, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S16x2048, .bf16⟩
  | .local _ .vmem, ⟨5, _⟩ => ⟨S16x2048, .bf16⟩
  | .local _ .vmem, ⟨6, _⟩ => ⟨S16x2048, .bf16⟩
  | .local _ .vmem, ⟨7, _⟩ => ⟨S16x2048, .bf16⟩
  | .local _ .vmem, ⟨8, _⟩ => ⟨S1024x2048, .bf16⟩
  | .local _ .vmem, ⟨9, _⟩ => ⟨S1024x2048, .bf16⟩
  | .local _ .vmem, ⟨10, _⟩ => ⟨S3x2048, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1x2048x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x2048x512, .bf16⟩
  | .local _ .vmem, ⟨19, _⟩ => ⟨S1024x512, .bf16⟩
  | .local _ .vmem, ⟨20, _⟩ => ⟨S1024x512, .bf16⟩
  | .local _ .vmem, ⟨21, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== BranchRefIdeal.lean ====
abbrev S16384x2048 : Shape := ⟨2, ![16384, 2048]⟩
abbrev S1x3x2048 : Shape := ⟨3, ![1, 3, 2048]⟩
abbrev S16384x8192 : Shape := ⟨2, ![16384, 8192]⟩
abbrev S1x2x2048x4096 : Shape := ⟨4, ![1, 2, 2048, 4096]⟩
abbrev S4x4096x2048 : Shape := ⟨3, ![4, 4096, 2048]⟩
abbrev S3x2048 : Shape := ⟨2, ![3, 2048]⟩
abbrev S_ : Shape := ⟨0, ![]⟩
abbrev S4x4098x2048 : Shape := ⟨3, ![4, 4098, 2048]⟩
abbrev S1x2048 : Shape := ⟨2, ![1, 2048]⟩
abbrev S2048 : Shape := ⟨1, ![2048]⟩
abbrev S1x1x2048 : Shape := ⟨3, ![1, 1, 2048]⟩
abbrev S4x4096x8192 : Shape := ⟨3, ![4, 4096, 8192]⟩
abbrev S4x4096x4096 : Shape := ⟨3, ![4, 4096, 4096]⟩
abbrev S1x1x2048x4096 : Shape := ⟨4, ![1, 1, 2048, 4096]⟩
abbrev S2048x4096 : Shape := ⟨2, ![2048, 4096]⟩
abbrev S16384x4096 : Shape := ⟨2, ![16384, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S1x3x2048, .f32⟩
  | .hbm, ⟨4, _⟩ => ⟨S16384x8192, .bf16⟩
  | .hbm, ⟨5, _⟩ => ⟨S1x2x2048x4096, .f32⟩
  | .hbm, ⟨6, _⟩ => ⟨S16384x2048, .f32⟩
  | .hbm, ⟨7, _⟩ => ⟨S4x4096x2048, .f32⟩
  | .hbm, ⟨8, _⟩ => ⟨S16384x2048, .f32⟩
  | .hbm, ⟨9, _⟩ => ⟨S4x4096x2048, .f32⟩
  | .hbm, ⟨10, _⟩ => ⟨S3x2048, .f32⟩
  | .hbm, ⟨11, _⟩ => ⟨S_, .i32⟩
  | .hbm, ⟨12, _⟩ => ⟨S_, .f32⟩
  | .hbm, ⟨13, _⟩ => ⟨S4x4098x2048, .f32⟩
  | .hbm, ⟨14, _⟩ => ⟨S4x4096x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S16384x8192, .f32⟩
  | .hbm, ⟨36, _⟩ => ⟨S4x4096x8192, .f32⟩
  | .hbm, ⟨37, _⟩ => ⟨S4x4096x4096, .f32⟩
  | .hbm, ⟨38, _⟩ => ⟨S1x1x2048x4096, .f32⟩
  | .hbm, ⟨39, _⟩ => ⟨S2048x4096, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S16384x2048, .f32⟩
  | .hbm, ⟨44, _⟩ => ⟨S4x4096x2048, .f32⟩
  | .hbm, ⟨45, _⟩ => ⟨S1x1x2048x4096, .f32⟩
  | .hbm, ⟨46, _⟩ => ⟨S2048x4096, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S16384x4096, .f32⟩
  | .hbm, ⟨51, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Attn.lean ====
abbrev S16384x4096 : Shape := ⟨2, ![16384, 4096]⟩
abbrev S4x16x256x4096 : Shape := ⟨4, ![4, 16, 256, 4096]⟩
abbrev S16384x2048 : Shape := ⟨2, ![16384, 2048]⟩
abbrev S1x4096x11008 : Shape := ⟨3, ![1, 4096, 11008]⟩
abbrev S1x11008x4096 : Shape := ⟨3, ![1, 11008, 4096]⟩
abbrev S4096x11008 : Shape := ⟨2, ![4096, 11008]⟩
abbrev S11008x4096 : Shape := ⟨2, ![11008, 4096]⟩
abbrev S1024x256 : Shape := ⟨2, ![1024, 256]⟩
abbrev S1x1x256x4096 : Shape := ⟨4, ![1, 1, 256, 4096]⟩
abbrev S4096x128 : Shape := ⟨2, ![4096, 128]⟩
abbrev S16x11008 : Shape := ⟨2, ![16, 11008]⟩
abbrev S64x4096 : Shape := ⟨2, ![64, 4096]⟩
abbrev S1024x128 : Shape := ⟨2, ![1024, 128]⟩
abbrev S4096x256 : Shape := ⟨2, ![4096, 256]⟩
abbrev S1024x1 : Shape := ⟨2, ![1024, 1]⟩
abbrev S1x1x256x256 : Shape := ⟨4, ![1, 1, 256, 256]⟩
abbrev S256x256 : Shape := ⟨2, ![256, 256]⟩
abbrev S1024 : Shape := ⟨1, ![1024]⟩

abbrev nBuf : Space → Nat
  | .hbm => 13
  | .vmem => 21
  | .smem => 0
  | _ => 0

abbrev bufTy : (tb : Table) → Fin (tcTables nBuf tb) → BufTy
  | .hbm, ⟨0, _⟩ => ⟨S16384x4096, .bf16⟩
  | .hbm, ⟨1, _⟩ => ⟨S4x16x256x4096, .bf16⟩
  | .hbm, ⟨2, _⟩ => ⟨S16384x2048, .bf16⟩
  | .hbm, ⟨3, _⟩ => ⟨S1x4096x11008, .f32⟩
  | .hbm, ⟨4, _⟩ => ⟨S1x4096x11008, .f32⟩
  | .hbm, ⟨5, _⟩ => ⟨S1x11008x4096, .f32⟩
  | .hbm, ⟨6, _⟩ => ⟨S4096x11008, .f32⟩
  | .hbm, ⟨7, _⟩ => ⟨S4096x11008, .f32⟩
  | .hbm, ⟨8, _⟩ => ⟨S11008x4096, .f32⟩
  | .hbm, ⟨9, _⟩ => ⟨S16384x2048, .bf16⟩
  | .hbm, ⟨10, _⟩ => ⟨S4096x11008, .bf16⟩
  | .hbm, ⟨11, _⟩ => ⟨S4096x11008, .bf16⟩
  | .hbm, ⟨12, _⟩ => ⟨S11008x4096, .bf16⟩
  | .local _ .vmem, ⟨0, _⟩ => ⟨S1024x256, .bf16⟩
  | .local _ .vmem, ⟨1, _⟩ => ⟨S1024x256, .bf16⟩
  | .local _ .vmem, ⟨2, _⟩ => ⟨S1x1x256x4096, .bf16⟩
  | .local _ .vmem, ⟨3, _⟩ => ⟨S1x1x256x4096, .bf16⟩
  | .local _ .vmem, ⟨4, _⟩ => ⟨S4096x128, .bf16⟩
  | .local _ .vmem, ⟨5, _⟩ => ⟨S4096x128, .bf16⟩
  | .local _ .vmem, ⟨6, _⟩ => ⟨S16x11008, .f32⟩
  | .local _ .vmem, ⟨7, _⟩ => ⟨S16x11008, .f32⟩
  | .local _ .vmem, ⟨8, _⟩ => ⟨S16x11008, .f32⟩
  | .local _ .vmem, ⟨9, _⟩ => ⟨S16x11008, .f32⟩
  | .local _ .vmem, ⟨10, _⟩ => ⟨S64x4096, .f32⟩
  | .local _ .vmem, ⟨11, _⟩ => ⟨S64x4096, .f32⟩
  | .local _ .vmem, ⟨12, _⟩ => ⟨S1024x128, .bf16⟩
  | .local _ .vmem, ⟨13, _⟩ => ⟨S1024x128, .bf16⟩
  | .local _ .vmem, ⟨14, _⟩ => ⟨S16x11008, .bf16⟩
  | .local _ .vmem, ⟨15, _⟩ => ⟨S16x11008, .bf16⟩
  | .local _ .vmem, ⟨16, _⟩ => ⟨S16x11008, .bf16⟩
  | .local _ .vmem, ⟨17, _⟩ => ⟨S16x11008, .bf16⟩
  | .local _ .vmem, ⟨18, _⟩ => ⟨S64x4096, .bf16⟩
  | .local _ .vmem, ⟨19, _⟩ => ⟨S64x4096, .bf16⟩
  | .local _ .vmem, ⟨20, _⟩ => ⟨S4096x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 16, 4], ![false, false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c256_i32 : BitVec 32 := 256#32
  let v4 : BitVec 1 := Scalar.cmpi .slt v3 c256_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c256_i32_0 : BitVec 32 := 256#32
  let v7 : BitVec 1 := Scalar.cmpi .slt v3 c256_i32_0
  let v8 : BitVec 32 := Scalar.extui v7
  let c0_i32_1 : BitVec 32 := 0#32
  let v9 : BitVec 1 := Scalar.cmpi .ne v8 c0_i32_1
  v9

def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v2 : BitVec 32 := Scalar.muli v1 c4_i32
  let arg2 : BitVec 32 := BitVec.ofNat 32 (i 2).val
  let v3 : BitVec 32 := Scalar.addi v2 arg2
  let c172_i32 : BitVec 32 := 172#32
  let v10 : BitVec 1 := Scalar.cmpi .slt v3 c172_i32
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c255_i32 : BitVec 32 := 255#32
  let v4 : BitVec 32 := Scalar.minsi v3 c255_i32
  let c0_i32 : BitVec 32 := 0#32
  let v5 : BitVec 32 := Scalar.addi c0_i32 v4
  let c0_i32_0 : BitVec 32 := 0#32
  let c0_i32_1 : BitVec 32 := 0#32
  ![v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c255_i32 : BitVec 32 := 255#32
  let v4 : BitVec 32 := Scalar.minsi v3 c255_i32
  let c0_i32 : BitVec 32 := 0#32
  let v5 : BitVec 32 := Scalar.addi c0_i32 v4
  let c0_i32_0 : BitVec 32 := 0#32
  let c0_i32_1 : BitVec 32 := 0#32
  ![v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c171_i32 : BitVec 32 := 171#32
  let v4 : BitVec 32 := Scalar.minsi v3 c171_i32
  let c0_i32 : BitVec 32 := 0#32
  let v5 : BitVec 32 := Scalar.addi c0_i32 v4
  let c0_i32_0 : BitVec 32 := 0#32
  let c0_i32_1 : BitVec 32 := 0#32
  ![v5.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c255_i32 : BitVec 32 := 255#32
  let v4 : BitVec 32 := Scalar.minsi v3 c255_i32
  let c0_i32 : BitVec 32 := 0#32
  let v5 : BitVec 32 := Scalar.addi c0_i32 v4
  let c0_i32_0 : BitVec 32 := 0#32
  let c0_i32_1 : BitVec 32 := 0#32
  ![v5.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c255_i32 : BitVec 32 := 255#32
  let v4 : BitVec 32 := Scalar.minsi v3 c255_i32
  let c0_i32 : BitVec 32 := 0#32
  let v5 : BitVec 32 := Scalar.addi c0_i32 v4
  let c0_i32_0 : BitVec 32 := 0#32
  let c0_i32_1 : BitVec 32 := 0#32
  ![v5.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let v3 : BitVec 32 := Scalar.addi v2 arg2
  let c171_i32 : BitVec 32 := 171#32
  let v4 : BitVec 32 := Scalar.minsi v3 c171_i32
  let c0_i32 : BitVec 32 := 0#32
  let v5 : BitVec 32 := Scalar.addi c0_i32 v4
  let c0_i32_0 : BitVec 32 := 0#32
  let c0_i32_1 : BitVec 32 := 0#32
  ![v5.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x11008 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x11008 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S16x11008 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AttnRefIdeal.lean ====
abbrev S16384x4096 : Shape := ⟨2, ![16384, 4096]⟩
abbrev S4x16x256x4096 : Shape := ⟨4, ![4, 16, 256, 4096]⟩
abbrev S16384x2048 : Shape := ⟨2, ![16384, 2048]⟩
abbrev S1x4096x11008 : Shape := ⟨3, ![1, 4096, 11008]⟩
abbrev S1x11008x4096 : Shape := ⟨3, ![1, 11008, 4096]⟩
abbrev S4x4096x16x256 : Shape := ⟨4, ![4, 4096, 16, 256]⟩
abbrev S4x4096x16x128 : Shape := ⟨4, ![4, 4096, 16, 128]⟩
abbrev S4x16x4096x4096 : Shape := ⟨4, ![4, 16, 4096, 4096]⟩
abbrev S_ : Shape := ⟨0, ![]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S4096x11008 : Shape := ⟨2, ![4096, 11008]⟩
abbrev S11008x4096 : Shape := ⟨2, ![11008, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x16x256x4096, .bf16⟩
  | .hbm, ⟨2, _⟩ => ⟨S16384x2048, .bf16⟩
  | .hbm, ⟨3, _⟩ => ⟨S1x4096x11008, .f32⟩
  | .hbm, ⟨4, _⟩ => ⟨S1x4096x11008, .f32⟩
  | .hbm, ⟨5, _⟩ => ⟨S1x11008x4096, .f32⟩
  | .hbm, ⟨6, _⟩ => ⟨S16384x4096, .f32⟩
  | .hbm, ⟨7, _⟩ => ⟨S4x4096x16x256, .f32⟩
  | .hbm, ⟨8, _⟩ => ⟨S16384x2048, .f32⟩
  | .hbm, ⟨9, _⟩ => ⟨S4x4096x16x128, .f32⟩
  | .hbm, ⟨10, _⟩ => ⟨S4x16x256x4096, .f32⟩
  | .hbm, ⟨11, _⟩ => ⟨S4x16x4096x4096, .f32⟩
  | .hbm, ⟨12, _⟩ => ⟨S_, .f32⟩
  | .hbm, ⟨13, _⟩ => ⟨S_, .f32⟩
  | .hbm, ⟨14, _⟩ => ⟨S4x16x4096x4096, .f32⟩
  | .hbm, ⟨15, _⟩ => ⟨S4x16x4096x4096, .f32⟩
  | .hbm, ⟨16, _⟩ => ⟨S_, .f32⟩
  | .hbm, ⟨17, _⟩ => ⟨S4x16x4096, .f32⟩
  | .hbm, ⟨18, _⟩ => ⟨S_, .f32⟩
  | .hbm, ⟨19, _⟩ => ⟨S4x16x4096, .f32⟩
  | .hbm, ⟨20, _⟩ => ⟨S4x16x4096, .f32⟩
  | .hbm, ⟨21, _⟩ => ⟨S4x16x4096x1, .f32⟩
  | .hbm, ⟨22, _⟩ => ⟨S4x16x4096x4096, .f32⟩
  | .hbm, ⟨23, _⟩ => ⟨S4x16x4096x4096, .f32⟩
  | .hbm, ⟨24, _⟩ => ⟨S4x16x4096x4096, .f32⟩
  | .hbm, ⟨25, _⟩ => ⟨S_, .f32⟩
  | .hbm, ⟨26, _⟩ => ⟨S4x16x4096, .f32⟩
  | .hbm, ⟨27, _⟩ => ⟨S4x16x4096x1, .f32⟩
  | .hbm, ⟨28, _⟩ => ⟨S4x16x4096x4096, .f32⟩
  | .hbm, ⟨29, _⟩ => ⟨S4x16x4096x4096, .f32⟩
  | .hbm, ⟨30, _⟩ => ⟨S4x16x128x4096, .f32⟩
  | .hbm, ⟨31, _⟩ => ⟨S4x4096x16x128, .f32⟩
  | .hbm, ⟨32, _⟩ => ⟨S16384x2048, .f32⟩
  | .hbm, ⟨33, _⟩ => ⟨S16384x2048, .bf16⟩
  | .hbm, ⟨34, _⟩ => ⟨S4096x11008, .f32⟩
  | .hbm, ⟨35, _⟩ => ⟨S4096x11008, .bf16⟩
  | .hbm, ⟨36, _⟩ => ⟨S4096x11008, .f32⟩
  | .hbm, ⟨37, _⟩ => ⟨S4096x11008, .bf16⟩
  | .hbm, ⟨38, _⟩ => ⟨S11008x4096, .f32⟩
  | .hbm, ⟨39, _⟩ => ⟨S11008x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Q.lean ====
abbrev S16384x4096 : Shape := ⟨2, ![16384, 4096]⟩
abbrev S4x4096 : Shape := ⟨2, ![4, 4096]⟩
abbrev S1x4096x15936 : Shape := ⟨3, ![1, 4096, 15936]⟩
abbrev S1x1024 : Shape := ⟨2, ![1, 1024]⟩
abbrev S1x1024x3072 : Shape := ⟨3, ![1, 1024, 3072]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S4096x15936 : Shape := ⟨2, ![4096, 15936]⟩
abbrev S15936x4096 : Shape := ⟨2, ![15936, 4096]⟩
abbrev S7680x4096 : Shape := ⟨2, ![7680, 4096]⟩
abbrev S1024x3072 : Shape := ⟨2, ![1024, 3072]⟩
abbrev S1024x16x192 : Shape := ⟨3, ![1024, 16, 192]⟩
abbrev S1024x16x128 : Shape := ⟨3, ![1024, 16, 128]⟩
abbrev S1024x16x64 : Shape := ⟨3, ![1024, 16, 64]⟩
abbrev S1024x2048 : Shape := ⟨2, ![1024, 2048]⟩
abbrev S1024x1024 : Shape := ⟨2, ![1024, 1024]⟩
abbrev S1024x16x32 : Shape := ⟨3, ![1024, 16, 32]⟩
abbrev S1024x4096 : Shape := ⟨2, ![1024, 4096]⟩
abbrev S16384x1 : Shape := ⟨2, ![16384, 1]⟩
abbrev S1024 : Shape := ⟨1, ![1024]⟩
abbrev S512x4096 : Shape := ⟨2, ![512, 4096]⟩
abbrev S512x1 : Shape := ⟨2, ![512, 1]⟩
abbrev S512x1024 : Shape := ⟨2, ![512, 1024]⟩
abbrev S512 : Shape := ⟨1, ![512]⟩
abbrev S512x128 : Shape := ⟨2, ![512, 128]⟩

abbrev nBuf : Space → Nat
  | .hbm => 53
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S4x4096, .i32⟩
  | .hbm, ⟨2, _⟩ => ⟨S1x4096x15936, .f32⟩
  | .hbm, ⟨3, _⟩ => ⟨S1x1024, .f32⟩
  | .hbm, ⟨4, _⟩ => ⟨S1x1024x3072, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S4096x15936, .f32⟩
  | .hbm, ⟨34, _⟩ => ⟨S15936x4096, .f32⟩
  | .hbm, ⟨35, _⟩ => ⟨S7680x4096, .f32⟩
  | .hbm, ⟨36, _⟩ => ⟨S7680x4096, .bf16⟩
  | .hbm, ⟨37, _⟩ => ⟨S1024x3072, .f32⟩
  | .hbm, ⟨38, _⟩ => ⟨S1024x16x192, .f32⟩
  | .hbm, ⟨39, _⟩ => ⟨S1024x16x128, .f32⟩
  | .hbm, ⟨40, _⟩ => ⟨S1024x16x64, .f32⟩
  | .hbm, ⟨41, _⟩ => ⟨S1024x2048, .f32⟩
  | .hbm, ⟨42, _⟩ => ⟨S1024x1024, .f32⟩
  | .hbm, ⟨43, _⟩ => ⟨S1024x16x32, .f32⟩
  | .hbm, ⟨44, _⟩ => ⟨S1024x16x32, .f32⟩
  | .hbm, ⟨45, _⟩ => ⟨S1024x16x64, .f32⟩
  | .hbm, ⟨46, _⟩ => ⟨S1024x1024, .f32⟩
  | .hbm, ⟨47, _⟩ => ⟨S1024x4096, .f32⟩
  | .hbm, ⟨48, _⟩ => ⟨S1024x4096, .bf16⟩
  | .hbm, ⟨49, _⟩ => ⟨S16384x1, .i32⟩
  | .hbm, ⟨50, _⟩ => ⟨S1024, .f32⟩
  | .hbm, ⟨51, _⟩ => ⟨S1x1024, .f32⟩
  | .hbm, ⟨52, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S1x128, .f32⟩
  | .local _ .vmem, ⟨6, _⟩ => ⟨S1024x4096, .bf16⟩
  | .local _ .vmem, ⟨7, _⟩ => ⟨S1x1024, .f32⟩
  | .local _ .vmem, ⟨8, _⟩ => ⟨S1024x4096, .bf16⟩
  | .local _ .vmem, ⟨9, _⟩ => ⟨S512x4096, .bf16⟩
  | .local _ .vmem, ⟨10, _⟩ => ⟨S512x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QRefIdeal.lean ====
abbrev S16384x4096 : Shape := ⟨2, ![16384, 4096]⟩
abbrev S4x4096 : Shape := ⟨2, ![4, 4096]⟩
abbrev S1x4096x15936 : Shape := ⟨3, ![1, 4096, 15936]⟩
abbrev S1x1024 : Shape := ⟨2, ![1, 1024]⟩
abbrev S1x1024x3072 : Shape := ⟨3, ![1, 1024, 3072]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4096x15936 : Shape := ⟨2, ![4096, 15936]⟩
abbrev S16384x15936 : Shape := ⟨2, ![16384, 15936]⟩
abbrev S16384x1024 : Shape := ⟨2, ![16384, 1024]⟩
abbrev S1024 : Shape := ⟨1, ![1024]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩
abbrev S4x4096x16x192 : Shape := ⟨4, ![4, 4096, 16, 192]⟩
abbrev S4x4096x16x128 : Shape := ⟨4, ![4, 4096, 16, 128]⟩
abbrev S4x4096x16x64 : Shape := ⟨4, ![4, 4096, 16, 64]⟩
abbrev S4x4096x1x32 : Shape := ⟨4, ![4, 4096, 1, 32]⟩
abbrev S4x4096x16x32 : Shape := ⟨4, ![4, 4096, 16, 32]⟩
abbrev S4x4096x16x256 : Shape := ⟨4, ![4, 4096, 16, 256]⟩

abbrev nBuf : Space → Nat
  | .hbm => 77
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096, .i32⟩
  | .hbm, ⟨2, _⟩ => ⟨S1x4096x15936, .f32⟩
  | .hbm, ⟨3, _⟩ => ⟨S1x1024, .f32⟩
  | .hbm, ⟨4, _⟩ => ⟨S1x1024x3072, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4x4096, .f32⟩
  | .hbm, ⟨20, _⟩ => ⟨S4x4096x1, .f32⟩
  | .hbm, ⟨21, _⟩ => ⟨S1x1x32, .f32⟩
  | .hbm, ⟨22, _⟩ => ⟨S4x4096x32, .f32⟩
  | .hbm, ⟨23, _⟩ => ⟨S4x4096x32, .f32⟩
  | .hbm, ⟨24, _⟩ => ⟨S4x4096x32, .f32⟩
  | .hbm, ⟨25, _⟩ => ⟨S4x4096x32, .f32⟩
  | .hbm, ⟨26, _⟩ => ⟨S4x4096x32, .f32⟩
  | .hbm, ⟨27, _⟩ => ⟨S16384x4096, .f32⟩
  | .hbm, ⟨28, _⟩ => ⟨S4096x15936, .f32⟩
  | .hbm, ⟨29, _⟩ => ⟨S16384x15936, .f32⟩
  | .hbm, ⟨30, _⟩ => ⟨S16384x1024, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S1024x3072, .f32⟩
  | .hbm, ⟨49, _⟩ => ⟨S16384x3072, .f32⟩
  | .hbm, ⟨50, _⟩ => ⟨S4x4096x16x192, .f32⟩
  | .hbm, ⟨51, _⟩ => ⟨S4x4096x16x128, .f32⟩
  | .hbm, ⟨52, _⟩ => ⟨S4x4096x16x64, .f32⟩
  | .hbm, ⟨53, _⟩ => ⟨S4x4096x1x32, .f32⟩
  | .hbm, ⟨54, _⟩ => ⟨S4x4096x1x32, .f32⟩
  | .hbm, ⟨55, _⟩ => ⟨S4x4096x16x32, .f32⟩
  | .hbm, ⟨56, _⟩ => ⟨S4x4096x16x32, .f32⟩
  | .hbm, ⟨57, _⟩ => ⟨S4x4096x16x32, .f32⟩
  | .hbm, ⟨58, _⟩ => ⟨S4x4096x16x32, .f32⟩
  | .hbm, ⟨59, _⟩ => ⟨S4x4096x16x32, .f32⟩
  | .hbm, ⟨60, _⟩ => ⟨S4x4096x16x32, .f32⟩
  | .hbm, ⟨61, _⟩ => ⟨S4x4096x16x32, .f32⟩
  | .hbm, ⟨62, _⟩ => ⟨S4x4096x16x32, .f32⟩
  | .hbm, ⟨63, _⟩ => ⟨S4x4096x16x32, .f32⟩
  | .hbm, ⟨64, _⟩ => ⟨S4x4096x16x32, .f32⟩
  | .hbm, ⟨65, _⟩ => ⟨S4x4096x16x32, .f32⟩
  | .hbm, ⟨66, _⟩ => ⟨S4x4096x16x32, .f32⟩
  | .hbm, ⟨67, _⟩ => ⟨S4x4096x16x64, .f32⟩
  | .hbm, ⟨68, _⟩ => ⟨S4x4096x16x192, .f32⟩
  | .hbm, ⟨69, _⟩ => ⟨S_, .f32⟩
  | .hbm, ⟨70, _⟩ => ⟨S4x4096x16x192, .f32⟩
  | .hbm, ⟨71, _⟩ => ⟨S4x4096x16x192, .f32⟩
  | .hbm, ⟨72, _⟩ => ⟨S_, .i32⟩
  | .hbm, ⟨73, _⟩ => ⟨S_, .f32⟩
  | .hbm, ⟨74, _⟩ => ⟨S4x4096x16x256, .f32⟩
  | .hbm, ⟨75, _⟩ => ⟨S16384x4096, .f32⟩
  | .hbm, ⟨76, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_c : Ref sig .tc := ⟨.hbm, 72, rfl⟩
abbrev main_call0_v0 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Kv.lean ====
abbrev S4x4096x4096 : Shape := ⟨3, ![4, 4096, 4096]⟩
abbrev S4x4096 : Shape := ⟨2, ![4, 4096]⟩
abbrev S1x4096 : Shape := ⟨2, ![1, 4096]⟩
abbrev S1x4096x15936 : Shape := ⟨3, ![1, 4096, 15936]⟩
abbrev S1x512 : Shape := ⟨2, ![1, 512]⟩
abbrev S1x512x4096 : Shape := ⟨3, ![1, 512, 4096]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S4096x15936 : Shape := ⟨2, ![4096, 15936]⟩
abbrev S15936x4096 : Shape := ⟨2, ![15936, 4096]⟩
abbrev S7680x4096 : Shape := ⟨2, ![7680, 4096]⟩
abbrev S4096x64 : Shape := ⟨2, ![4096, 64]⟩
abbrev S64x4096 : Shape := ⟨2, ![64, 4096]⟩
abbrev S32x4096 : Shape := ⟨2, ![32, 4096]⟩
abbrev S512x4096 : Shape := ⟨2, ![512, 4096]⟩
abbrev S256x4096 : Shape := ⟨2, ![256, 4096]⟩
abbrev S768x4096 : Shape := ⟨2, ![768, 4096]⟩
abbrev S512x16x256 : Shape := ⟨3, ![512, 16, 256]⟩
abbrev S512x16x128 : Shape := ⟨3, ![512, 16, 128]⟩
abbrev S512x2048 : Shape := ⟨2, ![512, 2048]⟩
abbrev S2048x512 : Shape := ⟨2, ![2048, 512]⟩
abbrev S16384x4096 : Shape := ⟨2, ![16384, 4096]⟩
abbrev S4096 : Shape := ⟨1, ![4096]⟩
abbrev S16384x1 : Shape := ⟨2, ![16384, 1]⟩
abbrev S512 : Shape := ⟨1, ![512]⟩
abbrev S4x16x256x4096 : Shape := ⟨4, ![4, 16, 256, 4096]⟩
abbrev S16384x2048 : Shape := ⟨2, ![16384, 2048]⟩
abbrev S512x1 : Shape := ⟨2, ![512, 1]⟩
abbrev S1x16x256x512 : Shape := ⟨4, ![1, 16, 256, 512]⟩
abbrev S512x768 : Shape := ⟨2, ![512, 768]⟩
abbrev S512x512 : Shape := ⟨2, ![512, 512]⟩
abbrev S512x128 : Shape := ⟨2, ![512, 128]⟩
abbrev S128x512 : Shape := ⟨2, ![128, 512]⟩
abbrev S1x1x128x512 : Shape := ⟨4, ![1, 1, 128, 512]⟩

abbrev nBuf : Space → Nat
  | .hbm => 68
  | .vmem => 17
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S1x4096, .f32⟩
  | .hbm, ⟨3, _⟩ => ⟨S1x4096x15936, .f32⟩
  | .hbm, ⟨4, _⟩ => ⟨S1x512, .f32⟩
  | .hbm, ⟨5, _⟩ => ⟨S1x512x4096, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S64, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S4096x15936, .f32⟩
  | .hbm, ⟨35, _⟩ => ⟨S15936x4096, .f32⟩
  | .hbm, ⟨36, _⟩ => ⟨S7680x4096, .f32⟩
  | .hbm, ⟨37, _⟩ => ⟨S7680x4096, .bf16⟩
  | .hbm, ⟨38, _⟩ => ⟨S4096x15936, .f32⟩
  | .hbm, ⟨39, _⟩ => ⟨S4096x64, .f32⟩
  | .hbm, ⟨40, _⟩ => ⟨S64x4096, .f32⟩
  | .hbm, ⟨41, _⟩ => ⟨S32x4096, .f32⟩
  | .hbm, ⟨42, _⟩ => ⟨S32x4096, .f32⟩
  | .hbm, ⟨43, _⟩ => ⟨S64x4096, .f32⟩
  | .hbm, ⟨44, _⟩ => ⟨S_, .f32⟩
  | .hbm, ⟨45, _⟩ => ⟨S64x4096, .f32⟩
  | .hbm, ⟨46, _⟩ => ⟨S512x4096, .bf16⟩
  | .hbm, ⟨47, _⟩ => ⟨S256x4096, .f32⟩
  | .hbm, ⟨48, _⟩ => ⟨S256x4096, .bf16⟩
  | .hbm, ⟨49, _⟩ => ⟨S768x4096, .bf16⟩
  | .hbm, ⟨50, _⟩ => ⟨S512x4096, .f32⟩
  | .hbm, ⟨51, _⟩ => ⟨S512x16x256, .f32⟩
  | .hbm, ⟨52, _⟩ => ⟨S512x16x128, .f32⟩
  | .hbm, ⟨53, _⟩ => ⟨S512x2048, .f32⟩
  | .hbm, ⟨54, _⟩ => ⟨S2048x512, .f32⟩
  | .hbm, ⟨55, _⟩ => ⟨S2048x512, .bf16⟩
  | .hbm, ⟨56, _⟩ => ⟨S512x16x128, .f32⟩
  | .hbm, ⟨57, _⟩ => ⟨S512x2048, .f32⟩
  | .hbm, ⟨58, _⟩ => ⟨S512x2048, .bf16⟩
  | .hbm, ⟨59, _⟩ => ⟨S16384x4096, .f32⟩
  | .hbm, ⟨60, _⟩ => ⟨S4096, .f32⟩
  | .hbm, ⟨61, _⟩ => ⟨S1x4096, .f32⟩
  | .hbm, ⟨62, _⟩ => ⟨S16384x1, .i32⟩
  | .hbm, ⟨63, _⟩ => ⟨S512, .f32⟩
  | .hbm, ⟨64, _⟩ => ⟨S1x512, .f32⟩
  | .hbm, ⟨65, _⟩ => ⟨S16384x4096, .bf16⟩
  | .hbm, ⟨66, _⟩ => ⟨S4x16x256x4096, .bf16⟩
  | .hbm, ⟨67, _⟩ => ⟨S16384x2048, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x1, .i32⟩
  | .local _ .vmem, ⟨4, _⟩ => ⟨S512x1, .i32⟩
  | .local _ .vmem, ⟨5, _⟩ => ⟨S1x128, .f32⟩
  | .local _ .vmem, ⟨6, _⟩ => ⟨S1x128, .f32⟩
  | .local _ .vmem, ⟨7, _⟩ => ⟨S768x4096, .bf16⟩
  | .local _ .vmem, ⟨8, _⟩ => ⟨S1x512, .f32⟩
  | .local _ .vmem, ⟨9, _⟩ => ⟨S2048x512, .bf16⟩
  | .local _ .vmem, ⟨10, _⟩ => ⟨S512x2048, .bf16⟩
  | .local _ .vmem, ⟨11, _⟩ => ⟨S512x4096, .bf16⟩
  | .local _ .vmem, ⟨12, _⟩ => ⟨S512x4096, .bf16⟩
  | .local _ .vmem, ⟨13, _⟩ => ⟨S1x16x256x512, .bf16⟩
  | .local _ .vmem, ⟨14, _⟩ => ⟨S1x16x256x512, .bf16⟩
  | .local _ .vmem, ⟨15, _⟩ => ⟨S512x2048, .bf16⟩
  | .local _ .vmem, ⟨16, _⟩ => ⟨S512x2048, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KvRefIdeal.lean ====
abbrev S4x4096x4096 : Shape := ⟨3, ![4, 4096, 4096]⟩
abbrev S4x4096 : Shape := ⟨2, ![4, 4096]⟩
abbrev S1x4096 : Shape := ⟨2, ![1, 4096]⟩
abbrev S1x4096x15936 : Shape := ⟨3, ![1, 4096, 15936]⟩
abbrev S1x512 : Shape := ⟨2, ![1, 512]⟩
abbrev S1x512x4096 : Shape := ⟨3, ![1, 512, 4096]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4096 : Shape := ⟨1, ![4096]⟩
abbrev S1x1x4096 : Shape := ⟨3, ![1, 1, 4096]⟩
abbrev S4096x15936 : Shape := ⟨2, ![4096, 15936]⟩
abbrev S4x4096x15936 : Shape := ⟨3, ![4, 4096, 15936]⟩
abbrev S4x4096x512 : Shape := ⟨3, ![4, 4096, 512]⟩
abbrev S4x4096x64 : Shape := ⟨3, ![4, 4096, 64]⟩
abbrev S512 : Shape := ⟨1, ![512]⟩
abbrev S1x1x512 : Shape := ⟨3, ![1, 1, 512]⟩
abbrev S512x4096 : Shape := ⟨2, ![512, 4096]⟩
abbrev S4x4096x16x256 : Shape := ⟨4, ![4, 4096, 16, 256]⟩
abbrev S4x4096x16x128 : Shape := ⟨4, ![4, 4096, 16, 128]⟩
abbrev S4x4096x1x64 : Shape := ⟨4, ![4, 4096, 1, 64]⟩
abbrev S4x4096x16x64 : Shape := ⟨4, ![4, 4096, 16, 64]⟩
abbrev S4x4096x16x192 : Shape := ⟨4, ![4, 4096, 16, 192]⟩
abbrev S16384x4096 : Shape := ⟨2, ![16384, 4096]⟩
abbrev S4x16x256x4096 : Shape := ⟨4, ![4, 16, 256, 4096]⟩
abbrev S16384x2048 : Shape := ⟨2, ![16384, 2048]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S1x4096, .f32⟩
  | .hbm, ⟨3, _⟩ => ⟨S1x4096x15936, .f32⟩
  | .hbm, ⟨4, _⟩ => ⟨S1x512, .f32⟩
  | .hbm, ⟨5, _⟩ => ⟨S1x512x4096, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4x4096, .f32⟩
  | .hbm, ⟨21, _⟩ => ⟨S4x4096x1, .f32⟩
  | .hbm, ⟨22, _⟩ => ⟨S1x1x32, .f32⟩
  | .hbm, ⟨23, _⟩ => ⟨S4x4096x32, .f32⟩
  | .hbm, ⟨24, _⟩ => ⟨S4x4096x32, .f32⟩
  | .hbm, ⟨25, _⟩ => ⟨S4x4096x32, .f32⟩
  | .hbm, ⟨26, _⟩ => ⟨S4x4096x32, .f32⟩
  | .hbm, ⟨27, _⟩ => ⟨S4x4096x32, .f32⟩
  | .hbm, ⟨28, _⟩ => ⟨S4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S1x1x4096, .f32⟩
  | .hbm, ⟨43, _⟩ => ⟨S4x4096x4096, .f32⟩
  | .hbm, ⟨44, _⟩ => ⟨S4x4096x4096, .f32⟩
  | .hbm, ⟨45, _⟩ => ⟨S4096x15936, .f32⟩
  | .hbm, ⟨46, _⟩ => ⟨S4x4096x15936, .f32⟩
  | .hbm, ⟨47, _⟩ => ⟨S4x4096x512, .f32⟩
  | .hbm, ⟨48, _⟩ => ⟨S4x4096x64, .f32⟩
  | .hbm, ⟨49, _⟩ => ⟨S512, .f32⟩
  | .hbm, ⟨50, _⟩ => ⟨S4x4096x512, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x512, .f32⟩
  | .hbm, ⟨62, _⟩ => ⟨S4x4096x512, .f32⟩
  | .hbm, ⟨63, _⟩ => ⟨S1x1x512, .f32⟩
  | .hbm, ⟨64, _⟩ => ⟨S4x4096x512, .f32⟩
  | .hbm, ⟨65, _⟩ => ⟨S4x4096x512, .f32⟩
  | .hbm, ⟨66, _⟩ => ⟨S512x4096, .f32⟩
  | .hbm, ⟨67, _⟩ => ⟨S4x4096x4096, .f32⟩
  | .hbm, ⟨68, _⟩ => ⟨S4x4096x16x256, .f32⟩
  | .hbm, ⟨69, _⟩ => ⟨S4x4096x16x128, .f32⟩
  | .hbm, ⟨70, _⟩ => ⟨S4x4096x16x128, .f32⟩
  | .hbm, ⟨71, _⟩ => ⟨S4x4096x32, .f32⟩
  | .hbm, ⟨72, _⟩ => ⟨S4x4096x32, .f32⟩
  | .hbm, ⟨73, _⟩ => ⟨S4x4096x32, .f32⟩
  | .hbm, ⟨74, _⟩ => ⟨S4x4096x32, .f32⟩
  | .hbm, ⟨75, _⟩ => ⟨S4x4096x32, .f32⟩
  | .hbm, ⟨76, _⟩ => ⟨S4x4096x32, .f32⟩
  | .hbm, ⟨77, _⟩ => ⟨S4x4096x32, .f32⟩
  | .hbm, ⟨78, _⟩ => ⟨S4x4096x32, .f32⟩
  | .hbm, ⟨79, _⟩ => ⟨S4x4096x64, .f32⟩
  | .hbm, ⟨80, _⟩ => ⟨S4x4096x1x64, .f32⟩
  | .hbm, ⟨81, _⟩ => ⟨S4x4096x16x64, .f32⟩
  | .hbm, ⟨82, _⟩ => ⟨S4x4096x16x192, .f32⟩
  | .hbm, ⟨83, _⟩ => ⟨S_, .i32⟩
  | .hbm, ⟨84, _⟩ => ⟨S_, .f32⟩
  | .hbm, ⟨85, _⟩ => ⟨S4x4096x16x256, .f32⟩
  | .hbm, ⟨86, _⟩ => ⟨S16384x4096, .f32⟩
  | .hbm, ⟨87, _⟩ => ⟨S16384x4096, .bf16⟩
  | .hbm, ⟨88, _⟩ => ⟨S4x16x256x4096, .f32⟩
  | .hbm, ⟨89, _⟩ => ⟨S4x16x256x4096, .bf16⟩
  | .hbm, ⟨90, _⟩ => ⟨S16384x2048, .f32⟩
  | .hbm, ⟨91, _⟩ => ⟨S16384x2048, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c : Ref sig .tc := ⟨.hbm, 83, rfl⟩
abbrev main_call0_v0 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Head.lean ====
abbrev S1x4096x15936 : Shape := ⟨3, ![1, 4096, 15936]⟩
abbrev S4096x15936 : Shape := ⟨2, ![4096, 15936]⟩
abbrev S15936x4096 : Shape := ⟨2, ![15936, 4096]⟩
abbrev S7680x4096 : Shape := ⟨2, ![7680, 4096]⟩
abbrev S512x4096 : Shape := ⟨2, ![512, 4096]⟩

abbrev nBuf : Space → Nat
  | .hbm => 4
  | .vmem => 4
  | .smem => 0
  | _ => 0

abbrev bufTy : (tb : Table) → Fin (tcTables nBuf tb) → BufTy
  | .hbm, ⟨0, _⟩ => ⟨S1x4096x15936, .f32⟩
  | .hbm, ⟨1, _⟩ => ⟨S4096x15936, .f32⟩
  | .hbm, ⟨2, _⟩ => ⟨S15936x4096, .f32⟩
  | .hbm, ⟨3, _⟩ => ⟨S7680x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | _, _ => ⟨S1x4096x15936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== HeadRefIdeal.lean ====
abbrev S1x4096x15936 : Shape := ⟨3, ![1, 4096, 15936]⟩
abbrev S4096x15936 : Shape := ⟨2, ![4096, 15936]⟩
abbrev S4096x7680 : Shape := ⟨2, ![4096, 7680]⟩
abbrev S7680x4096 : Shape := ⟨2, ![7680, 4096]⟩

abbrev nBuf : Space → Nat
  | .hbm => 5
  | .vmem => 0
  | .smem => 0
  | _ => 0

abbrev bufTy : (tb : Table) → Fin (tcTables nBuf tb) → BufTy
  | .hbm, ⟨0, _⟩ => ⟨S1x4096x15936, .f32⟩
  | .hbm, ⟨1, _⟩ => ⟨S4096x15936, .f32⟩
  | .hbm, ⟨2, _⟩ => ⟨S4096x7680, .f32⟩
  | .hbm, ⟨3, _⟩ => ⟨S7680x4096, .f32⟩
  | .hbm, ⟨4, _⟩ => ⟨S7680x4096, .bf16⟩
  | _, _ => ⟨S1x4096x15936, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Proof.Gate.Value.lean ====
module

public import proofs.«01_k».proof.Proof.Gen.GateIdeal.Value
public import proofs.«01_k».proof.Proof.Gen.GateRefIdeal.Run
public import Idealize.ShloMosaic.Lib.Pipeline.ValueKit
public import Idealize.ShloMosaic.Lib.Claim
public import Idealize.ShloMosaic.Lib.Pointwise

/-! # The gate projection: what its three result arrays hold after the call -/

@[expose] public section

set_option maxRecDepth 16384

noncomputable section

open Idealize.ShloMosaic Idealize.ShloMosaic.TcCoe Idealize.SL.Sem
open Idealize.ShloMosaic.Pipeline (Dat)

namespace Cert.GateRefIdeal.Hand
open Cert.GateRefIdeal Cert.GateRefIdeal.Gen

/-- The gates: the logistic function of the gate columns of the input projection, plus the bias. -/
abbrev gates (h : FVec Ideal S16384x4096 .bf16) (w : FVec Ideal S1x4096x15936 .f32) (b : FVec Ideal S1x8192 .f32) :
    FVec Ideal S16384x8192 .bf16 :=
  truncf .bf16 (Host.divf (broadcastInDim S16384x8192 ![] bcast_S_S16384x8192 (constant S_ .f32 0x3F800000#32)) (addf (broadcastInDim S16384x8192 ![] bcast_S_S16384x8192 (constant S_ .f32 0x3F800000#32)) (Host.exp (Host.negf (addf (extractStridedSlice S16384x8192 ![0, 7744] (Host.dotGeneral dot_S16384x4096_S4096x15936_S16384x15936_1_0_0_1_n_n none (extf .f32 h bitsLt_bf16_f32) (shapeCast _ w shapeCasts_S1x4096x15936_S4096x15936)) slices_S16384x15936_S16384x8192_0_7744) (broadcastInDim S16384x8192 ![0, 1] bcast_S1x8192_S16384x8192_0_1 (broadcastInDim S1x8192 ![1] bcast_S8192_S1x8192_1 (shapeCast _ b shapeCasts_S1x8192_S8192)))))))) bitsLt_bf16_f32

/-- The two branches' projections, one above the other, cast. -/
abbrev branches (W : FVec Ideal S1x2x2048x4096 .f32) : FVec Ideal S4096x4096 .bf16 :=
  truncf .bf16 (shapeCast _ (shapeCast _ W shapeCasts_S1x2x2048x4096_S2x2048x4096) shapeCasts_S2x2048x4096_S4096x4096) bitsLt_bf16_f32

/-- The output projection's weights, cast. -/
abbrev output (W : FVec Ideal S1x4096x4096 .f32) : FVec Ideal S4096x4096 .bf16 :=
  truncf .bf16 (shapeCast _ W shapeCasts_S1x4096x4096_S4096x4096) bitsLt_bf16_f32

end Cert.GateRefIdeal.Hand

namespace Cert.GateIdeal.Hand
open Cert.GateIdeal Cert.GateIdeal.Gen
open Cert.GateRefIdeal.Hand (gates branches output)

variable (m : (ℓ : Loc nD τ sig) → Buf (Elt Ideal) ℓ)

/-- Which block of each array a grid point works on (for window 1, which is indexed by elements, where its block begins). -/
theorem idx : ∀ t : Fin cfg0.N,
    win0_0.index t = ![t.val / 8, 0] ∧ win0_1.index t = ![64 + 1024 * (t.val % 8), 0] ∧ win0_2.index t = ![0, t.val % 8]
      ∧ win0_3.index t = ![t.val, 0] ∧ win0_4.index t = ![t.val, 0]
      ∧ win0_5.index t = ![t.val / 8, t.val % 8] ∧ win0_6.index t = ![t.val, 0] ∧ win0_7.index t = ![t.val, 0] :=
  (by decide +kernel : ∀ t : Fin grid0.N, _)

theorem final7 (c : Dev nD) : (dats m 0 c).arrAt 7 (cfgs 0).N = output (m ((c : Thread nD τ).loc main_arg4)) := by
  refine (dats m 0 c).arrAt_eq_of_covers 7 _ (by decide +kernel) fun t _ y => ?_
  blk_simp
  rw [after0_7]; unfold outsAt0; frame_out
  pointwise [k0_pay2, output]
  blk_ext! [iblk, V, idx t]

/-- Window 3's block: rows of the two branches' projections, one above the other. -/
theorem blk3 (c : Dev nD) (t : Fin cfg0.N) (y : S32x4096.Idx) (a : Fin 2) (b : Fin 2048) (d : Fin 4096)
    (ha : (a : ℕ) = (t.val * 32 + y 0) / 2048) (hb : (b : ℕ) = (t.val * 32 + y 0) % 2048) (hd : (d : ℕ) = y 1) :
    iblk m c 3 t y = m ((c : Thread nD τ).loc main_arg3) (ix4 0 a b d) := by
  blk_simp [iblk, V, idx t]
  entry_read
  pointwise
  refine congrArg (m (c, Proc.tc.devRef main_arg3)) ?_
  congr 1 <;> refine Fin.ext ?_ <;> blk_simp [idx t]
  · exact ha.symm
  · exact hb.symm
  · exact hd.symm

theorem final6 (c : Dev nD) : (dats m 0 c).arrAt 6 (cfgs 0).N = branches (m ((c : Thread nD τ).loc main_arg3)) := by
  refine (dats m 0 c).arrAt_eq_of_covers 6 _ (by decide +kernel) fun t _ y => ?_
  blk_simp
  rw [after0_6]; unfold outsAt0; frame_out
  pointwise [k0_pay1, branches]
  refine blk3 m c t y _ _ _ ?_ ?_ ?_ <;> blk_simp [idx t]

/-- Where an entry of window 1's block lies in its array: the block begins at the element the index map gives. -/
theorem emb1 (t : Fin cfg0.N) (y : (win0_1.xblock (cfg0.grid.coords t)).Idx) (a : Fin 2) :
    (((((View.whole main_v3).slice (win0_1.rect t)).emb y a : Fin _) : ℕ)) = win0_1.index t a + y a :=
  ValueKit.view_emb_slice_whole_unit_val ..

/-- Window 1's block: a thousand gate columns of the input projection, as rows. -/
theorem blk1 (c : Dev nD) (t : Fin cfg0.N) (i : Fin 1024) (k : Fin 4096) (n : Fin 15936)
    (hn : (n : ℕ) = 7744 + 1024 * (t.val % 8) + i) :
    iblk m c 1 t (ix2 i k) = m ((c : Thread nD τ).loc main_arg1) (ix3 0 k n) := by
  blk_simp [iblk, V]
  entry_read
  pointwise
  have h0 : _ = _ + (i : ℕ) := emb1 t (ix2 i k) 0
  have h1 : _ = _ + (k : ℕ) := emb1 t (ix2 i k) 1
  rw [(idx t).2.1] at h0 h1
  refine congrArg (m (c, Proc.tc.devRef main_arg1)) ?_
  congr 1
  · exact Fin.ext (h1.trans (Nat.zero_add _))
  · refine Fin.ext ?_
    refine (congrArg (7680 + ·) h0).trans ?_
    show 7680 + (64 + 1024 * (t.val % 8) + (i : ℕ)) = _
    omega

/-- The gates' block at a point. -/
theorem final5 (c : Dev nD) : (dats m 0 c).arrAt 5 (cfgs 0).N = gates (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; unfold outsAt0; frame_out
  pointwise [k0_pay3, gates]
  rw [zero_sub]
  refine congrArg (fun z => Ideal.div 1 (1 + Ideal.exp (-z))) (congrArg₂ (· + ·) (Finset.sum_congr rfl fun k _ => congrArg₂ (· * ·) ?_ (blk1 m c t _ _ _ ?_)) ?_)
  · blk_ext! [iblk, V, idx t]
  · blk_simp [idx t]
    show 7744 + (t.val % 8 * 1024 + _) = _
    omega
  · blk_simp [iblk, V, idx t]
    entry_read
    pointwise
    blk_ext [idx t]

end Cert.GateIdeal.Hand

end
-- ==== Proof.Ffn.Ops.lean ====
module

public import proofs.«01_k».proof.Proof.Gen.FfnIdeal.Frame
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-!
The body of the feed-forward call, run once per kind of grid point. A point of the 16 by 43 grid is the first
overall (it starts the copy of the first token tile itself), the first of a later tile (it waits for the copy the
point before started), one in the middle of a tile, the last of a tile that another follows (it starts the next
copy), or the very last.
-/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

/-- The normalised tile, the token tile, and the tokens left in HBM. -/
abbrev scH : Memref sig .tc .vmem S1024x4096 .bf16 := Memref.whole cc0_scratch0
abbrev scX : Memref sig .tc .vmem S1024x4096 .f32 := Memref.whole cc0_scratch1
abbrev hbX : Memref sig .tc .hbm S16384x4096 .f32 := Memref.whole main_arg0

/-- The 1024 rows of the tokens that start at `off`. -/
abbrev tile (off : Fin 2 → ℕ) (h : ∀ a, off a + S1024x4096.size a ≤ S16384x4096.size a) : Memref sig .tc .hbm S1024x4096 .f32 :=
  hbX.slice (Rect.unit (s := S16384x4096) off S1024x4096.size h) (fun _ => rfl)

/-- The tokens' buffer. -/
abbrev XBuf (c : Dev nD) : Type := Buf (Elt F) (hbX.view.loc (c : Thread nD τ))

/-- The tile's rows as the copy carries them. -/
abbrev rows (c : Dev nD) (fx : XBuf (F := F) c) (off : Fin 2 → ℕ) (h : ∀ a, off a + S1024x4096.size a ≤ S16384x4096.size a) :
    Vec F S1024x4096 .f32 :=
  ReadAs.same.apply ((tile off h).view.read (Elt F) fx)

/-- A buffer whole at contents `f`, and at the elements of the tile at `off` or at all the others. -/
abbrev whole (c : Dev nD) {sp : Space} {S : Shape} {e : EltTy} (M : Memref sig .tc sp S e) (f : Buf (Elt F) (M.view.loc (c : Thread nD τ))) : sProp 𝕄 :=
  M.view.loc (c : Thread nD τ) ↦{fullShare} f
abbrev tileHeld (c : Dev nD) (fx : XBuf (F := F) c) (off : Fin 2 → ℕ) (h : ∀ a, off a + S1024x4096.size a ≤ S16384x4096.size a) : sProp 𝕄 :=
  (tile off h).view.loc (c : Thread nD τ) ↦[(tile off h).view.set]{fullShare} fx
abbrev othersHeld (c : Dev nD) (fx : XBuf (F := F) c) (off : Fin 2 → ℕ) (h : ∀ a, off a + S1024x4096.size a ≤ S16384x4096.size a) : sProp 𝕄 :=
  hbX.view.loc (c : Thread nD τ) ↦[Finset.univ \ (tile off h).view.set]{fullShare} fx

/-- The scratch of the normalised tile with the pieces `L` written. -/
abbrev wroteH (c : Dev nD) (L : List (View.Piece (Elt F) S1024x4096 .bf16)) : sProp 𝕄 :=
  iprop(∃ f, scH.view.loc (c : Thread nD τ) ↦[scH.view.set]{fullShare} scH.view.writes (Elt F) f L)

/-- The copy of the tile at `off` in flight, issued over the scratch at `fd`: its wait returns the scratch written and
    the tile's rows of the tokens. -/
abbrev inflight (c : Dev nD) (fx : XBuf (F := F) c) (off : Fin 2 → ℕ) (h : ∀ a, off a + S1024x4096.size a ≤ S16384x4096.size a)
    (fd : Buf (Elt F) (scX.view.loc (c : Thread nD τ))) : sProp 𝕄 :=
  Transfers.Flight (countersEmb (U := Pipeline.UD sig nD τ)) (c : Thread nD τ) (.dma 9) () (scX.view.amount (SemLoc.dma (sig := sig) 9))
    iprop((scX.view.loc (c : Thread nD τ) ↦[scX.view.set]{fullShare} scX.view.writes (Elt F) fd [⟨Rect.whole S1024x4096, rows c fx off h⟩])
      ∗ ((tile off h).view.loc (c : Thread nD τ) ↦[(tile off h).view.set]{fullShare} fx))

end Cert.FfnIdeal.Hand

end
-- ==== Proof.Ffn.RunZ.lean ====
module

public import proofs.«01_k».proof.Proof.Ffn.Ops
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of grid point. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

set_option maxHeartbeats 4000000 in
/-- The first point overall: it starts the copy of its tile, waits for it, normalises the tile and accumulates. -/
noncomputable def runZ (c : Dev nD) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S1024x4096 .f32) (harg8 : arg8.IsWhole) (hc1 : k0_cond1 i = 1#1) (hc2 : k0_cond2 i = 1#1) (hc3 : ¬k0_cond3 i = 1#1) (hc4 : ¬k0_cond4 i = 1#1) (hc5 : ¬k0_cond5 i = 1#1)
    (xg : Vec F S1x4096 .f32) (xw : Vec F S4096x256 .bf16) (xu : Vec F S4096x256 .bf16) (xd : Vec F S256x4096 .bf16) (xf : Vec F S1x4096 .f32) (fx : XBuf (F := F) c) :
    Σ' (L8 : List (View.Piece (Elt F) S1024x4096 .f32)), { LH : List (View.Piece (Elt F) S1024x4096 .bf16) //
      ∀ (W : Waits sig Unit) (K : PUnit → sProp 𝕄),
        iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ (∃ d, owns (c : Thread nD τ) arg8 fullShare d)
            ∗ (∃ d, owns (c : Thread nD τ) scH fullShare d)
            ∗ (∃ d, owns (c : Thread nD τ) scX fullShare d)
            ∗ semVal ((c : Thread nD τ), SemLoc.dma 9) 0
            ∗ whole c hbX fx
            ∗ owes (c : Thread nD τ) 0 W
            ∗ (iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ (∃ f, arg8.view.loc (c : Thread nD τ) ↦[arg8.view.set]{fullShare} arg8.view.writes (Elt F) f L8)
            ∗ wroteH c LH
            ∗ (∃ d, owns (c : Thread nD τ) scX fullShare d)
            ∗ semVal ((c : Thread nD τ), SemLoc.dma 9) 0
            ∗ whole c hbX fx
            ∗ (∃ W', owes (c : Thread nD τ) 0 W')) -∗ K ⟨⟩))
          ⊢ wp frame (wpE (defs₀ (F := F)) Variants.none c none) Set.univ (cc0_ffn i hbX (Memref.isWhole_whole _) arg3 harg3 arg4 harg4 arg5 harg5 arg6 harg6 arg7 harg7 arg8 harg8 scH (Memref.isWhole_whole _) scX (Memref.isWhole_whole _) cc0_scratch2) K } := by
  refine ⟨?_, ?_, fun W K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%dh, %fh, -, HH⟩, ⟨%dx, %fx₀, -, HX⟩, Hq, Hh, HW, Hk⟩
    obtain rfl := harg3.eq_unread hf3; obtain rfl := harg4.eq_unread hf4; obtain rfl := harg5.eq_unread hf5; obtain rfl := harg6.eq_unread hf6; obtain rfl := harg7.eq_unread hf7
    sl_exec (disch := first | sl_exact hc1 | sl_exact hc2 | sl_exact hc3 | sl_exact hc4 | sl_exact hc5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [HH]; · iexists _; iexact HH
    isplitl [HX]
    · iexists _, _; isplitr; swap; · iexact HX
      ipureintro; rfl
    isplitl [Hq]; · iexact Hq
    isplitl [Hh]; · iexact Hh
    iexists _; iexact HW

end Cert.FfnIdeal.Hand

end
-- ==== Proof.Ffn.RunA.lean ====
module

public import proofs.«01_k».proof.Proof.Ffn.Ops
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of grid point. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

set_option maxHeartbeats 4000000 in
/-- The first point of a later tile: it waits for the copy in flight, normalises the tile and accumulates. -/
noncomputable def runA (c : Dev nD) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S1024x4096 .f32) (harg8 : arg8.IsWhole) (hc1 : ¬k0_cond1 i = 1#1) (hc2 : k0_cond2 i = 1#1) (hc3 : ¬k0_cond3 i = 1#1) (hc4 : ¬k0_cond4 i = 1#1) (hc5 : ¬k0_cond5 i = 1#1)
    (xg : Vec F S1x4096 .f32) (xw : Vec F S4096x256 .bf16) (xu : Vec F S4096x256 .bf16) (xd : Vec F S256x4096 .bf16) (xf : Vec F S1x4096 .f32) (fx : XBuf (F := F) c) :
    Σ' (L8 : List (View.Piece (Elt F) S1024x4096 .f32)), { LH : List (View.Piece (Elt F) S1024x4096 .bf16) //
      ∀ (W : Waits sig Unit) (K : PUnit → sProp 𝕄),
        iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ (∃ d, owns (c : Thread nD τ) arg8 fullShare d)
            ∗ (∃ d, owns (c : Thread nD τ) scH fullShare d)
            ∗ (∃ fd, inflight c fx (k0_off1 i) (k0_off1_inb i hc2) fd)
            ∗ owes (c : Thread nD τ) 0 W
            ∗ (iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ (∃ f, arg8.view.loc (c : Thread nD τ) ↦[arg8.view.set]{fullShare} arg8.view.writes (Elt F) f L8)
            ∗ wroteH c LH
            ∗ (∃ d, owns (c : Thread nD τ) scX fullShare d)
            ∗ semVal ((c : Thread nD τ), SemLoc.dma 9) 0
            ∗ tileHeld c fx (k0_off1 i) (k0_off1_inb i hc2)
            ∗ (∃ W', owes (c : Thread nD τ) 0 W')) -∗ K ⟨⟩))
          ⊢ wp frame (wpE (defs₀ (F := F)) Variants.none c none) Set.univ (cc0_ffn i hbX (Memref.isWhole_whole _) arg3 harg3 arg4 harg4 arg5 harg5 arg6 harg6 arg7 harg7 arg8 harg8 scH (Memref.isWhole_whole _) scX (Memref.isWhole_whole _) cc0_scratch2) K } := by
  refine ⟨?_, ?_, fun W K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%dh, %fh, -, HH⟩, ⟨%fd, HF⟩, HW, Hk⟩
    obtain rfl := harg3.eq_unread hf3; obtain rfl := harg4.eq_unread hf4; obtain rfl := harg5.eq_unread hf5; obtain rfl := harg6.eq_unread hf6; obtain rfl := harg7.eq_unread hf7
    sl_exec (disch := first | sl_exact hc1 | sl_exact hc2 | sl_exact hc3 | sl_exact hc4 | sl_exact hc5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [HH]; · iexists _; iexact HH
    isplitl [HF_dst]
    · iexists _, _; isplitr; swap; · iexact HF_dst
      ipureintro; rfl
    isplitl [HF]; · iexact HF
    isplitl [HF_src]; · iexact HF_src
    iexists _; iexact HW

end Cert.FfnIdeal.Hand

end
-- ==== Proof.Ffn.RunM.lean ====
module

public import proofs.«01_k».proof.Proof.Ffn.Ops
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of grid point. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

set_option maxHeartbeats 4000000 in
/-- A point in the middle of a tile: it accumulates. -/
noncomputable def runM (c : Dev nD) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S1024x4096 .f32) (harg8 : arg8.IsWhole) (hc1 : ¬k0_cond1 i = 1#1) (hc2 : ¬k0_cond2 i = 1#1) (hc3 : k0_cond3 i = 1#1) (hc4 : ¬k0_cond4 i = 1#1) (hc5 : ¬k0_cond5 i = 1#1)
    (xg : Vec F S1x4096 .f32) (xw : Vec F S4096x256 .bf16) (xu : Vec F S4096x256 .bf16) (xd : Vec F S256x4096 .bf16) (xf : Vec F S1x4096 .f32) (xh : Vec F S1024x4096 .bf16) (xo : Vec F S1024x4096 .f32) :
    { L8 : List (View.Piece (Elt F) S1024x4096 .f32) //
      ∀ (K : PUnit → sProp 𝕄),
        iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ owns (c : Thread nD τ) arg8 fullShare xo
            ∗ owns (c : Thread nD τ) scH fullShare xh
            ∗ (iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ (∃ f, arg8.view.loc (c : Thread nD τ) ↦[arg8.view.set]{fullShare} arg8.view.writes (Elt F) f L8)
            ∗ owns (c : Thread nD τ) scH fullShare xh) -∗ K ⟨⟩))
          ⊢ wp frame (wpE (defs₀ (F := F)) Variants.none c none) Set.univ (cc0_ffn i hbX (Memref.isWhole_whole _) arg3 harg3 arg4 harg4 arg5 harg5 arg6 harg6 arg7 harg7 arg8 harg8 scH (Memref.isWhole_whole _) scX (Memref.isWhole_whole _) cc0_scratch2) K } := by
  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%fh, %hfh, HH⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := (Memref.isWhole_whole _ : scH.IsWhole).eq_unread hfh
    sl_exec (disch := first | sl_exact hc1 | sl_exact hc2 | sl_exact hc3 | sl_exact hc4 | sl_exact hc5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact (Memref.isWhole_whole _ : scH.IsWhole).read_unread _
    iexact HH

end Cert.FfnIdeal.Hand

end
-- ==== Proof.Ffn.RunL.lean ====
module

public import proofs.«01_k».proof.Proof.Ffn.Ops
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of grid point. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

set_option maxHeartbeats 4000000 in
/-- The last point of a tile that another follows: it starts the next copy, accumulates and normalises the result. -/
noncomputable def runL (c : Dev nD) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S1024x4096 .f32) (harg8 : arg8.IsWhole) (hc1 : ¬k0_cond1 i = 1#1) (hc2 : ¬k0_cond2 i = 1#1) (hc3 : ¬k0_cond3 i = 1#1) (hc4 : k0_cond4 i = 1#1) (hc5 : k0_cond5 i = 1#1)
    (xg : Vec F S1x4096 .f32) (xw : Vec F S4096x256 .bf16) (xu : Vec F S4096x256 .bf16) (xd : Vec F S256x4096 .bf16) (xf : Vec F S1x4096 .f32) (xh : Vec F S1024x4096 .bf16) (xo : Vec F S1024x4096 .f32) (fx : XBuf (F := F) c) :
    { L8 : List (View.Piece (Elt F) S1024x4096 .f32) //
      ∀ (K : PUnit → sProp 𝕄),
        iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ owns (c : Thread nD τ) arg8 fullShare xo
            ∗ owns (c : Thread nD τ) scH fullShare xh
            ∗ (∃ d, owns (c : Thread nD τ) scX fullShare d)
            ∗ semVal ((c : Thread nD τ), SemLoc.dma 9) 0
            ∗ whole c hbX fx
            ∗ (iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ (∃ f, arg8.view.loc (c : Thread nD τ) ↦[arg8.view.set]{fullShare} arg8.view.writes (Elt F) f L8)
            ∗ owns (c : Thread nD τ) scH fullShare xh
            ∗ (∃ fd, inflight c fx (k0_off2 i) (k0_off2_inb i hc4) fd)
            ∗ othersHeld c fx (k0_off2 i) (k0_off2_inb i hc4)) -∗ K ⟨⟩))
          ⊢ wp frame (wpE (defs₀ (F := F)) Variants.none c none) Set.univ (cc0_ffn i hbX (Memref.isWhole_whole _) arg3 harg3 arg4 harg4 arg5 harg5 arg6 harg6 arg7 harg7 arg8 harg8 scH (Memref.isWhole_whole _) scX (Memref.isWhole_whole _) cc0_scratch2) K } := by
  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%fh, %hfh, HH⟩, ⟨%dx, %fx₀, -, HX⟩, Hq, Hh, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := (Memref.isWhole_whole _ : scH.IsWhole).eq_unread hfh
    sl_exec (disch := first | sl_exact hc1 | sl_exact hc2 | sl_exact hc3 | sl_exact hc4 | sl_exact hc5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [HH]
    · iexists _; isplitr; · ipureintro; exact (Memref.isWhole_whole _ : scH.IsWhole).read_unread _
      iexact HH
    isplitl [Hq]; · iexists _; iexact Hq
    iexact Hh

end Cert.FfnIdeal.Hand

end
-- ==== Proof.Ffn.RunE.lean ====
module

public import proofs.«01_k».proof.Proof.Ffn.Ops
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of grid point. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

set_option maxHeartbeats 4000000 in
/-- The very last point: it accumulates and normalises the result. -/
noncomputable def runE (c : Dev nD) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S1024x4096 .f32) (harg8 : arg8.IsWhole) (hc1 : ¬k0_cond1 i = 1#1) (hc2 : ¬k0_cond2 i = 1#1) (hc3 : ¬k0_cond3 i = 1#1) (hc4 : ¬k0_cond4 i = 1#1) (hc5 : k0_cond5 i = 1#1)
    (xg : Vec F S1x4096 .f32) (xw : Vec F S4096x256 .bf16) (xu : Vec F S4096x256 .bf16) (xd : Vec F S256x4096 .bf16) (xf : Vec F S1x4096 .f32) (xh : Vec F S1024x4096 .bf16) (xo : Vec F S1024x4096 .f32) :
    { L8 : List (View.Piece (Elt F) S1024x4096 .f32) //
      ∀ (K : PUnit → sProp 𝕄),
        iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ owns (c : Thread nD τ) arg8 fullShare xo
            ∗ owns (c : Thread nD τ) scH fullShare xh
            ∗ (iprop(owns (c : Thread nD τ) arg3 fullShare xg ∗ owns (c : Thread nD τ) arg4 fullShare xw ∗ owns (c : Thread nD τ) arg5 fullShare xu ∗ owns (c : Thread nD τ) arg6 fullShare xd ∗ owns (c : Thread nD τ) arg7 fullShare xf
            ∗ (∃ f, arg8.view.loc (c : Thread nD τ) ↦[arg8.view.set]{fullShare} arg8.view.writes (Elt F) f L8)
            ∗ owns (c : Thread nD τ) scH fullShare xh) -∗ K ⟨⟩))
          ⊢ wp frame (wpE (defs₀ (F := F)) Variants.none c none) Set.univ (cc0_ffn i hbX (Memref.isWhole_whole _) arg3 harg3 arg4 harg4 arg5 harg5 arg6 harg6 arg7 harg7 arg8 harg8 scH (Memref.isWhole_whole _) scX (Memref.isWhole_whole _) cc0_scratch2) K } := by
  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%fh, %hfh, HH⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := (Memref.isWhole_whole _ : scH.IsWhole).eq_unread hfh
    sl_exec (disch := first | sl_exact hc1 | sl_exact hc2 | sl_exact hc3 | sl_exact hc4 | sl_exact hc5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact (Memref.isWhole_whole _ : scH.IsWhole).read_unread _
    iexact HH

end Cert.FfnIdeal.Hand

end
-- ==== Proof.Ffn.Data.lean ====
module

public import proofs.«01_k».proof.Proof.Ffn.Ops
public import proofs.«01_k».proof.Proof.Ffn.RunZ
public import proofs.«01_k».proof.Proof.Ffn.RunA
public import proofs.«01_k».proof.Proof.Ffn.RunM
public import proofs.«01_k».proof.Proof.Ffn.RunL
public import proofs.«01_k».proof.Proof.Ffn.RunE
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-!
# The feed-forward call: its run and its frame

What the result's buffer and the normalised tile hold point by point, what the body holds between two points (the copy
of the next tile is in flight exactly between the last point of a tile and the first of the next), and the whole run.
-/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

variable (m : (ℓ : Loc nD τ sig) → Buf (Elt F) ℓ) (ρ : Dev nD → PrngReg)

/-! ## Up to the region -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## Which kind of point each is -/

theorem N_eq : cfg0.N = 688 := N_0
theorem lt_of (t : Fin cfg0.N) : t.val < 688 := by have := t.isLt; have e := N_eq; omega
theorem succ_lt (t : Fin cfg0.N) (h : t.val < 687) : t.val + 1 < cfg0.N := by have := N_eq; omega
theorem cond1_iff : ∀ t : Fin cfg0.N, k0_cond1 (grid0.coords t) = 1#1 ↔ t.val = 0 := (by decide +kernel : ∀ t : Fin grid0.N, _)
theorem cond2_iff : ∀ t : Fin cfg0.N, k0_cond2 (grid0.coords t) = 1#1 ↔ t.val % 43 = 0 := (by decide +kernel : ∀ t : Fin grid0.N, _)
theorem cond3_iff : ∀ t : Fin cfg0.N, k0_cond3 (grid0.coords t) = 1#1 ↔ 0 < t.val % 43 ∧ t.val % 43 < 42 := (by decide +kernel : ∀ t : Fin grid0.N, _)
theorem cond4_iff : ∀ t : Fin cfg0.N, k0_cond4 (grid0.coords t) = 1#1 ↔ t.val % 43 = 42 ∧ t.val < 687 := (by decide +kernel : ∀ t : Fin grid0.N, _)
theorem cond5_iff : ∀ t : Fin cfg0.N, k0_cond5 (grid0.coords t) = 1#1 ↔ t.val % 43 = 42 := (by decide +kernel : ∀ t : Fin grid0.N, _)
theorem coords0 : ∀ t : Fin cfg0.N, (grid0.coords t 0).val = t.val / 43 := (by decide +kernel : ∀ t : Fin grid0.N, _)
/-- The tile copied at the last point of a tile is the one the next point waits for. -/
theorem off_next (t : Fin cfg0.N) (h : t.val % 43 = 42) (h' : t.val < 687) :
    k0_off1 (grid0.coords ⟨t.val + 1, succ_lt t h'⟩) = k0_off2 (grid0.coords t) := by
  rw [k0_off1_eq, k0_off2_eq, coords0, coords0]
  have e : (t.val + 1) / 43 = t.val / 43 + 1 := by omega
  show ![1024 * ((t.val + 1) / 43), 0] = _
  rw [e, Nat.mul_add]

theorem inflight_off (c : Dev nD) (fx : XBuf (F := F) c) {off off' : Fin 2 → ℕ} (e : off = off') (h h') (fd) :
    inflight c fx off h fd = inflight c fx off' h' fd := by subst e; rfl
theorem othersHeld_off (c : Dev nD) (fx : XBuf (F := F) c) {off off' : Fin 2 → ℕ} (e : off = off') (h h') :
    othersHeld c fx off h = othersHeld c fx off' h' := by subst e; rfl

/-! ## What the points leave -/

abbrev ms0_0 (t : Fin cfg0.N) : Memref sig .tc .vmem S1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x4096 .f32 := win0_5.stage (cfg0.slots t 5)
abbrev hs0_5 (t : Fin cfg0.N) : (ms0_5 t).IsWhole := hstage0_5 ((cfg0.slots t 5).cast nbuf0_5)
/-- The buffers through which the result's and the normalised tile's contents are stated. -/
abbrev VO : View sig .tc .vmem S1024x4096 .f32 := (Memref.whole cc0_stg5_0 : Memref sig .tc .vmem S1024x4096 .f32).view
abbrev VH : View sig .tc .vmem S1024x4096 .bf16 := scH.view
/-- The result's block and the normalised tile. -/
abbrev State (F : FTy → Type) [FloatOps F] : Type := Vec F S1024x4096 .f32 × Vec F S1024x4096 .bf16

/-- The run at the first point overall. -/
abbrev atZ (c : Dev nD) (t : Fin cfg0.N) (h : t.val = 0) :=
  runZ (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((cond1_iff t).mpr (by omega)) ((cond2_iff t).mpr (by omega)) (fun e => by have := (cond3_iff t).mp e; omega) (fun e => by have := (cond4_iff t).mp e; omega) (fun e => by have := (cond5_iff t).mp e; omega) (iblk m c 0 t) (iblk m c 1 t) (iblk m c 2 t) (iblk m c 3 t) (iblk m c 4 t) (V m c main_arg0)
/-- The pieces it leaves in the result's buffer. -/
@[irreducible] def piecesZ (c : Dev nD) (t : Fin cfg0.N) (h : t.val = 0) : List (View.Piece (Elt F) S1024x4096 .f32) := (atZ m c t h).1
theorem coverOZ (c : Dev nD) (t : Fin cfg0.N) (h : t.val = 0) : ∀ y : S1024x4096.Idx, ∃ q ∈ piecesZ m c t h, y ∈ q.1.set := by
  unfold piecesZ; exact View.cover_of_tiledL _ S1024x4096.size (by sl_kernel_rfl)

/-- The pieces it leaves in the normalised tile. -/
@[irreducible] def piecesHZ (c : Dev nD) (t : Fin cfg0.N) (h : t.val = 0) : List (View.Piece (Elt F) S1024x4096 .bf16) := (atZ m c t h).2.1
theorem coverHZ (c : Dev nD) (t : Fin cfg0.N) (h : t.val = 0) : ∀ y : S1024x4096.Idx, ∃ q ∈ piecesHZ m c t h, y ∈ q.1.set := by
  unfold piecesHZ; exact View.cover_of_tiledL _ ![256, 4096] (by sl_kernel_rfl)
/-- What it leaves. -/
def afterZ (c : Dev nD) (t : Fin cfg0.N) (h : t.val = 0) : State F :=
  (VO.read (Elt F) (VO.writes (Elt F) VO.junk (piecesZ m c t h)), VH.read (Elt F) (VH.writes (Elt F) VH.junk (piecesHZ m c t h)))

/-- The run at the first point of a later tile. -/
abbrev atA (c : Dev nD) (t : Fin cfg0.N) (h : t.val ≠ 0 ∧ t.val % 43 = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun e => by have := (cond1_iff t).mp e; omega) ((cond2_iff t).mpr (by omega)) (fun e => by have := (cond3_iff t).mp e; omega) (fun e => by have := (cond4_iff t).mp e; omega) (fun e => by have := (cond5_iff t).mp e; omega) (iblk m c 0 t) (iblk m c 1 t) (iblk m c 2 t) (iblk m c 3 t) (iblk m c 4 t) (V m c main_arg0)
/-- The pieces it leaves in the result's buffer. -/
@[irreducible] def piecesA (c : Dev nD) (t : Fin cfg0.N) (h : t.val ≠ 0 ∧ t.val % 43 = 0) : List (View.Piece (Elt F) S1024x4096 .f32) := (atA m c t h).1
theorem coverOA (c : Dev nD) (t : Fin cfg0.N) (h : t.val ≠ 0 ∧ t.val % 43 = 0) : ∀ y : S1024x4096.Idx, ∃ q ∈ piecesA m c t h, y ∈ q.1.set := by
  unfold piecesA; exact View.cover_of_tiledL _ S1024x4096.size (by sl_kernel_rfl)

/-- The pieces it leaves in the normalised tile. -/
@[irreducible] def piecesHA (c : Dev nD) (t : Fin cfg0.N) (h : t.val ≠ 0 ∧ t.val % 43 = 0) : List (View.Piece (Elt F) S1024x4096 .bf16) := (atA m c t h).2.1
theorem coverHA (c : Dev nD) (t : Fin cfg0.N) (h : t.val ≠ 0 ∧ t.val % 43 = 0) : ∀ y : S1024x4096.Idx, ∃ q ∈ piecesHA m c t h, y ∈ q.1.set := by
  unfold piecesHA; exact View.cover_of_tiledL _ ![256, 4096] (by sl_kernel_rfl)
/-- What it leaves. -/
def afterA (c : Dev nD) (t : Fin cfg0.N) (h : t.val ≠ 0 ∧ t.val % 43 = 0) : State F :=
  (VO.read (Elt F) (VO.writes (Elt F) VO.junk (piecesA m c t h)), VH.read (Elt F) (VH.writes (Elt F) VH.junk (piecesHA m c t h)))

/-- The run in the middle of a tile, over what the point before left. -/
abbrev atM (c : Dev nD) (t : Fin cfg0.N) (h : 0 < t.val % 43 ∧ t.val % 43 < 42) (p : State F) :=
  runM (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun e => by have := (cond1_iff t).mp e; omega) (fun e => by have := (cond2_iff t).mp e; omega) ((cond3_iff t).mpr (by omega)) (fun e => by have := (cond4_iff t).mp e; omega) (fun e => by have := (cond5_iff t).mp e; omega) (iblk m c 0 t) (iblk m c 1 t) (iblk m c 2 t) (iblk m c 3 t) (iblk m c 4 t) p.2 p.1
/-- The pieces it leaves in the result's buffer. -/
@[irreducible] def piecesM (c : Dev nD) (t : Fin cfg0.N) (h : 0 < t.val % 43 ∧ t.val % 43 < 42) (p : State F) : List (View.Piece (Elt F) S1024x4096 .f32) := (atM m c t h p).1
theorem coverOM (c : Dev nD) (t : Fin cfg0.N) (h : 0 < t.val % 43 ∧ t.val % 43 < 42) (p : State F) : ∀ y : S1024x4096.Idx, ∃ q ∈ piecesM m c t h p, y ∈ q.1.set := by
  unfold piecesM; exact View.cover_of_tiledL _ S1024x4096.size (by sl_kernel_rfl)

/-- What it leaves. -/
def afterM (c : Dev nD) (t : Fin cfg0.N) (h : 0 < t.val % 43 ∧ t.val % 43 < 42) (p : State F) : State F :=
  (VO.read (Elt F) (VO.writes (Elt F) VO.junk (piecesM m c t h p)), p.2)

/-- The run at the last point of a tile another follows, over what the point before left. -/
abbrev atL (c : Dev nD) (t : Fin cfg0.N) (h : t.val % 43 = 42 ∧ t.val < 687) (p : State F) :=
  runL (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun e => by have := (cond1_iff t).mp e; omega) (fun e => by have := (cond2_iff t).mp e; omega) (fun e => by have := (cond3_iff t).mp e; omega) ((cond4_iff t).mpr (by omega)) ((cond5_iff t).mpr (by omega)) (iblk m c 0 t) (iblk m c 1 t) (iblk m c 2 t) (iblk m c 3 t) (iblk m c 4 t) p.2 p.1 (V m c main_arg0)
/-- The pieces it leaves in the result's buffer. -/
@[irreducible] def piecesL (c : Dev nD) (t : Fin cfg0.N) (h : t.val % 43 = 42 ∧ t.val < 687) (p : State F) : List (View.Piece (Elt F) S1024x4096 .f32) := (atL m c t h p).1
theorem coverOL (c : Dev nD) (t : Fin cfg0.N) (h : t.val % 43 = 42 ∧ t.val < 687) (p : State F) : ∀ y : S1024x4096.Idx, ∃ q ∈ piecesL m c t h p, y ∈ q.1.set := by
  unfold piecesL; exact View.cover_of_tiledL _ S1024x4096.size (by sl_kernel_rfl)

/-- What it leaves. -/
def afterL (c : Dev nD) (t : Fin cfg0.N) (h : t.val % 43 = 42 ∧ t.val < 687) (p : State F) : State F :=
  (VO.read (Elt F) (VO.writes (Elt F) VO.junk (piecesL m c t h p)), p.2)

/-- The run at the last point overall, over what the point before left. -/
abbrev atE (c : Dev nD) (t : Fin cfg0.N) (h : t.val = 687) (p : State F) :=
  runE (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun e => by have := (cond1_iff t).mp e; omega) (fun e => by have := (cond2_iff t).mp e; omega) (fun e => by have := (cond3_iff t).mp e; omega) (fun e => by have := (cond4_iff t).mp e; omega) ((cond5_iff t).mpr (by omega)) (iblk m c 0 t) (iblk m c 1 t) (iblk m c 2 t) (iblk m c 3 t) (iblk m c 4 t) p.2 p.1
/-- The pieces it leaves in the result's buffer. -/
@[irreducible] def piecesE (c : Dev nD) (t : Fin cfg0.N) (h : t.val = 687) (p : State F) : List (View.Piece (Elt F) S1024x4096 .f32) := (atE m c t h p).1
theorem coverOE (c : Dev nD) (t : Fin cfg0.N) (h : t.val = 687) (p : State F) : ∀ y : S1024x4096.Idx, ∃ q ∈ piecesE m c t h p, y ∈ q.1.set := by
  unfold piecesE; exact View.cover_of_tiledL _ S1024x4096.size (by sl_kernel_rfl)

/-- What it leaves. -/
def afterE (c : Dev nD) (t : Fin cfg0.N) (h : t.val = 687) (p : State F) : State F :=
  (VO.read (Elt F) (VO.writes (Elt F) VO.junk (piecesE m c t h p)), p.2)

/-- The result's block and the normalised tile after point `n`. -/
def st (c : Dev nD) : (n : ℕ) → n < cfg0.N → State F
  | 0, hn => afterZ m c ⟨0, hn⟩ rfl
  | n + 1, hn =>
    if h0 : (n + 1) % 43 = 0 then afterA m c ⟨n + 1, hn⟩ ⟨Nat.succ_ne_zero n, h0⟩
    else if h1 : (n + 1) % 43 < 42 then afterM m c ⟨n + 1, hn⟩ ⟨Nat.pos_of_ne_zero h0, h1⟩ (st c n (Nat.lt_of_succ_lt hn))
    else if h2 : n + 1 < 687 then
      afterL m c ⟨n + 1, hn⟩ ⟨by show (n + 1) % 43 = 42; omega, h2⟩ (st c n (Nat.lt_of_succ_lt hn))
    else afterE m c ⟨n + 1, hn⟩ (by show n + 1 = 687; rw [N_eq] at hn; omega) (st c n (Nat.lt_of_succ_lt hn))

theorem prev_lt (t : Fin cfg0.N) : t.val - 1 < cfg0.N := Nat.lt_of_le_of_lt (Nat.sub_le _ _) t.isLt

theorem st_Z (c : Dev nD) (t : Fin cfg0.N) (h : t.val = 0) : st m c t.val t.isLt = afterZ m c t h := by
  obtain ⟨n, hn⟩ := t; cases n with
  | zero => rfl
  | succ n => exact absurd h (Nat.succ_ne_zero n)
theorem st_A (c : Dev nD) (t : Fin cfg0.N) (h : t.val ≠ 0 ∧ t.val % 43 = 0) : st m c t.val t.isLt = afterA m c t h := by
  obtain ⟨n, hn⟩ := t; cases n with
  | zero => exact absurd rfl h.1
  | succ n => exact dif_pos h.2
theorem st_M (c : Dev nD) (t : Fin cfg0.N) (h : 0 < t.val % 43 ∧ t.val % 43 < 42) :
    st m c t.val t.isLt = afterM m c t h (st m c (t.val - 1) (prev_lt t)) := by
  obtain ⟨n, hn⟩ := t; cases n with
  | zero => exact absurd (show 0 < 0 % 43 from h.1) (by decide)
  | succ n => exact (dif_neg (Nat.pos_iff_ne_zero.mp h.1)).trans (dif_pos h.2)
theorem st_L (c : Dev nD) (t : Fin cfg0.N) (h : t.val % 43 = 42 ∧ t.val < 687) :
    st m c t.val t.isLt = afterL m c t h (st m c (t.val - 1) (prev_lt t)) := by
  obtain ⟨n, hn⟩ := t; cases n with
  | zero => exact absurd (show 0 % 43 = 42 from h.1) (by decide)
  | succ n =>
    have e : (n + 1) % 43 = 42 := h.1
    exact (dif_neg (by omega)).trans ((dif_neg (by omega)).trans (dif_pos h.2))
theorem st_E (c : Dev nD) (t : Fin cfg0.N) (h : t.val = 687) :
    st m c t.val t.isLt = afterE m c t h (st m c (t.val - 1) (prev_lt t)) := by
  obtain ⟨n, hn⟩ := t; cases n with
  | zero => exact absurd (show 0 = 687 from h) (by decide)
  | succ n =>
    have e : n + 1 = 687 := h
    exact (dif_neg (by omega)).trans ((dif_neg (by omega)).trans (dif_neg (by omega)))

/-- A buffer the pieces cover holds what they read as, whatever it held before. -/
theorem owns_block (c : Dev nD) (t : Fin cfg0.N) (L : List (View.Piece (Elt F) S1024x4096 .f32)) (X : Vec F S1024x4096 .f32) (h : ∀ y : S1024x4096.Idx, ∃ q ∈ L, y ∈ q.1.set)
    (hX : X = VO.read (Elt F) (VO.writes (Elt F) VO.junk L) := by rfl) :
    (iprop(∃ f, (ms0_5 t).view.loc (c : Thread nD τ) ↦[(ms0_5 t).view.set]{fullShare} (ms0_5 t).view.writes (Elt F) f L) : sProp 𝕄)
      ⊢ owns (c : Thread nD τ) (ms0_5 t) fullShare X := by
  subst hX
  iintro ⟨%f, H⟩
  unfold owns; iexists _; isplitr
  swap; · iexact H
  ipureintro; exact View.read_writes_of_cover _ _ _ _ _ h
theorem owns_tile (c : Dev nD) (L : List (View.Piece (Elt F) S1024x4096 .bf16)) (h : ∀ y : S1024x4096.Idx, ∃ q ∈ L, y ∈ q.1.set) :
    (wroteH c L : sProp 𝕄) ⊢ owns (c : Thread nD τ) scH fullShare (VH.read (Elt F) (VH.writes (Elt F) VH.junk L)) := by
  iintro ⟨%f, H⟩
  unfold owns; iexists _; isplitr
  swap; · iexact H
  ipureintro; exact View.read_writes_of_cover _ _ _ _ _ h

/-! ## What the body holds between points -/

/-- Before the first point and after the last: the two scratches at anything, the counter at zero, the tokens whole. -/
def free (c : Dev nD) : sProp 𝕄 :=
  iprop((∃ d, owns (c : Thread nD τ) scH fullShare d) ∗ (∃ d, owns (c : Thread nD τ) scX fullShare d) ∗ (∃ r, prngReg c r)
    ∗ semVal ((c : Thread nD τ), SemLoc.dma 9) 0 ∗ whole c hbX (V m c main_arg0))
/-- Inside a tile: the normalised tile kept. -/
def within (c : Dev nD) (h : Vec F S1024x4096 .bf16) : sProp 𝕄 :=
  iprop(owns (c : Thread nD τ) scH fullShare h ∗ (∃ d, owns (c : Thread nD τ) scX fullShare d) ∗ (∃ r, prngReg c r)
    ∗ semVal ((c : Thread nD τ), SemLoc.dma 9) 0 ∗ whole c hbX (V m c main_arg0))
/-- Between two tiles: the copy of the next in flight. -/
def between (c : Dev nD) (t : Fin cfg0.N) (h : t.val % 43 = 0) : sProp 𝕄 :=
  iprop((∃ d, owns (c : Thread nD τ) scH fullShare d)
    ∗ (∃ fd, inflight c (V m c main_arg0) (k0_off1 (grid0.coords t)) (k0_off1_inb _ ((cond2_iff t).mpr h)) fd)
    ∗ othersHeld c (V m c main_arg0) (k0_off1 (grid0.coords t)) (k0_off1_inb _ ((cond2_iff t).mpr h)) ∗ (∃ r, prngReg c r))

/-- What the body holds before point `k`. -/
def PhiS (c : Dev nD) (k : ℕ) : sProp 𝕄 :=
  if hk : 0 < k ∧ k < cfg0.N then
    if h : k % 43 = 0 then between m c ⟨k, hk.2⟩ h else within m c (st m c (k - 1) (Nat.lt_of_le_of_lt (Nat.sub_le _ _) hk.2)).2
  else free m c

theorem PhiS_free (c : Dev nD) (k : ℕ) (hk : k = 0 ∨ 688 ≤ k) : PhiS m c k = free m c :=
  dif_neg (by rw [N_eq]; omega)
theorem PhiS_between (c : Dev nD) (k : ℕ) (h0 : k ≠ 0) (h : k % 43 = 0) (hk : k < cfg0.N) : PhiS m c k = between m c ⟨k, hk⟩ h :=
  (dif_pos ⟨Nat.pos_of_ne_zero h0, hk⟩).trans (dif_pos h)
theorem PhiS_within (c : Dev nD) (k : ℕ) (h : 0 < k % 43) (h0 : 0 < k) (hk : k - 1 < 688) :
    PhiS m c k = within m c (st m c (k - 1) (by rw [N_eq]; exact hk)).2 :=
  (dif_pos ⟨h0, by rw [N_eq]; omega⟩).trans (dif_neg (by omega))

/-- The proof data of the call on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (st m c t.val t.isLt).1
  Φ t := PhiS m c t.val
  q _ := fullShare
  owed _ := 0

theorem A_eq (c : Dev nD) (w : Fin cfg0.W) : (dats m 0 c).A w = V m c (Pipeline.arrRef spec0 w) := by
  dsimp only [dats]
theorem phi_castSucc (c : Dev nD) (t : Fin cfg0.N) : (dats m 0 c).Φ t.castSucc = PhiS m c t.val := rfl
theorem phi_succ (c : Dev nD) (t : Fin cfg0.N) : (dats m 0 c).Φ t.succ = PhiS m c (t.val + 1) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = (st m c t.val t.isLt).1 := by dsimp only [dats]
theorem live : ∀ i : grid0.Coords, cfg0.idle 5 i = false := by decide +kernel
/-- Inside a tile the result's buffer holds what the point before left. -/
theorem before0_5 (c : Dev nD) (t : Fin cfg0.N) (h : 0 < t.val % 43) (d) :
    (dats m 0 c).before 5 t d = (st m c (t.val - 1) (prev_lt t)).1 := by
  rw [(dats m 0 c).before_out_kept 5 rfl t (by rintro e; rw [e] at h; exact absurd h (by decide)) ?_ live (fun _ _ => rfl) d]
  · exact after0_5 m c ⟨t.val - 1, prev_lt t⟩
  · rw [← Bool.not_eq_true, flush0_5]
    show ¬ (t.val - 1) % 43 = 42
    omega

/-! ## The body at each point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))
abbrev Bodies (c : Dev nD) (t : Fin cfg0.N) : Prop :=
  bodyPre m c t ⊢ wp frame (wpE (defs₀ (F := F)) Variants.none c none) Set.univ (bodyAt0 t) (fun _ => bodyPost m c t)

end Cert.FfnIdeal.Hand

end
-- ==== Proof.Ffn.BodyZ.lean ====
module

public import proofs.«01_k».proof.Proof.Ffn.Data
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of point, over what the pipeline holds there. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

variable (m : (ℓ : Loc nD τ sig) → Buf (Elt F) ℓ) (ρ : Dev nD → PrngReg)

set_option maxHeartbeats 400000 in
theorem bodyZ (c : Dev nD) (t : Fin cfg0.N) (h : t.val = 0) : Bodies m c t := by
  unfold Bodies bodyPre bodyPost bodyAt0
  simp only [before0_0, before0_1, before0_2, before0_3, before0_4, after0_0, after0_1, after0_2, after0_3, after0_4, after0_5]
  rw [phi_castSucc, phi_succ, PhiS_free m c t.val (by omega), PhiS_within m c (t.val + 1) (by omega) (by omega) (lt_of t)]
  unfold Dat.owesAt Pipeline.owesWithin
  rw [show (dats m 0 c).owed t.castSucc = 0 from rfl, show (dats m 0 c).owed t.succ = 0 from rfl]
  simp only [Nat.add_sub_cancel, st_Z m c t h]
  unfold afterZ free within
  iintro ⟨⟨HH, HX, Hg, Hq, Hh⟩, ⟨%W, -, HW⟩, ⟨%d0, H0⟩, ⟨%d1, H1⟩, ⟨%d2, H2⟩, ⟨%d3, H3⟩, ⟨%d4, H4⟩, ⟨%d5, H5⟩⟩
  iapply ((atZ m c t h).2.2 W _)
  isplitl [H0]; · iexact H0
  isplitl [H1]; · iexact H1
  isplitl [H2]; · iexact H2
  isplitl [H3]; · iexact H3
  isplitl [H4]; · iexact H4
  isplitl [H5]; · iexists _; iexact H5
  isplitl [HH]; · iexact HH
  isplitl [HX]; · iexact HX
  isplitl [Hq]; · iexact Hq
  isplitl [Hh]; · iexact Hh
  isplitl [HW]; · iexact HW
  iintro ⟨H0, H1, H2, H3, H4, ⟨%f5, H5⟩, HH, HX, Hq, Hh, ⟨%W', HW⟩⟩
  isplitl [HH HX Hg Hq Hh]
  · isplitl [HH]
    · iapply (owns_tile c _ (coverHZ m c t h))
      rw [piecesHZ]
      iexact HH
    isplitl [HX]; · iexact HX
    isplitl [Hg]; · iexact Hg
    isplitl [Hq]; · iexact Hq
    iexact Hh
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (owns_block c t _ _ (coverOZ m c t h))
  iexists f5
  rw [piecesZ]
  iexact H5

end Cert.FfnIdeal.Hand

end
-- ==== Proof.Ffn.BodyA.lean ====
module

public import proofs.«01_k».proof.Proof.Ffn.Data
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of point, over what the pipeline holds there. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

variable (m : (ℓ : Loc nD τ sig) → Buf (Elt F) ℓ) (ρ : Dev nD → PrngReg)

set_option maxHeartbeats 400000 in
theorem bodyA (c : Dev nD) (t : Fin cfg0.N) (h : t.val ≠ 0 ∧ t.val % 43 = 0) : Bodies m c t := by
  unfold Bodies bodyPre bodyPost bodyAt0
  simp only [before0_0, before0_1, before0_2, before0_3, before0_4, after0_0, after0_1, after0_2, after0_3, after0_4, after0_5]
  rw [phi_castSucc, phi_succ, PhiS_between m c t.val (by omega) (by omega) t.isLt, PhiS_within m c (t.val + 1) (by omega) (by omega) (lt_of t)]
  unfold Dat.owesAt Pipeline.owesWithin
  rw [show (dats m 0 c).owed t.castSucc = 0 from rfl, show (dats m 0 c).owed t.succ = 0 from rfl]
  simp only [Nat.add_sub_cancel, st_A m c t h]
  unfold afterA between within
  iintro ⟨⟨HH, HF, Ho, Hg⟩, ⟨%W, -, HW⟩, ⟨%d0, H0⟩, ⟨%d1, H1⟩, ⟨%d2, H2⟩, ⟨%d3, H3⟩, ⟨%d4, H4⟩, ⟨%d5, H5⟩⟩
  iapply ((atA m c t h).2.2 W _)
  isplitl [H0]; · iexact H0
  isplitl [H1]; · iexact H1
  isplitl [H2]; · iexact H2
  isplitl [H3]; · iexact H3
  isplitl [H4]; · iexact H4
  isplitl [H5]; · iexists _; iexact H5
  isplitl [HH]; · iexact HH
  isplitl [HF]; · iexact HF
  isplitl [HW]; · iexact HW
  iintro ⟨H0, H1, H2, H3, H4, ⟨%f5, H5⟩, HH, HX, Hq, Ht, ⟨%W', HW⟩⟩
  isplitl [HH HX Hg Hq Ht Ho]
  · isplitl [HH]
    · iapply (owns_tile c _ (coverHA m c t h))
      rw [piecesHA]
      iexact HH
    isplitl [HX]; · iexact HX
    isplitl [Hg]; · iexact Hg
    isplitl [Hq]; · iexact Hq
    iapply (pointsTo_split_subset (Finset.subset_univ _)).mpr
    isplitl [Ht]; · iexact Ht
    iexact Ho
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (owns_block c t _ _ (coverOA m c t h))
  iexists f5
  rw [piecesA]
  iexact H5

end Cert.FfnIdeal.Hand

end
-- ==== Proof.Ffn.BodyM.lean ====
module

public import proofs.«01_k».proof.Proof.Ffn.Data
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of point, over what the pipeline holds there. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

variable (m : (ℓ : Loc nD τ sig) → Buf (Elt F) ℓ) (ρ : Dev nD → PrngReg)

set_option maxHeartbeats 400000 in
theorem bodyM (c : Dev nD) (t : Fin cfg0.N) (h : 0 < t.val % 43 ∧ t.val % 43 < 42) : Bodies m c t := by
  unfold Bodies bodyPre bodyPost bodyAt0
  simp only [before0_0, before0_1, before0_2, before0_3, before0_4, after0_0, after0_1, after0_2, after0_3, after0_4, after0_5, before0_5 m c t (by omega)]
  rw [phi_castSucc, phi_succ, PhiS_within m c t.val (by omega) (by omega) (Nat.lt_of_le_of_lt (Nat.sub_le _ _) (lt_of t)), PhiS_within m c (t.val + 1) (by omega) (by omega) (lt_of t)]
  unfold Dat.owesAt Pipeline.owesWithin
  rw [show (dats m 0 c).owed t.castSucc = 0 from rfl, show (dats m 0 c).owed t.succ = 0 from rfl]
  simp only [Nat.add_sub_cancel, st_M m c t h]
  unfold afterM within
  iintro ⟨⟨HH, HX, Hg, Hq, Hh⟩, ⟨%W, -, HW⟩, ⟨%d0, H0⟩, ⟨%d1, H1⟩, ⟨%d2, H2⟩, ⟨%d3, H3⟩, ⟨%d4, H4⟩, ⟨%d5, H5⟩⟩
  iapply ((atM m c t h _).2 _)
  isplitl [H0]; · iexact H0
  isplitl [H1]; · iexact H1
  isplitl [H2]; · iexact H2
  isplitl [H3]; · iexact H3
  isplitl [H4]; · iexact H4
  isplitl [H5]; · iexact H5
  isplitl [HH]; · iexact HH
  iintro ⟨H0, H1, H2, H3, H4, ⟨%f5, H5⟩, HH⟩
  isplitl [HH HX Hg Hq Hh]
  · isplitl [HH]; · iexact HH
    isplitl [HX]; · iexact HX
    isplitl [Hg]; · iexact Hg
    isplitl [Hq]; · iexact Hq
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (owns_block c t _ _ (coverOM m c t h _))
  iexists f5
  rw [piecesM]
  iexact H5

end Cert.FfnIdeal.Hand

end
-- ==== Proof.Ffn.BodyL.lean ====
module

public import proofs.«01_k».proof.Proof.Ffn.Data
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of point, over what the pipeline holds there. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

variable (m : (ℓ : Loc nD τ sig) → Buf (Elt F) ℓ) (ρ : Dev nD → PrngReg)

set_option maxHeartbeats 400000 in
theorem bodyL (c : Dev nD) (t : Fin cfg0.N) (h : t.val % 43 = 42 ∧ t.val < 687) : Bodies m c t := by
  unfold Bodies bodyPre bodyPost bodyAt0
  simp only [before0_0, before0_1, before0_2, before0_3, before0_4, after0_0, after0_1, after0_2, after0_3, after0_4, after0_5, before0_5 m c t (by omega)]
  rw [phi_castSucc, phi_succ, PhiS_within m c t.val (by omega) (by omega) (Nat.lt_of_le_of_lt (Nat.sub_le _ _) (lt_of t)), PhiS_between m c (t.val + 1) (by omega) (by omega) (succ_lt t h.2)]
  unfold Dat.owesAt Pipeline.owesWithin
  rw [show (dats m 0 c).owed t.castSucc = 0 from rfl, show (dats m 0 c).owed t.succ = 0 from rfl]
  simp only [Nat.add_sub_cancel, st_L m c t h]
  unfold afterL within between
  iintro ⟨⟨HH, HX, Hg, Hq, Hh⟩, ⟨%W, -, HW⟩, ⟨%d0, H0⟩, ⟨%d1, H1⟩, ⟨%d2, H2⟩, ⟨%d3, H3⟩, ⟨%d4, H4⟩, ⟨%d5, H5⟩⟩
  iapply ((atL m c t h _).2 _)
  isplitl [H0]; · iexact H0
  isplitl [H1]; · iexact H1
  isplitl [H2]; · iexact H2
  isplitl [H3]; · iexact H3
  isplitl [H4]; · iexact H4
  isplitl [H5]; · iexact H5
  isplitl [HH]; · iexact HH
  isplitl [HX]; · iexact HX
  isplitl [Hq]; · iexact Hq
  isplitl [Hh]; · iexact Hh
  iintro ⟨H0, H1, H2, H3, H4, ⟨%f5, H5⟩, HH, ⟨%fd, HF⟩, Ho⟩
  isplitl [HH HF Ho Hg]
  · isplitl [HH]; · iexists _; iexact HH
    isplitl [HF]
    · iexists fd
      rw [inflight_off c _ (off_next t h.1 h.2) _ (k0_off2_inb _ ((cond4_iff t).mpr h))]
      iexact HF
    isplitl [Ho]
    · rw [othersHeld_off c _ (off_next t h.1 h.2) _ (k0_off2_inb _ ((cond4_iff t).mpr h))]
      iexact Ho
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (owns_block c t _ _ (coverOL m c t h _))
  iexists f5
  rw [piecesL]
  iexact H5

end Cert.FfnIdeal.Hand

end
-- ==== Proof.Ffn.BodyE.lean ====
module

public import proofs.«01_k».proof.Proof.Ffn.Data
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! The feed-forward body at one kind of point, over what the pipeline holds there. -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

variable (m : (ℓ : Loc nD τ sig) → Buf (Elt F) ℓ) (ρ : Dev nD → PrngReg)

set_option maxHeartbeats 400000 in
theorem bodyE (c : Dev nD) (t : Fin cfg0.N) (h : t.val = 687) : Bodies m c t := by
  unfold Bodies bodyPre bodyPost bodyAt0
  simp only [before0_0, before0_1, before0_2, before0_3, before0_4, after0_0, after0_1, after0_2, after0_3, after0_4, after0_5, before0_5 m c t (by omega)]
  rw [phi_castSucc, phi_succ, PhiS_within m c t.val (by omega) (by omega) (Nat.lt_of_le_of_lt (Nat.sub_le _ _) (lt_of t)), PhiS_free m c (t.val + 1) (by omega)]
  unfold Dat.owesAt Pipeline.owesWithin
  rw [show (dats m 0 c).owed t.castSucc = 0 from rfl, show (dats m 0 c).owed t.succ = 0 from rfl]
  simp only [Nat.add_sub_cancel, st_E m c t h]
  unfold afterE within free
  iintro ⟨⟨HH, HX, Hg, Hq, Hh⟩, ⟨%W, -, HW⟩, ⟨%d0, H0⟩, ⟨%d1, H1⟩, ⟨%d2, H2⟩, ⟨%d3, H3⟩, ⟨%d4, H4⟩, ⟨%d5, H5⟩⟩
  iapply ((atE m c t h _).2 _)
  isplitl [H0]; · iexact H0
  isplitl [H1]; · iexact H1
  isplitl [H2]; · iexact H2
  isplitl [H3]; · iexact H3
  isplitl [H4]; · iexact H4
  isplitl [H5]; · iexact H5
  isplitl [HH]; · iexact HH
  iintro ⟨H0, H1, H2, H3, H4, ⟨%f5, H5⟩, HH⟩
  isplitl [HH HX Hg Hq Hh]
  · isplitl [HH]; · iexists _; iexact HH
    isplitl [HX]; · iexact HX
    isplitl [Hg]; · iexact Hg
    isplitl [Hq]; · iexact Hq
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iapply (owns_block c t _ _ (coverOE m c t h _))
  iexists f5
  rw [piecesE]
  iexact H5

end Cert.FfnIdeal.Hand

end
-- ==== Proof.Ffn.Frame.lean ====
module

public import proofs.«01_k».proof.Proof.Ffn.BodyZ
public import proofs.«01_k».proof.Proof.Ffn.BodyA
public import proofs.«01_k».proof.Proof.Ffn.BodyM
public import proofs.«01_k».proof.Proof.Ffn.BodyL
public import proofs.«01_k».proof.Proof.Ffn.BodyE
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Transfers
public import Idealize.ShloMosaic.Lib.Ring
public import Idealize.ShloMosaic.Lib.Tactic
public import Idealize.ShloMosaic.Lib.WordCmp

/-! # The feed-forward call: its run and its frame -/

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra beside the counters of the body's own transfers. -/
local notation "𝕄" => MT nD τ sig Unit (Elt F) ℕ (Pipeline.UD sig nD τ) ℕ

variable (m : (ℓ : Loc nD τ sig) → Buf (Elt F) ℓ) (ρ : Dev nD → PrngReg)

theorem sound_body (c : Dev nD) (t : Fin cfg0.N) : Bodies m c t := by
  have hN := lt_of t
  by_cases h0 : t.val = 0
  · exact bodyZ m c t h0
  by_cases h1 : t.val % 43 = 0
  · exact bodyA m c t ⟨h0, h1⟩
  by_cases h2 : t.val % 43 < 42
  · exact bodyM m c t ⟨by omega, h2⟩
  by_cases h3 : t.val < 687
  · exact bodyL m c t ⟨by omega, h3⟩
  · exact bodyE m c t (by omega)

/-- What the body leaves, as the pipeline asks for it: no point is idle for the result. -/
theorem bodyPost_leaves (c : Dev nD) (t : Fin cfg0.N) :
    bodyPost m c t ⊢ iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t) := by
  rw [show (dats m 0 c).leavesExact 5 t = owns (c : Thread nD τ) (ms0_5 t) fullShare ((dats m 0 c).after 5 t) by
    unfold Dat.leavesExact; rw [live (grid0.coords t)]]
  exact .rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => bodyPost_leaves m c t

/-! ## The run and the frame -/

/-- The body's own DMA cell, and the tokens it reads in HBM. -/
abbrev osem0 : Fin 1 → SemLoc sig := fun j => (![SemLoc.dma 9] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 9) 0 := by
  rw [Pipeline.ownSems0_eq_of_list c osem0 [0] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = whole c hbX (V m c main_arg0) := by
  rw [BI.bigSep_eq_bigSepL_of_eq [main_arg0] (by decide) (by decide)]; rfl

theorem PhiD_eq (c : Dev nD) : (Pipeline.ΦD osem0 spec0 H0 (V m) c : sProp 𝕄)
    = iprop(((∃ d, owns (c : Thread nD τ) scH fullShare d) ∗ (∃ d, owns (c : Thread nD τ) scX fullShare d)) ∗ (∃ r, prngReg c r)
        ∗ semVal ((c : Thread nD τ), SemLoc.dma 9) 0 ∗ whole c hbX (V m c main_arg0)) := by
  rw [Pipeline.ΦD_eq, scopedRest0_eq, ownSems00_eq, hbmPts0_eq]
  simp only [scH, scX, owns_whole]; try rfl
theorem hin (c : Dev nD) : Pipeline.ΦD osem0 spec0 H0 (V m) c ⊢ (dats m 0 c).Φ 0 := by
  rw [show (dats m 0 c).Φ 0 = PhiS m c 0 from rfl, PhiS_free m c 0 (Or.inl rfl), PhiD_eq]
  unfold free
  iintro ⟨⟨HH, HX⟩, Hg, Hq, Hh⟩
  isplitl [HH]; · iexact HH
  isplitl [HX]; · iexact HX
  isplitl [Hg]; · iexact Hg
  isplitl [Hq]; · iexact Hq
  iexact Hh
theorem hout (c : Dev nD) : (dats m 0 c).Φ (Fin.last cfg0.N) ⊢ Pipeline.ΦD osem0 spec0 H0 (V m) c := by
  rw [show (dats m 0 c).Φ (Fin.last cfg0.N) = PhiS m c cfg0.N from rfl, PhiS_free m c cfg0.N (Or.inr (by rw [N_eq])), PhiD_eq]
  unfold free
  iintro ⟨HH, HX, Hg, Hq, Hh⟩
  isplitl [HH HX]
  · isplitl [HH]; · iexact HH
    iexact HX
  isplitl [Hg]; · iexact Hg
  isplitl [Hq]; · iexact Hq
  iexact Hh

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- What the run leaves, without the counters. -/
theorem run_post : θ_run defs (onTc (τ := τ) (main (F := F))) (s₀ m ρ) (Pipeline.FramePost cfgs (dats m) 0 (V m)) :=
  (θ_run defs _ _).mono (fun _ h => h.1) (run_main m ρ)

/-- The frame, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.FfnIdeal.Hand

end
-- ==== Proof.Ffn.Bits.lean ====
module

public import proofs.«01_k».proof.Defs
public import proofs.«01_k».proof.Proof.Gen.Ffn
public import proofs.«01_k».proof.Proof.Ffn.Frame

/-! # The feed-forward call at bits

The program read at bits and the one read at the ideal instance are one text, so the run proved over any float values
is the run of both. -/

@[expose] public section

noncomputable section

open Idealize.ShloMosaic Idealize.ShloMosaic.TcCoe Idealize.SL.Sem

namespace Cert.Ffn.Hand

theorem defs₀_eq : (Cert.Ffn.defs₀ (F := Bits)) = Cert.FfnIdeal.defs₀ (F := Bits) := by
  unfold Cert.Ffn.defs₀ Cert.FfnIdeal.defs₀
  refine congrArg Defs.onTc ?_
  funext ℓ a
  match ℓ, a with
  | 0, (t, s) => rfl

theorem defs_eq : (Cert.Ffn.defs (F := Bits)) = Cert.FfnIdeal.defs (F := Bits) :=
  congrArg (Pipeline.defs (Cert.FfnIdeal.pcfgs (F := Bits))) defs₀_eq

theorem frame : Cert.quiescent_Ffn := fun m ρ _ => by
  have h := Cert.FfnIdeal.Hand.frame (F := Bits) m ρ
  rw [← defs_eq] at h
  exact h

end Cert.Ffn.Hand

end
-- ==== Proof.Ffn.Value.lean ====
module

public import proofs.«01_k».proof.Proof.Ffn.Data
public import proofs.«01_k».proof.Proof.Gen.FfnRefIdeal.Run
public import Idealize.ShloMosaic.Lib.Pipeline.ValueKit
public import Idealize.ShloMosaic.Lib.Pipeline.ReadBack
public import Idealize.ShloMosaic.Lib.Claim
public import Idealize.ShloMosaic.Lib.Pointwise

/-!
# The feed-forward call: what the array of the result holds after the call

A tile's rows are normalised at its first point and kept; over the tile's 43 points the result's block gathers the
tokens plus the down-projection of the gated middle layer, 256 of its columns a point; at the last point the block's
rows are normalised in four chunks and written back.
-/

@[expose] public section

set_option maxRecDepth 16384

noncomputable section

open Idealize.ShloMosaic Idealize.ShloMosaic.TcCoe Idealize.SL.Sem
open Idealize.ShloMosaic.Pipeline (Dat)
namespace Cert.FfnRefIdeal.Hand
open Cert.FfnRefIdeal Cert.FfnRefIdeal.Gen

/-- The reference's root-mean-square normalisation of every row. -/
abbrev normed (X : FVec Ideal S16384x4096 .f32) (g : FVec Ideal S4096 .f32) : FVec Ideal S16384x4096 .f32 :=
  mulf (mulf X (broadcastInDim S16384x4096 ![0, 1] bcast_S16384x1_S16384x4096_0_1 (Host.rsqrt (addf (Host.divf
    (broadcastInDim S16384x1 ![0] bcast_S16384_S16384x1_0 (Host.reduceAdd (mulf X X) (constant S_ .f32 0x00000000#32) reducesTo_S16384x4096_S16384_d1 h_S_))
    (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g))

/-- The reference's gated middle layer, as a function of the normalised rows and the two weights. -/
abbrev middle (H : FVec Ideal S16384x4096 .f32) (wg wu : FVec Ideal S1x4096x11008 .f32) : FVec Ideal S16384x11008 .f32 :=
  mulf (mulf
    (Host.dotGeneral dot_S16384x4096_S4096x11008_S16384x11008_1_0_0_1_n_n none H (shapeCast _ wg shapeCasts_S1x4096x11008_S4096x11008))
    (Host.divf (broadcastInDim S16384x11008 ![] bcast_S_S16384x11008 (constant S_ .f32 0x3F800000#32))
      (addf (broadcastInDim S16384x11008 ![] bcast_S_S16384x11008 (constant S_ .f32 0x3F800000#32))
        (Host.exp (Host.negf (Host.dotGeneral dot_S16384x4096_S4096x11008_S16384x11008_1_0_0_1_n_n none H (shapeCast _ wg shapeCasts_S1x4096x11008_S4096x11008)))))))
    (Host.dotGeneral dot_S16384x4096_S4096x11008_S16384x11008_1_0_0_1_n_n none H (shapeCast _ wu shapeCasts_S1x4096x11008_S4096x11008))

/-- The reference's residual stream after the feed-forward layer. -/
abbrev stream (X : FVec Ideal S16384x4096 .f32) (M : FVec Ideal S16384x11008 .f32) (wd : FVec Ideal S1x11008x4096 .f32) :
    FVec Ideal S16384x4096 .f32 :=
  addf X (Host.dotGeneral dot_S16384x11008_S11008x4096_S16384x4096_1_0_0_1_n_n none M (shapeCast _ wd shapeCasts_S1x11008x4096_S11008x4096))

/-- The reference's result as a function of its six arguments. -/
abbrev target (X : FVec Ideal S16384x4096 .f32) (g : FVec Ideal S1x4096 .f32) (wg wu : FVec Ideal S1x4096x11008 .f32)
    (wd : FVec Ideal S1x11008x4096 .f32) (gf : FVec Ideal S4096 .f32) : FVec Ideal S16384x4096 .f32 :=
  normed (stream X (middle (normed X (shapeCast _ g shapeCasts_S1x4096_S4096)) wg wu) wd) gf

end Cert.FfnRefIdeal.Hand
namespace Cert.FfnIdeal.Hand
open Cert.FfnIdeal Cert.FfnIdeal.Gen

variable (m : (ℓ : Loc nD τ sig) → Buf (Elt Ideal) ℓ)

/-! ## The normalisation of one row -/

/-- Entry `k` of a row `v` normalised by its root mean square and scaled by `g`. -/
def nrm (v g : Fin 4096 → Ideal .f32) (k : Fin 4096) : Ideal .f32 :=
  v k * Ideal.rsqrt (Ideal.div (∑ x, v x * v x) (Ideal.ofBits FTy.f32 1166016512#32) + Ideal.ofBits FTy.f32 897988541#32) * g k

theorem normed_apply (X g) (r k) : Cert.FfnRefIdeal.Hand.normed X g (ix2 r k) = nrm (fun k => X (ix2 r k)) (fun k => g (ix1 k)) k := by
  unfold nrm; pointwise [Cert.FfnRefIdeal.Hand.normed]
theorem pay3_apply (X g) (r k) : k0_pay3 (F := Ideal) X g (ix2 r k) = nrm (fun k => X (ix2 r k)) (fun k => g (ix2 0 k)) k := by
  unfold nrm; pointwise [k0_pay3]
theorem pay6_apply (X g) (r k) : k0_pay6 (F := Ideal) (k0_pay4 X) (k0_pay5 g) (ix2 r k) = nrm (fun k => X (ix2 r k)) (fun k => g (ix2 0 k)) k := by
  unfold nrm; pointwise [k0_pay6, k0_pay4, k0_pay5]
theorem pay7_apply (X g) (r k) : k0_pay7 (F := Ideal) X g (ix2 r k) = nrm (fun k => X (ix2 r k)) (fun k => g (ix2 0 k)) k := by
  unfold nrm; pointwise [k0_pay7]
theorem pay10_apply (X g) (r k) : k0_pay10 (F := Ideal) X (k0_pay8 g) (k0_pay9 X) (FloatOps.ofBits FTy.f32 897988541#32) (ix2 r k)
    = nrm (fun k => X (ix2 r k)) (fun k => g (ix2 0 k)) k := by
  unfold nrm; pointwise [k0_pay10, k0_pay8, k0_pay9]
theorem pay17_apply (X g) (r k) : k0_pay17 (F := Ideal) (k0_pay13 X) (k0_pay14 g) (k0_pay15 X) k0_pay16 (ix2 r k)
    = nrm (fun k => X (ix2 r k)) (fun k => g (ix2 0 k)) k := by
  unfold nrm; pointwise [k0_pay17, k0_pay13, k0_pay14, k0_pay15, k0_pay16]
theorem pay18_apply (X g) (r k) : k0_pay18 (F := Ideal) X g (ix2 r k) = nrm (fun k => X (ix2 r k)) (fun k => g (ix2 0 k)) k := by
  unfold nrm; pointwise [k0_pay18]
theorem pay19_apply (X g) (r k) : k0_pay19 (F := Ideal) X g (ix2 r k) = nrm (fun k => X (ix2 r k)) (fun k => g (ix2 0 k)) k := by
  unfold nrm; pointwise [k0_pay19]
theorem pay2_apply (X g) (r k) : k0_pay2 (F := Ideal) X g (ix2 r k) = nrm (fun k => X (ix2 r k)) (fun k => g (ix2 0 k)) k := by
  unfold nrm; pointwise [k0_pay2]

/-! ## The blocks a point works on -/

theorem idx : ∀ t : Fin cfg0.N,
    win0_0.index t = ![0, 0] ∧ win0_1.index t = ![0, t.val % 43] ∧ win0_2.index t = ![0, t.val % 43]
      ∧ win0_3.index t = ![t.val % 43, 0] ∧ win0_4.index t = ![0, 0] ∧ win0_5.index t = ![t.val / 43, 0] :=
  (by decide +kernel : ∀ t : Fin grid0.N, _)

theorem row_lt (t : Fin cfg0.N) (r : Fin 1024) : 1024 * (t.val / 43) + r.val < 16384 := by
  have := lt_of t; omega
/-- Row `r` of the tile that point `t` works on. -/
abbrev row (t : Fin cfg0.N) (r : Fin 1024) : Fin 16384 := ⟨1024 * (t.val / 43) + r.val, row_lt t r⟩

/-- What the copy of the tile's rows carries. -/
theorem rows_apply (c : Dev nD) (t : Fin cfg0.N) (off : Fin 2 → ℕ) (e0 : off 0 = 1024 * (t.val / 43)) (e1 : off 1 = 0) (h)
    (r : Fin 1024) (k : Fin 4096) :
    rows (F := Ideal) c (V m c main_arg0) off h (ix2 r k) = m ((c : Thread nD τ).loc main_arg0) (ix2 (row t r) k) := by
  blk_simp [rows]
  entry_read
  rw [ReadAs.apply_same, View.read_apply]
  refine congrArg (m (c, Proc.tc.devRef main_arg0)) ?_
  funext a
  refine Fin.ext ?_
  show off a + 1 * ((ix2 r k : S1024x4096.Idx) a : ℕ) = _
  fin_cases a
  · show off 0 + 1 * r.val = 1024 * (t.val / 43) + r.val
    omega
  · show off 1 + 1 * k.val = k.val
    omega

theorem off_0 (t : Fin cfg0.N) : k0_off1 (grid0.coords t) 0 = 1024 * (t.val / 43) := by
  rw [k0_off1_eq, ← coords0]; rfl
theorem off_1 (t : Fin cfg0.N) : k0_off1 (grid0.coords t) 1 = 0 := by
  rw [k0_off1_eq]; rfl

theorem g_ffn (c : Dev nD) (t : Fin cfg0.N) (k : Fin 4096) :
    iblk m c 0 t (ix2 (0 : Fin 1) k) = m ((c : Thread nD τ).loc main_arg1) (ix2 0 k) := by
  blk_simp [iblk, V]; entry_read; pointwise; blk_ext [idx t]

theorem g_final (c : Dev nD) (t : Fin cfg0.N) (k : Fin 4096) :
    iblk m c 4 t (ix2 (0 : Fin 1) k) = m ((c : Thread nD τ).loc main_arg5) (ix1 k) := by
  blk_simp [iblk, V]; entry_read; pointwise; blk_ext [idx t]

theorem w_gate (c : Dev nD) (t : Fin cfg0.N) (k : Fin 4096) (j : Fin 256) (l : Fin 11008) (hl : l.val = t.val % 43 * 256 + j.val) :
    iblk m c 1 t (ix2 k j) = m ((c : Thread nD τ).loc main_arg2) (ix3 0 k l) := by
  blk_ext! [iblk, V, idx t]
theorem w_up (c : Dev nD) (t : Fin cfg0.N) (k : Fin 4096) (j : Fin 256) (l : Fin 11008) (hl : l.val = t.val % 43 * 256 + j.val) :
    iblk m c 2 t (ix2 k j) = m ((c : Thread nD τ).loc main_arg3) (ix3 0 k l) := by
  blk_ext! [iblk, V, idx t]
theorem w_down (c : Dev nD) (t : Fin cfg0.N) (k : Fin 4096) (j : Fin 256) (l : Fin 11008) (hl : l.val = t.val % 43 * 256 + j.val) :
    iblk m c 3 t (ix2 j k) = m ((c : Thread nD τ).loc main_arg4) (ix3 0 l k) := by
  blk_ext! [iblk, V, idx t]

/-! ## Four chunks of 256 rows -/

/-- Every row of a tile normalised. -/
def nrmTile (A : Vec Ideal S1024x4096 .f32) (g : Vec Ideal S1x4096 .f32) : Vec Ideal S1024x4096 .f32 :=
  fun y => nrm (fun k => A (ix2 (y 0) k)) (fun k => g (ix2 0 k)) (y 1)

/-- Where entry `(r, k)` of the chunk of 256 rows from `o` lies in the tile. -/
theorem chunk_emb (o : ℕ) (inb : ∀ a, (![o, 0] : Fin 2 → ℕ) a + (![256, 4096] : Fin 2 → ℕ) a ≤ S1024x4096.size a)
    (r : Fin 256) (k : Fin 4096) (ho : o + r.val < 1024) :
    (Rect.unit (s := S1024x4096) ![o, 0] ![256, 4096] inb).emb (ix2 r k) = ix2 ⟨o + r.val, ho⟩ k := by
  funext a
  refine Fin.ext ?_
  fin_cases a
  · show o + 1 * r.val = o + r.val
    omega
  · show 0 + 1 * k.val = k.val
    omega

/-- A chunk whose rows are the tile's normalised is the chunk of the normalised tile. -/
theorem chunk (A : Vec Ideal S1024x4096 .f32) (g : Vec Ideal S1x4096 .f32) (o : ℕ)
    (inb : ∀ a, (![o, 0] : Fin 2 → ℕ) a + (![256, 4096] : Fin 2 → ℕ) a ≤ S1024x4096.size a) (P : S256x4096.Idx → Ideal .f32)
    (hP : ∀ r k, P (ix2 r k) = nrm (fun k => View.ld A (Rect.unit ![o, 0] ![256, 4096] inb) (ix2 r k)) (fun k => g (ix2 0 k)) k)
    (x : S256x4096.Idx) : P x = nrmTile A g ((Rect.unit (s := S1024x4096) ![o, 0] ![256, 4096] inb).emb x) := by
  obtain ⟨r, k, rfl⟩ : ∃ r k, x = ix2 r k := ⟨x 0, x 1, (ix2_eta x).symm⟩
  have hb := inb 0
  have ho : o + r.val < 1024 := by
    have h1 : o + 256 ≤ 1024 := hb
    have := r.isLt
    omega
  rw [hP, chunk_emb o inb r k ho]
  refine congrArg (fun f => nrm f _ k) (funext fun k' => ?_)
  exact congrArg A (chunk_emb o inb r k' ho)

/-- The chunks the body stores as it normalises the tokens are those of the normalised tile. -/
theorem chunks_first (R : Vec Ideal S1024x4096 .f32) (g : Vec Ideal S1x4096 .f32) :
    View.PiecesOf (Val := Elt Ideal) (e := .bf16) (nrmTile R g)
      [⟨Rect.unit ![768, 0] ![256, 4096] inb_S1024x4096_S256x4096_768_0,
          k0_pay10 (View.ld R (Rect.unit ![768, 0] ![256, 4096] inb_S1024x4096_S256x4096_768_0)) (k0_pay8 g)
            (k0_pay9 (View.ld R (Rect.unit ![768, 0] ![256, 4096] inb_S1024x4096_S256x4096_768_0))) (FloatOps.ofBits FTy.f32 897988541#32)⟩,
        ⟨Rect.unit ![512, 0] ![256, 4096] inb_S1024x4096_S256x4096_512_0,
          k0_pay7 (View.ld R (Rect.unit ![512, 0] ![256, 4096] inb_S1024x4096_S256x4096_512_0)) g⟩,
        ⟨Rect.unit ![256, 0] ![256, 4096] inb_S1024x4096_S256x4096_256_0,
          k0_pay6 (k0_pay4 (View.ld R (Rect.unit ![256, 0] ![256, 4096] inb_S1024x4096_S256x4096_256_0))) (k0_pay5 g)⟩,
        ⟨Rect.unit ![0, 0] ![256, 4096] inb_S1024x4096_S256x4096_0_0,
          k0_pay3 (View.ld R (Rect.unit ![0, 0] ![256, 4096] inb_S1024x4096_S256x4096_0_0)) g⟩] :=
  ⟨chunk R g 768 _ _ (pay10_apply _ g), chunk R g 512 _ _ (pay7_apply _ g), chunk R g 256 _ _ (pay6_apply _ g), chunk R g 0 _ _ (pay3_apply _ g), trivial⟩

/-- And the chunks it stores as it normalises the result. -/
theorem chunks_last (R : Vec Ideal S1024x4096 .f32) (g : Vec Ideal S1x4096 .f32) :
    View.PiecesOf (Val := Elt Ideal) (e := .f32) (nrmTile R g)
      [⟨Rect.unit ![768, 0] ![256, 4096] inb_S1024x4096_S256x4096_768_0,
          k0_pay2 (View.ld R (Rect.unit ![768, 0] ![256, 4096] inb_S1024x4096_S256x4096_768_0)) g⟩,
        ⟨Rect.unit ![512, 0] ![256, 4096] inb_S1024x4096_S256x4096_512_0,
          k0_pay19 (View.ld R (Rect.unit ![512, 0] ![256, 4096] inb_S1024x4096_S256x4096_512_0)) g⟩,
        ⟨Rect.unit ![256, 0] ![256, 4096] inb_S1024x4096_S256x4096_256_0,
          k0_pay18 (View.ld R (Rect.unit ![256, 0] ![256, 4096] inb_S1024x4096_S256x4096_256_0)) g⟩,
        ⟨Rect.unit ![0, 0] ![256, 4096] inb_S1024x4096_S256x4096_0_0,
          k0_pay17 (k0_pay13 (View.ld R (Rect.unit ![0, 0] ![256, 4096] inb_S1024x4096_S256x4096_0_0))) (k0_pay14 g)
            (k0_pay15 (View.ld R (Rect.unit ![0, 0] ![256, 4096] inb_S1024x4096_S256x4096_0_0))) k0_pay16⟩] :=
  ⟨chunk R g 768 _ _ (pay2_apply _ g), chunk R g 512 _ _ (pay19_apply _ g), chunk R g 256 _ _ (pay18_apply _ g), chunk R g 0 _ _ (pay17_apply _ g), trivial⟩

/-- Stored over a whole block, they leave the normalised tile. -/
theorem canon_last (A : Vec Ideal S1024x4096 .f32) (g : Vec Ideal S1x4096 .f32) (y : S1024x4096.Idx) :
    View.canon (Val := Elt Ideal) (e := .f32)
      [⟨Rect.unit ![768, 0] ![256, 4096] inb_S1024x4096_S256x4096_768_0,
          k0_pay2 (View.ld A (Rect.unit ![768, 0] ![256, 4096] inb_S1024x4096_S256x4096_768_0)) g⟩,
        ⟨Rect.unit ![512, 0] ![256, 4096] inb_S1024x4096_S256x4096_512_0,
          k0_pay19 (View.ld A (Rect.unit ![512, 0] ![256, 4096] inb_S1024x4096_S256x4096_512_0)) g⟩,
        ⟨Rect.unit ![256, 0] ![256, 4096] inb_S1024x4096_S256x4096_256_0,
          k0_pay18 (View.ld A (Rect.unit ![256, 0] ![256, 4096] inb_S1024x4096_S256x4096_256_0)) g⟩,
        ⟨Rect.unit ![0, 0] ![256, 4096] inb_S1024x4096_S256x4096_0_0,
          k0_pay17 (k0_pay13 (View.ld A (Rect.unit ![0, 0] ![256, 4096] inb_S1024x4096_S256x4096_0_0))) (k0_pay14 g)
            (k0_pay15 (View.ld A (Rect.unit ![0, 0] ![256, 4096] inb_S1024x4096_S256x4096_0_0))) k0_pay16⟩,
        ⟨Rect.unit ![0, 0] ![1024, 4096] inb_S1024x4096_S1024x4096_0_0, A⟩] y = nrmTile A g y :=
  View.canon_append_of_piecesOf (nrmTile A g) [_] [_, _, _, _] (chunks_last A g) y (View.cover_of_tiledL _ ![256, 4096] (by sl_kernel_rfl) y)

/-- A load after one store of the whole buffer reads that store. -/
theorem load_rows (v : View sig .tc .vmem S1024x4096 .f32) (w) (r : Rect S1024x4096) :
    v.readCov (Val := Elt Ideal) [⟨Rect.whole S1024x4096, w⟩] r.toLoadRect = View.ld w r :=
  View.readCov_fill v (off := fun _ => 0) (fun a => by simp) w [] r (fun _ => rfl)

/-- Likewise where that store names the whole as a box. -/
theorem load_filled (v : View sig .tc .vmem S1024x4096 .f32) (w) (inb) (r : Rect S1024x4096) :
    v.readCov (Val := Elt Ideal) [⟨Rect.unit ![0, 0] ![1024, 4096] inb, w⟩] r.toLoadRect = View.ld w r :=
  View.readCov_fill v (off := ![0, 0]) inb w [] r (fun a => by fin_cases a <;> rfl)

/-- A load of a later chunk does not see a store of an earlier one. -/
theorem load_later (v : View sig .tc .vmem S1024x4096 .f32) (o o' : ℕ) (inb) (inb') (P) (L : List (View.Piece (Elt Ideal) S1024x4096 .f32)) (h : o + 256 ≤ o') :
    v.readCov (Val := Elt Ideal) (⟨Rect.unit ![o, 0] ![256, 4096] inb, P⟩ :: L) (Rect.unit (s := S1024x4096) ![o', 0] ![256, 4096] inb').toLoadRect
      = v.readCov (Val := Elt Ideal) L (Rect.unit (s := S1024x4096) ![o', 0] ![256, 4096] inb').toLoadRect := by
  rw [View.readCov_eq_canon', View.readCov_eq_canon']
  funext j
  refine View.canon_cons_of_not_mem _ L fun hm => ?_
  have h0 : o' + 1 * (j 0 : ℕ) < o + 256 := ((Rect.mem_set_unit (inb := inb)).mp hm 0).2
  omega

/-- A load of the whole buffer after stores that are the blocks of `G` and fill it reads `G`. -/
theorem load_pieces {e : EltTy} (v : View sig .tc .vmem S1024x4096 e) (G : Vec Ideal S1024x4096 e) (L : List (View.Piece (Elt Ideal) S1024x4096 e)) (inb)
    (h : View.PiecesOf G L) (hc : ∀ y, ∃ q ∈ L, y ∈ q.1.set) :
    v.readCov (Val := Elt Ideal) L (Rect.unit (s := S1024x4096) ![0, 0] ![1024, 4096] inb).toLoadRect = G := by
  have e : View.canon L = G := funext fun y => View.canon_apply_of_pieces G L h.mem y (hc y)
  rw [View.readCov_eq_canon', e]
  funext y
  refine congrArg G (funext fun a => Fin.ext ?_)
  fin_cases a
  · show 0 + 1 * (y 0 : ℕ) = y 0
    omega
  · show 0 + 1 * (y 1 : ℕ) = y 1
    omega

/-! ## The normalised tile -/

/-- The normalised rows of the reference. -/
abbrev hN (c : Dev nD) : FVec Ideal Cert.FfnRefIdeal.S16384x4096 .f32 :=
  Cert.FfnRefIdeal.Hand.normed (m ((c : Thread nD τ).loc main_arg0))
    (shapeCast _ (m ((c : Thread nD τ).loc main_arg1)) Cert.FfnRefIdeal.Gen.shapeCasts_S1x4096_S4096)

/-- The tile's rows of them. -/
abbrev hTile (c : Dev nD) (t : Fin cfg0.N) : Vec Ideal S1024x4096 .bf16 := fun y => hN m c (ix2 (row t (y 0)) (y 1))

theorem scale_apply (g : FVec Ideal Cert.FfnRefIdeal.S1x4096 .f32) (k : Fin 4096) :
    (shapeCast _ g Cert.FfnRefIdeal.Gen.shapeCasts_S1x4096_S4096 : FVec Ideal Cert.FfnRefIdeal.S4096 .f32) (ix1 k) = g (ix2 0 k) := by
  pointwise

theorem hTile_eq (c : Dev nD) (t : Fin cfg0.N) (off : Fin 2 → ℕ) (e0 : off 0 = 1024 * (t.val / 43)) (e1 : off 1 = 0) (h) :
    nrmTile (rows (F := Ideal) c (V m c main_arg0) off h) (iblk m c 0 t) = hTile m c t := by
  funext y
  refine Eq.trans ?_ (normed_apply _ _ _ _).symm
  refine congrArg₂ (fun f g => nrm f g (y 1)) (funext fun k => rows_apply m c t off e0 e1 h _ k) (funext fun k => (g_ffn m c t k).trans (scale_apply _ k).symm)

/-- Inside a tile the row is the same at the point before. -/
theorem hTile_prev (c : Dev nD) (t : Fin cfg0.N) (h : ¬t.val % 43 = 0) : hTile m c ⟨t.val - 1, prev_lt t⟩ = hTile m c t := by
  funext y
  refine congrArg (fun r => hN m c (ix2 r (y 1))) (Fin.ext ?_)
  show 1024 * ((t.val - 1) / 43) + (y 0).val = 1024 * (t.val / 43) + (y 0).val
  omega

theorem hZ (c : Dev nD) (t : Fin cfg0.N) (h) : (afterZ m c t h).2 = hTile m c t := by
  funext y
  unfold afterZ piecesHZ atZ; frame_out
  simp only [load_rows]
  rw [← hTile_eq m c t ![0, 0] (by rw [h]; rfl) rfl inb_S16384x4096_S1024x4096_0_0]
  exact View.canon_apply_of_pieces _ _ (chunks_first _ _).mem y (View.cover_of_tiledL _ ![256, 4096] (by sl_kernel_rfl) y)
theorem hA (c : Dev nD) (t : Fin cfg0.N) (h) : (afterA m c t h).2 = hTile m c t := by
  funext y
  unfold afterA piecesHA atA; frame_out
  simp only [load_rows]
  rw [← hTile_eq m c t (k0_off1 (grid0.coords t)) (off_0 t) (off_1 t) (k0_off1_inb _ ((cond2_iff t).mpr h.2))]
  exact View.canon_apply_of_pieces _ _ (chunks_first _ _).mem y (View.cover_of_tiledL _ ![256, 4096] (by sl_kernel_rfl) y)

/-- After every point the scratch holds the tile's normalised rows. -/
theorem st_h (c : Dev nD) : ∀ (n : ℕ) (hn : n < cfg0.N), (st m c n hn).2 = hTile m c ⟨n, hn⟩ := by
  intro n
  induction n with
  | zero => intro hn; exact (congrArg Prod.snd (st_Z m c ⟨0, hn⟩ rfl)).trans (hZ m c ⟨0, hn⟩ rfl)
  | succ n ih =>
    intro hn
    let t : Fin cfg0.N := ⟨n + 1, hn⟩
    have hN := lt_of t
    have htv : t.val = n + 1 := rfl
    have prev : ¬t.val % 43 = 0 → (st m c (t.val - 1) (prev_lt t)).2 = hTile m c t := fun h =>
      (ih (Nat.lt_of_succ_lt hn)).trans (hTile_prev m c t h)
    by_cases h0 : t.val % 43 = 0
    · exact (congrArg Prod.snd (st_A m c t ⟨by omega, h0⟩)).trans (hA m c t _)
    · by_cases h1 : t.val % 43 < 42
      · exact (congrArg Prod.snd (st_M m c t ⟨by omega, h1⟩)).trans (prev h0)
      · by_cases h2 : t.val < 687
        · exact (congrArg Prod.snd (st_L m c t ⟨by omega, h2⟩)).trans (prev h0)
        · exact (congrArg Prod.snd (st_E m c t (by omega))).trans (prev h0)

/-! ## What a point adds -/

/-- Column `j` of the block of the middle layer that point `t` works on. -/
abbrev col (t : Fin cfg0.N) (j : Fin 256) : Fin 11008 := ⟨t.val % 43 * 256 + j.val, by omega⟩

/-- The middle layer of the reference. -/
abbrev mid (c : Dev nD) : FVec Ideal Cert.FfnRefIdeal.S16384x11008 .f32 :=
  Cert.FfnRefIdeal.Hand.middle (hN m c) (m ((c : Thread nD τ).loc main_arg2)) (m ((c : Thread nD τ).loc main_arg3))

/-- What point `t` adds to the result's entry `(r, k)` of its tile. -/
def part (c : Dev nD) (t : Fin cfg0.N) (y : S1024x4096.Idx) : Ideal .f32 :=
  ∑ j : Fin 256, mid m c (ix2 (row t (y 0)) (col t j)) * m ((c : Thread nD τ).loc main_arg4) (ix3 0 (col t j) (y 1))

theorem middle_apply (H wg wu R l) : Cert.FfnRefIdeal.Hand.middle H wg wu (ix2 R l)
    = (∑ k, H (ix2 R k) * wg (ix3 0 k l)) * Ideal.div 1 (1 + Ideal.exp (-∑ k, H (ix2 R k) * wg (ix3 0 k l))) * ∑ k, H (ix2 R k) * wu (ix3 0 k l) := by
  pointwise [Cert.FfnRefIdeal.Hand.middle]

theorem add_apply (h : Vec Ideal S1024x4096 .bf16) (wg wu : Vec Ideal S4096x256 .bf16) (o : Vec Ideal S1024x4096 .f32) (wd : Vec Ideal S256x4096 .bf16) (r k) :
    k0_pay12 h wg wu o wd (ix2 r k) = o (ix2 r k) + ∑ x, ((∑ i, h (ix2 r i) * wg (ix2 i x)) *
      Ideal.div 1 (1 + Ideal.exp (-∑ i, h (ix2 r i) * wg (ix2 i x))) * ∑ i, h (ix2 r i) * wu (ix2 i x)) * wd (ix2 x k) := by
  pointwise [k0_pay12]
  simp only [zero_sub]

theorem pay12_apply (c : Dev nD) (t : Fin cfg0.N) (o : Vec Ideal S1024x4096 .f32) (y) :
    k0_pay12 (hTile m c t) (iblk m c 1 t) (iblk m c 2 t) o (iblk m c 3 t) y = o y + part m c t y := by
  obtain ⟨r, k, rfl⟩ : ∃ r k, y = ix2 r k := ⟨y 0, y 1, (ix2_eta y).symm⟩
  rw [add_apply]
  refine congrArg (o (ix2 r k) + ·) (Finset.sum_congr rfl fun j _ => ?_)
  have eg : ∀ i, iblk m c 1 t (ix2 i j) = _ := fun i => w_gate m c t i j (col t j) rfl
  have eu : ∀ i, iblk m c 2 t (ix2 i j) = _ := fun i => w_up m c t i j (col t j) rfl
  have sg : (∑ i, hTile m c t (ix2 r i) * iblk m c 1 t (ix2 i j)) = ∑ i, hN m c (ix2 (row t r) i) * m ((c : Thread nD τ).loc main_arg2) (ix3 0 i (col t j)) :=
    Finset.sum_congr rfl fun i _ => congrArg₂ (· * ·) rfl (eg i)
  have su : (∑ i, hTile m c t (ix2 r i) * iblk m c 2 t (ix2 i j)) = ∑ i, hN m c (ix2 (row t r) i) * m ((c : Thread nD τ).loc main_arg3) (ix3 0 i (col t j)) :=
    Finset.sum_congr rfl fun i _ => congrArg₂ (· * ·) rfl (eu i)
  refine congrArg₂ (· * ·) ?_ (w_down m c t k j (col t j) rfl)
  exact (congrArg₂ (fun a b => a * Ideal.div 1 (1 + Ideal.exp (-a)) * b) sg su).trans (middle_apply (hN m c) _ _ (row t r) (col t j)).symm
theorem pay11_apply (c : Dev nD) (t : Fin cfg0.N) (o : Vec Ideal S1024x4096 .f32) (y) :
    k0_pay11 (hTile m c t) (iblk m c 1 t) (iblk m c 2 t) o (iblk m c 3 t) y = o y + part m c t y := pay12_apply m c t o y
theorem pay1_apply (c : Dev nD) (t : Fin cfg0.N) (o : Vec Ideal S1024x4096 .f32) (y) :
    k0_pay1 (hTile m c t) (iblk m c 1 t) (iblk m c 2 t) o (iblk m c 3 t) y = o y + part m c t y := pay12_apply m c t o y

/-! ## The blocks the points leave -/

/-- The chunks of the tokens the body copies into the result's buffer are those of the tile. -/
theorem chunks_copy (R : Vec Ideal S1024x4096 .f32) :
    View.PiecesOf (Val := Elt Ideal) (e := .f32) R
      [⟨Rect.unit ![768, 0] ![256, 4096] inb_S1024x4096_S256x4096_768_0, View.ld R (Rect.unit ![768, 0] ![256, 4096] inb_S1024x4096_S256x4096_768_0)⟩,
        ⟨Rect.unit ![512, 0] ![256, 4096] inb_S1024x4096_S256x4096_512_0, View.ld R (Rect.unit ![512, 0] ![256, 4096] inb_S1024x4096_S256x4096_512_0)⟩,
        ⟨Rect.unit ![256, 0] ![256, 4096] inb_S1024x4096_S256x4096_256_0, View.ld R (Rect.unit ![256, 0] ![256, 4096] inb_S1024x4096_S256x4096_256_0)⟩,
        ⟨Rect.unit ![0, 0] ![256, 4096] inb_S1024x4096_S256x4096_0_0, View.ld R (Rect.unit ![0, 0] ![256, 4096] inb_S1024x4096_S256x4096_0_0)⟩] :=
  ⟨fun _ => rfl, fun _ => rfl, fun _ => rfl, fun _ => rfl, trivial⟩

/-- The tile's rows of the tokens. -/
abbrev xTile (c : Dev nD) (t : Fin cfg0.N) : Vec Ideal S1024x4096 .f32 := fun y => m ((c : Thread nD τ).loc main_arg0) (ix2 (row t (y 0)) (y 1))

theorem rows_eq (c : Dev nD) (t : Fin cfg0.N) (off : Fin 2 → ℕ) (e0 : off 0 = 1024 * (t.val / 43)) (e1 : off 1 = 0) (h) :
    rows (F := Ideal) c (V m c main_arg0) off h = xTile m c t := by
  funext y
  obtain ⟨r, k, rfl⟩ : ∃ r k, y = ix2 r k := ⟨y 0, y 1, (ix2_eta y).symm⟩
  exact rows_apply m c t off e0 e1 h r k

theorem oZ (c : Dev nD) (t : Fin cfg0.N) (h) (y) : (afterZ m c t h).1 y = xTile m c t y + part m c t y := by
  unfold afterZ piecesZ atZ; frame_out
  simp only [load_rows]
  rw [← pay11_apply]
  refine congrFun (congrArg₂ (fun a b => k0_pay11 a _ _ b _) ?_ ?_) y
  · rw [← hTile_eq m c t ![0, 0] (by rw [h]; rfl) rfl inb_S16384x4096_S1024x4096_0_0]
    exact load_pieces _ _ _ _ (chunks_first _ _) (View.cover_of_tiledL _ ![256, 4096] (by sl_kernel_rfl))
  · rw [← rows_eq m c t ![0, 0] (by rw [h]; rfl) rfl inb_S16384x4096_S1024x4096_0_0]
    exact load_pieces _ _ _ _ (chunks_copy _) (View.cover_of_tiledL _ ![256, 4096] (by sl_kernel_rfl))
theorem oA (c : Dev nD) (t : Fin cfg0.N) (h) (y) : (afterA m c t h).1 y = xTile m c t y + part m c t y := by
  unfold afterA piecesA atA; frame_out
  simp only [load_rows]
  rw [← pay11_apply]
  refine congrFun (congrArg₂ (fun a b => k0_pay11 a _ _ b _) ?_ ?_) y
  · rw [← hTile_eq m c t (k0_off1 (grid0.coords t)) (off_0 t) (off_1 t) (k0_off1_inb _ ((cond2_iff t).mpr h.2))]
    exact load_pieces _ _ _ _ (chunks_first _ _) (View.cover_of_tiledL _ ![256, 4096] (by sl_kernel_rfl))
  · rw [← rows_eq m c t (k0_off1 (grid0.coords t)) (off_0 t) (off_1 t) (k0_off1_inb _ ((cond2_iff t).mpr h.2))]
    exact load_pieces _ _ _ _ (chunks_copy _) (View.cover_of_tiledL _ ![256, 4096] (by sl_kernel_rfl))
theorem oM (c : Dev nD) (t : Fin cfg0.N) (h) (p : State Ideal) (hp : p.2 = hTile m c t) (y) :
    (afterM m c t h p).1 y = p.1 y + part m c t y := by
  unfold afterM piecesM atM; frame_out
  rw [read_unread_whole, hp]
  exact pay1_apply m c t _ y

/-- What a last point leaves: the sum over the middle layer's blocks, its rows normalised. -/
theorem oL (c : Dev nD) (t : Fin cfg0.N) (h) (p : State Ideal) (hp : p.2 = hTile m c t) (y) :
    (afterL m c t h p).1 y = nrmTile (fun y => p.1 y + part m c t y) (iblk m c 4 t) y := by
  have e : k0_pay12 p.2 (iblk m c 1 t) (iblk m c 2 t) p.1 (iblk m c 3 t) = fun y => p.1 y + part m c t y := by
    rw [hp]; exact funext fun y => pay12_apply m c t _ y
  unfold afterL piecesL atL; frame_out
  rw [read_unread_whole, e]
  generalize (fun y => p.1 y + part m c t y) = A
  simp (disch := decide) only [↓load_later, load_filled]
  exact canon_last A _ y
theorem oE (c : Dev nD) (t : Fin cfg0.N) (h) (p : State Ideal) (hp : p.2 = hTile m c t) (y) :
    (afterE m c t h p).1 y = nrmTile (fun y => p.1 y + part m c t y) (iblk m c 4 t) y := by
  have e : k0_pay12 p.2 (iblk m c 1 t) (iblk m c 2 t) p.1 (iblk m c 3 t) = fun y => p.1 y + part m c t y := by
    rw [hp]; exact funext fun y => pay12_apply m c t _ y
  unfold afterE piecesE atE; frame_out
  rw [read_unread_whole, e]
  generalize (fun y => p.1 y + part m c t y) = A
  simp (disch := decide) only [↓load_later, load_filled]
  exact canon_last A _ y

/-! ## The sum over a tile's points -/

/-- The result's block before the last normalisation. -/
def acc (c : Dev nD) (n : ℕ) (hn : n < cfg0.N) (y : S1024x4096.Idx) : Ideal .f32 :=
  if n % 43 = 42 then (st m c (n - 1) (Nat.lt_of_le_of_lt (Nat.sub_le _ _) hn)).1 y + part m c ⟨n, hn⟩ y else (st m c n hn).1 y

theorem acc_first (c : Dev nD) (t : Fin cfg0.N) (h : t.val % 43 = 0) (y) : acc m c t.val t.isLt y = xTile m c t y + part m c t y := by
  unfold acc
  rw [if_neg (by omega)]
  by_cases h0 : t.val = 0
  · rw [st_Z m c t h0]; exact oZ m c t h0 y
  · rw [st_A m c t ⟨h0, h⟩]; exact oA m c t ⟨h0, h⟩ y

theorem acc_next (c : Dev nD) (t : Fin cfg0.N) (h : ¬t.val % 43 = 0) (y) :
    acc m c t.val t.isLt y = acc m c (t.val - 1) (prev_lt t) y + part m c t y := by
  unfold acc
  rw [if_neg (show ¬(t.val - 1) % 43 = 42 by omega)]
  by_cases h1 : t.val % 43 = 42
  · rw [if_pos h1]
  · rw [if_neg h1, st_M m c t ⟨by omega, by omega⟩]
    exact oM m c t _ _ ((st_h m c (t.val - 1) (prev_lt t)).trans (hTile_prev m c t h)) y

/-- What the result's buffer holds when it is written back. -/
theorem st_last (c : Dev nD) (t : Fin cfg0.N) (h : t.val % 43 = 42) :
    (st m c t.val t.isLt).1 = nrmTile (acc m c t.val t.isLt) (iblk m c 4 t) := by
  have e : acc m c t.val t.isLt = fun y => (st m c (t.val - 1) (prev_lt t)).1 y + part m c t y := by
    funext y; unfold acc; rw [if_pos h]
  have hp := (st_h m c (t.val - 1) (prev_lt t)).trans (hTile_prev m c t (by omega))
  rw [e]
  funext y
  have hN := lt_of t
  by_cases h2 : t.val < 687
  · rw [st_L m c t ⟨h, h2⟩]; exact oL m c t _ _ hp y
  · rw [st_E m c t (by omega)]; exact oE m c t _ _ hp y

/-- The reference's residual stream. -/
abbrev str (c : Dev nD) : FVec Ideal Cert.FfnRefIdeal.S16384x4096 .f32 :=
  Cert.FfnRefIdeal.Hand.stream (m ((c : Thread nD τ).loc main_arg0)) (mid m c) (m ((c : Thread nD τ).loc main_arg4))

theorem stream_apply (X M wd R k) : Cert.FfnRefIdeal.Hand.stream X M wd (ix2 R k) = X (ix2 R k) + ∑ l, M (ix2 R l) * wd (ix3 0 l k) := by
  pointwise [Cert.FfnRefIdeal.Hand.stream]

/-- Over a tile's 43 points the block becomes the tile's rows of the residual stream. -/
theorem acc_last (c : Dev nD) (t : Fin cfg0.N) (h : t.val % 43 = 42) (y) : acc m c t.val t.isLt y = str m c (ix2 (row t (y 0)) (y 1)) := by
  refine Eq.trans ?_ (stream_apply _ _ _ (row t (y 0)) (y 1)).symm
  rw [Pipeline.eq_sum_fin_of_reset_step_apply_of_flush (fun n hn => acc m c n hn) 43 (fun _ => 0)
    (fun t y => (if t.val % 43 = 0 then xTile m c t y else 0) + part m c t y)
    (fun t h y => by rw [if_pos h, zero_add]; exact acc_first m c t h y)
    (fun t h y => by rw [if_neg h, zero_add]; exact acc_next m c t h y) t h y]
  have hr : ∀ s : Fin 43, row ⟨43 * (t.val / 43) + s.val, Pipeline.run_point_lt_of_flush t h s⟩ (y 0) = row t (y 0) := fun s => by
    refine Fin.ext ?_
    have := s.isLt
    show 1024 * ((43 * (t.val / 43) + s.val) / 43) + (y 0).val = 1024 * (t.val / 43) + (y 0).val
    omega
  rw [zero_add, Finset.sum_add_distrib]
  refine congrArg₂ (· + ·) ?_ ?_
  · rw [Finset.sum_eq_single (0 : Fin 43)]
    · refine (if_pos (show (43 * (t.val / 43) + 0) % 43 = 0 by omega)).trans ?_
      exact congrArg (fun r => m ((c : Thread nD τ).loc main_arg0) (ix2 r (y 1))) (hr 0)
    · intro s _ hs
      have h1 := s.isLt
      have h2 : s.val ≠ 0 := fun e => hs (Fin.ext e)
      exact if_neg (show ¬(43 * (t.val / 43) + s.val) % 43 = 0 by omega)
    · exact fun h => absurd (Finset.mem_univ _) h
  · unfold part
    refine Fin.sum_mul_add_congr fun s j hl => ?_
    have ec : col ⟨43 * (t.val / 43) + s.val, Pipeline.run_point_lt_of_flush t h s⟩ j = ⟨s.val * 256 + j.val, hl⟩ := by
      refine Fin.ext ?_
      have := s.isLt
      show (43 * (t.val / 43) + s.val) % 43 * 256 + j.val = s.val * 256 + j.val
      omega
    rw [hr s, ec]

/-- The array after the call is the reference's result. -/
theorem final (c : Dev nD) : (dats m 0 c).arrAt 5 (cfgs 0).N
    = Cert.FfnRefIdeal.Hand.target (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 5 _ (by decide +kernel) fun t hf y => ?_
  have h : t.val % 43 = 42 := (flush0_5 t).mp hf
  obtain ⟨r, k, rfl⟩ : ∃ r k, y = ix2 r k := ⟨y 0, y 1, (ix2_eta y).symm⟩
  have e : ((cfg0.win 5).blk t).view.emb (ix2 r k) = ix2 (row t r) k := by
    funext a
    refine Fin.ext ?_
    have hi := (idx t).2.2.2.2.2
    fin_cases a
    · show win0_5.index t 0 * 1024 + 1 * r.val = 1024 * (t.val / 43) + r.val
      rw [hi]; show t.val / 43 * 1024 + 1 * r.val = _; omega
    · show win0_5.index t 1 * 4096 + 1 * k.val = k.val
      rw [hi]; show 0 * 4096 + 1 * k.val = _; omega
  rw [e]
  blk_simp
  rw [after0_5, st_last m c t h]
  refine Eq.trans ?_ (normed_apply _ _ _ _).symm
  exact congrArg₂ (fun f g => nrm f g k) (funext fun k => acc_last m c t h (ix2 r k)) (funext fun k => g_final m c t k)

end Cert.FfnIdeal.Hand

end
-- ==== Proof.Conv.Frame.lean ====
module

public import proofs.«01_k».proof.Proof.Gen.ConvIdeal.Frame
public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-!
# The convolution's projections: the run and the frame

The first 43 points each cast one block of the other weights' columns; the 21 points after them leave that window as
they find it, and the last of them writes it back. So the window's buffer holds, from point 42 on, what point 42 left.
-/

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra. -/
local notation "𝕄" => MT nD τ sig Unit (Elt F) ℕ (UR sig nD τ) ℕ

variable (m : (ℓ : Loc nD τ sig) → Buf (Elt F) ℓ) (ρ : Dev nD → PrngReg)

/-! ## Which points store the cast block -/

theorem N_eq : cfg0.N = 64 := N_0
theorem cond_iff : ∀ t : Fin cfg0.N, k0_cond1 (grid0.coords t) = 1#1 ↔ t.val < 43 :=
  (by decide +kernel : ∀ t : Fin grid0.N, k0_cond1 (grid0.coords t) = 1#1 ↔ t.val < 43)
theorem idle_iff : ∀ t : Fin cfg0.N, cfg0.idle 7 (grid0.coords t) = decide (43 ≤ t.val) :=
  (by decide +kernel : ∀ t : Fin grid0.N, idle0 7 (grid0.coords t) = decide (43 ≤ t.val))
theorem flush_iff : ∀ t : Fin cfg0.N, (cfg0.win 7).flush t = true ↔ (t.val < 42 ∨ t.val = 63) :=
  (by decide +kernel : ∀ t : Fin grid0.N, win0_7.flush t = true ↔ (t.val < 42 ∨ t.val = 63))

/-! ## What the body leaves in each result's buffer -/

abbrev rH : Rect S1024x4096 := Rect.unit (s := S1024x4096) ![0, 0] S1024x4096.size inb_S1024x4096_S1024x4096_0_0
abbrev rW : Rect S512x4096 := Rect.unit (s := S512x4096) ![0, 0] S512x4096.size inb_S512x4096_S512x4096_0_0
abbrev rC : Rect S192x4096 := Rect.unit (s := S192x4096) ![0, 0] S192x4096.size inb_S192x4096_S192x4096_0_0
abbrev rO : Rect S1024x512 := Rect.unit (s := S1024x512) ![0, 0] S1024x512.size inb_S1024x512_S1024x512_0_0

def outB (x0 : Vec F S1024x4096 .bf16) (x1 : Vec F S512x4096 .bf16) : Vec F S1024x512 .bf16 :=
  View.canon [⟨rO, k0_pay2 (View.ld x0 rH) (View.ld x1 rW)⟩]
def outX (x0 : Vec F S1024x4096 .bf16) (x2 x3 : Vec F S512x4096 .bf16) : Vec F S1024x512 .bf16 :=
  View.canon [⟨rO, k0_pay3 (View.ld x0 rH) (View.ld x2 rW) (View.ld x3 rW)⟩]
def outC (x4 : Vec F S192x4096 .f32) : Vec F S192x4096 .bf16 :=
  View.canon [⟨rC, k0_pay1 (View.ld x4 rC)⟩]

theorem coverO (p0 : Vec F S1024x512 .bf16) (y : S1024x512.Idx) :
    ∃ pc ∈ ([⟨rO, p0⟩] : List (View.Piece (Elt F) S1024x512 .bf16)), y ∈ pc.1.set :=
  View.cover_of_tiled [⟨rO, p0⟩] S1024x512.size (by rfl) y
theorem coverC (p0 : Vec F S192x4096 .bf16) (y : S192x4096.Idx) :
    ∃ pc ∈ ([⟨rC, p0⟩] : List (View.Piece (Elt F) S192x4096 .bf16)), y ∈ pc.1.set :=
  View.cover_of_tiled [⟨rC, p0⟩] S192x4096.size (by rfl) y

/-! ## The body's triple, where it stores the cast block and where it does not -/

set_option maxHeartbeats 1000000 in
/-- A point that casts a block. -/
theorem tripleA (c : Dev nD) (i : grid0.Coords) (arg2 : Memref sig .tc .vmem S1024x4096 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S512x4096 .bf16) (harg5 : arg5.IsWhole) (arg6 : Memref sig .tc .vmem S192x4096 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S192x4096 .bf16) (harg9 : arg9.IsWhole) (hc : k0_cond1 i = 1#1)
    (x0 : Vec F S1024x4096 .bf16) (x1 x2 x3 : Vec F S512x4096 .bf16) (x4 : Vec F S192x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outB x0 x1) ∗ owns (c : Thread nD τ) arg8 fullShare (outX x0 x2 x3) ∗ owns (c : Thread nD τ) arg9 fullShare (outC x4)) -∗ K ⟨⟩))
      ⊢ wp frame (wpE (defs₀ (F := F)) Variants.none c none) Set.univ (cc0_conv_proj i arg2 harg2 arg3 harg3 arg4 harg4 arg5 harg5 arg6 harg6 arg7 harg7 arg8 harg8 arg9 harg9) K := by
  simp only [cc0_conv_proj_eq_skeleton]; unfold cc0_conv_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO _)
  isplitl [H6]
  · iexists _; isplitr
    swap; · iexact H6
    ipureintro
    exact View.read_writes_eq_canon _ _ _ (coverO _)
  iexists _; isplitr
  swap; · iexact H7
  ipureintro
  exact View.read_writes_eq_canon _ _ _ (coverC _)

set_option maxHeartbeats 1000000 in
/-- A point that casts none. -/
theorem tripleB (c : Dev nD) (i : grid0.Coords) (arg2 : Memref sig .tc .vmem S1024x4096 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S512x4096 .bf16) (harg5 : arg5.IsWhole) (arg6 : Memref sig .tc .vmem S192x4096 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S192x4096 .bf16) (harg9 : arg9.IsWhole) (hc : ¬k0_cond1 i = 1#1)
    (x0 : Vec F S1024x4096 .bf16) (x1 x2 x3 : Vec F S512x4096 .bf16) (x4 : Vec F S192x4096 .f32) (x7 : Vec F S192x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outB x0 x1) ∗ owns (c : Thread nD τ) arg8 fullShare (outX x0 x2 x3) ∗ owns (c : Thread nD τ) arg9 fullShare x7) -∗ K ⟨⟩))
      ⊢ wp frame (wpE (defs₀ (F := F)) Variants.none c none) Set.univ (cc0_conv_proj i arg2 harg2 arg3 harg3 arg4 harg4 arg5 harg5 arg6 harg6 arg7 harg7 arg8 harg8 arg9 harg9) K := by
  simp only [cc0_conv_proj_eq_skeleton]; unfold cc0_conv_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0 hf1 hf2 hf3 hf4
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO _)
  isplitl [H6]
  · iexists _; isplitr
    swap; · iexact H6
    ipureintro
    exact View.read_writes_eq_canon _ _ _ (coverO _)
  iexists f7; isplitr; · ipureintro; exact hf7
  iexact H7

/-! ## The proof data -/

/-- The point whose cast block the third result's buffer holds after point `t`. -/
def upTo (t : Fin cfg0.N) : Fin cfg0.N := ⟨min t.val 42, by have := t.isLt; omega⟩
theorem upTo_lt (t : Fin cfg0.N) (h : t.val < 43) : upTo t = t := Fin.ext (by show min t.val 42 = t.val; omega)
theorem upTo_ge (t s : Fin cfg0.N) (ht : 42 ≤ t.val) (hs : 42 ≤ s.val) : upTo t = upTo s :=
  Fin.ext (by show min t.val 42 = min s.val 42; omega)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB (iblk m c 0 t) (iblk m c 1 t)
    | ⟨6, _⟩ => outX (iblk m c 0 t) (iblk m c 2 t) (iblk m c 3 t)
    | ⟨7, _⟩ => outC (iblk m c 4 (upTo t))
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB (iblk m c 0 t) (iblk m c 1 t) := by dsimp only [dats]
theorem after0_6 (c : Dev nD) (t : Fin cfg0.N) : (dats m 0 c).after 6 t = outX (iblk m c 0 t) (iblk m c 2 t) (iblk m c 3 t) := by dsimp only [dats]
theorem after0_7 (c : Dev nD) (t : Fin cfg0.N) : (dats m 0 c).after 7 t = outC (iblk m c 4 (upTo t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- From point 43 on the third result's buffer holds what point 42 left. -/
theorem before0_7 (c : Dev nD) : ∀ (n : ℕ) (t : Fin cfg0.N), t.val = 43 + n → ∀ d, (dats m 0 c).before 7 t d = (dats m 0 c).after 7 t := by
  intro n
  induction n with
  | zero =>
    intro t ht d
    have hN := t.isLt
    have e := N_eq
    rw [(dats m 0 c).before_of_pos 7 t (by omega) ((cfg0.win 7).fetch_out rfl t) d,
      if_neg (fun h => by have := (flush_iff _).mp h; dsimp only at this; omega)]
    unfold Dat.left
    rw [show cfg0.idle 7 (cfg0.grid.coords ⟨t.val - 1, Nat.lt_of_le_of_lt (Nat.sub_le _ _) t.isLt⟩) = false from
      (idle_iff _).trans (decide_eq_false (by dsimp only; omega))]
    refine Eq.trans ?_ ((after0_7 m c ⟨t.val - 1, Nat.lt_of_le_of_lt (Nat.sub_le _ _) t.isLt⟩).trans ?_)
    · rfl
    · rw [after0_7, upTo_ge _ t (by dsimp only; omega) (by omega)]
  | succ n ih =>
    intro t ht d
    have hN := t.isLt
    have e := N_eq
    rw [(dats m 0 c).before_of_pos 7 t (by omega) ((cfg0.win 7).fetch_out rfl t) d,
      if_neg (fun h => by have := (flush_iff _).mp h; dsimp only at this; omega)]
    unfold Dat.left
    rw [show cfg0.idle 7 (cfg0.grid.coords ⟨t.val - 1, Nat.lt_of_le_of_lt (Nat.sub_le _ _) t.isLt⟩) = true from
      (idle_iff _).trans (decide_eq_true (by dsimp only; omega))]
    refine (ih _ (by dsimp only; omega) d).trans ?_
    rw [after0_7, after0_7, upTo_ge _ t (by dsimp only; omega) (by omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t)

/-- The third result's buffer at what it holds after the point, as the pipeline asks for it. -/
theorem leaves7 (c : Dev nD) (t : Fin cfg0.N) :
    owns (c : Thread nD τ) (st0_7 t) fullShare ((dats m 0 c).after 7 t) ⊢ ((dats m 0 c).leavesExact 7 t : sProp 𝕄) := by
  by_cases h : t.val < 43
  · unfold Dat.leavesExact
    rw [show cfg0.idle 7 (cfg0.grid.coords t) = false from (idle_iff t).trans (decide_eq_false (by omega))]
  · by_cases hl : t.val = 63
    · unfold Dat.leavesExact
      rw [show cfg0.idle 7 (cfg0.grid.coords t) = true from (idle_iff t).trans (decide_eq_true (by omega)),
        (flush_iff t).mpr (Or.inr hl)]
    · rw [(dats m 0 c).leavesExact_idle 7 t ((idle_iff t).trans (decide_eq_true (by omega)))
        (by rw [← Bool.not_eq_true, flush_iff]; omega)]
      iintro H
      iexists (dats m 0 c).after 7 t
      rw [before0_7 m c (t.val - 43) t (by omega)]
      iexact H

theorem bodyA (c : Dev nD) (t : Fin cfg0.N) (h : t.val < 43) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (tripleA c (grid0.coords t) _ _ _ _ _ _ _ _ _ _ _ _ _ _ _ _ ((cond_iff t).mpr h) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t)
  rw [after0_7, upTo_lt t h]
  iexact H7

theorem bodyB (c : Dev nD) (t : Fin cfg0.N) (h : 43 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_7 m c (t.val - 43) t (by omega), after0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (tripleB c (grid0.coords t) _ _ _ _ _ _ _ _ _ _ _ _ _ _ _ _ (fun k => absurd ((cond_iff t).mp k) (by omega)) (iblk m c 0 t) (iblk m c 1 t) (iblk m c 2 t) (iblk m c 3 t) (iblk m c 4 t) _ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t)
  rw [after0_7]
  iexact H7

theorem sound_body (c : Dev nD) (t : Fin cfg0.N) :
    bodyPre m c t ⊢ wp frame (wpE (defs₀ (F := F)) Variants.none c none) Set.univ (bodyAt0 t) (fun _ => bodyPost m c t) := by
  by_cases h : t.val < 43
  · exact bodyA m c t h
  · exact bodyB m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- What the run leaves, without the counters. -/
theorem run_post : θ_run defs (onTc (τ := τ) (main (F := F))) (s₀ m ρ) (Pipeline.FramePost cfgs (dats m) 0 (V m)) :=
  (θ_run defs _ _).mono (fun _ h => h.1) (run_main m ρ)

/-- The frame, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_post m ρ)) ((θ_run defs _ _).mono (fun _ h => h.2) (run_main m ρ))

end Cert.ConvIdeal.Hand

end
-- ==== Proof.Conv.Bits.lean ====
module

public import proofs.«01_k».proof.Defs
public import proofs.«01_k».proof.Proof.Gen.Conv
public import proofs.«01_k».proof.Proof.Conv.Frame

/-! # The convolution projections' call at bits

The program read at bits and the one read at the ideal instance are one text, so the run proved over any float values
is the run of both. -/

@[expose] public section

noncomputable section

open Idealize.ShloMosaic Idealize.ShloMosaic.TcCoe Idealize.SL.Sem

namespace Cert.Conv.Hand

theorem defs₀_eq : (Cert.Conv.defs₀ (F := Bits)) = Cert.ConvIdeal.defs₀ (F := Bits) := by
  unfold Cert.Conv.defs₀ Cert.ConvIdeal.defs₀
  refine congrArg Defs.onTc ?_
  funext ℓ a
  match ℓ, a with
  | 0, (t, s) => rfl

theorem defs_eq : (Cert.Conv.defs (F := Bits)) = Cert.ConvIdeal.defs (F := Bits) :=
  congrArg (Pipeline.defs (Cert.ConvIdeal.pcfgs (F := Bits))) defs₀_eq

theorem frame : Cert.quiescent_Conv := fun m ρ _ => by
  have h := Cert.ConvIdeal.Hand.frame (F := Bits) m ρ
  rw [← defs_eq] at h
  exact h

end Cert.Conv.Hand

end
-- ==== Proof.Conv.Value.lean ====
module

public import proofs.«01_k».proof.Proof.Conv.Frame
public import proofs.«01_k».proof.Proof.Gen.ConvRefIdeal.Run
public import Idealize.ShloMosaic.Lib.Pipeline.ValueKit
public import Idealize.ShloMosaic.Lib.Claim
public import Idealize.ShloMosaic.Lib.Pointwise

/-! # The convolution's projections: what their three result arrays hold after the call -/

@[expose] public section

set_option maxRecDepth 16384

noncomputable section

open Idealize.ShloMosaic Idealize.ShloMosaic.TcCoe Idealize.SL.Sem
open Idealize.ShloMosaic.Pipeline (Dat)

namespace Cert.ConvRefIdeal.Hand
open Cert.ConvRefIdeal Cert.ConvRefIdeal.Gen

/-- The gate of the short convolution. -/
abbrev gate (h : FVec Ideal S16384x4096 .bf16) (w : FVec Ideal S1x4096x15936 .f32) : FVec Ideal S16384x2048 .bf16 :=
  truncf .bf16 (extractStridedSlice S16384x2048 ![0, 0] (Host.dotGeneral dot_S16384x4096_S4096x15936_S16384x15936_1_0_0_1_n_n none (extf .f32 h bitsLt_bf16_f32) (shapeCast _ w shapeCasts_S1x4096x15936_S4096x15936)) slices_S16384x15936_S16384x2048_0_0) bitsLt_bf16_f32

/-- What the short convolution runs over: the product of two projections. -/
abbrev input (h : FVec Ideal S16384x4096 .bf16) (w : FVec Ideal S1x4096x15936 .f32) : FVec Ideal S16384x2048 .bf16 :=
  truncf .bf16 (mulf (extractStridedSlice S16384x2048 ![0, 2048] (Host.dotGeneral dot_S16384x4096_S4096x15936_S16384x15936_1_0_0_1_n_n none (extf .f32 h bitsLt_bf16_f32) (shapeCast _ w shapeCasts_S1x4096x15936_S4096x15936)) slices_S16384x15936_S16384x2048_0_2048) (extractStridedSlice S16384x2048 ![0, 4096] (Host.dotGeneral dot_S16384x4096_S4096x15936_S16384x15936_1_0_0_1_n_n none (extf .f32 h bitsLt_bf16_f32) (shapeCast _ w shapeCasts_S1x4096x15936_S4096x15936)) slices_S16384x15936_S16384x2048_0_4096)) bitsLt_bf16_f32

/-- The other columns of the input projection, as rows, cast. -/
abbrev tail (w : FVec Ideal S1x4096x15936 .f32) : FVec Ideal S8256x4096 .bf16 :=
  truncf .bf16 (transpose S8256x4096 [1, 0] (extractStridedSlice S4096x8256 ![0, 7680] (shapeCast _ w shapeCasts_S1x4096x15936_S4096x15936) slices_S4096x15936_S4096x8256_0_7680) transposes_S4096x8256_S8256x4096_1_0) bitsLt_bf16_f32

end Cert.ConvRefIdeal.Hand

namespace Cert.ConvIdeal.Hand
open Cert.ConvIdeal Cert.ConvIdeal.Gen
open Cert.ConvRefIdeal.Hand (gate input tail)

variable (m : (ℓ : Loc nD τ sig) → Buf (Elt Ideal) ℓ)

/-- Which block of each array a grid point works on. -/
theorem idx : ∀ t : Fin cfg0.N,
    win0_0.index t = ![t.val / 4, 0] ∧ win0_1.index t = ![t.val % 4, 0] ∧ win0_2.index t = ![t.val % 4 + 4, 0]
      ∧ win0_3.index t = ![t.val % 4 + 8, 0] ∧ win0_4.index t = ![40 + min t.val 42, 0]
      ∧ win0_5.index t = ![t.val / 4, t.val % 4] ∧ win0_6.index t = ![t.val / 4, t.val % 4] ∧ win0_7.index t = ![min t.val 42, 0] :=
  (by decide +kernel : ∀ t : Fin grid0.N, _)

/-- What is stored of the gate at a point is its block of the reference's. -/
theorem pointB (c : Dev nD) (t : Fin cfg0.N) (y) : k0_pay2 (iblk m c 0 t) (iblk m c 1 t) y
    = gate (m ((c : Thread nD τ).loc main_arg0)) (m ((c : Thread nD τ).loc main_arg1)) (((cfg0.win 5).blk t).view.emb y) := by
  pointwise [k0_pay2, gate]
  blk_point [iblk, V, idx t]

theorem final5 (c : Dev nD) : (dats m 0 c).arrAt 5 (cfgs 0).N
    = gate (m ((c : Thread nD τ).loc main_arg0)) (m ((c : Thread nD τ).loc main_arg1)) := by
  refine (dats m 0 c).arrAt_eq_of_covers 5 _ (by decide +kernel) fun t _ y => ?_
  blk_simp
  rw [after0_5]; unfold outB; frame_out
  exact pointB m c t y

/-- What is stored of the product at a point is its block of the reference's. -/
theorem pointX (c : Dev nD) (t : Fin cfg0.N) (y) : k0_pay3 (iblk m c 0 t) (iblk m c 2 t) (iblk m c 3 t) y
    = input (m ((c : Thread nD τ).loc main_arg0)) (m ((c : Thread nD τ).loc main_arg1)) (((cfg0.win 6).blk t).view.emb y) := by
  pointwise [k0_pay3, input]
  blk_point [iblk, V, idx t]

theorem final6 (c : Dev nD) : (dats m 0 c).arrAt 6 (cfgs 0).N
    = input (m ((c : Thread nD τ).loc main_arg0)) (m ((c : Thread nD τ).loc main_arg1)) := by
  refine (dats m 0 c).arrAt_eq_of_covers 6 _ (by decide +kernel) fun t _ y => ?_
  blk_simp
  rw [after0_6]; unfold outX; frame_out
  exact pointX m c t y

theorem idxC (t : Fin cfg0.N) : win0_4.index (upTo t) = ![40 + min t.val 42, 0] := by
  rw [(idx (upTo t)).2.2.2.2.1]
  show ![40 + min (min t.val 42) 42, 0] = _
  rw [min_assoc, min_self]

/-- What is stored of the cast columns at a point is its block of the reference's. -/
theorem pointC (c : Dev nD) (t : Fin cfg0.N) (y) : k0_pay1 (iblk m c 4 (upTo t)) y
    = tail (m ((c : Thread nD τ).loc main_arg1)) (((cfg0.win 7).blk t).view.emb y) := by
  pointwise [k0_pay1, tail]
  blk_point [iblk, V, idx t, idxC t]

theorem final7 (c : Dev nD) : (dats m 0 c).arrAt 7 (cfgs 0).N = tail (m ((c : Thread nD τ).loc main_arg1)) := by
  refine (dats m 0 c).arrAt_eq_of_covers 7 _ (by decide +kernel) fun t _ y => ?_
  blk_simp
  rw [after0_7]; unfold outC; frame_out
  exact pointC m c t y

end Cert.ConvIdeal.Hand

end
-- ==== Proof.Out.Value.lean ====
module

public import proofs.«01_k».proof.Proof.Gen.OutIdeal.Value
public import proofs.«01_k».proof.Proof.Gen.OutRefIdeal.Run
public import Idealize.ShloMosaic.Lib.Pipeline.ValueKit
public import Idealize.ShloMosaic.Lib.Claim
public import Idealize.ShloMosaic.Lib.Pointwise

/-! # The output projection: what the array of the residual stream holds after the call -/

@[expose] public section

set_option maxRecDepth 16384

noncomputable section

open Idealize.ShloMosaic Idealize.ShloMosaic.TcCoe Idealize.SL.Sem
open Idealize.ShloMosaic.Pipeline (Dat)

namespace Cert.OutIdeal.Hand
open Cert.OutIdeal Cert.OutIdeal.Gen

variable (m : (ℓ : Loc nD τ sig) → Buf (Elt Ideal) ℓ)

/-- The reference's result as a function of the merged branches, the output weights and the residual stream. -/
abbrev target (M : FVec Ideal S16384x4096 .bf16) (W : FVec Ideal S1x4096x4096 .f32) (X : FVec Ideal S16384x4096 .f32) :
    FVec Ideal S16384x4096 .f32 :=
  addf X (Host.dotGeneral Cert.OutRefIdeal.dot_S16384x4096_S4096x4096_S16384x4096_1_0_0_1_n_n none
    (extf .f32 M Cert.OutRefIdeal.Gen.bitsLt_bf16_f32) (shapeCast _ W Cert.OutRefIdeal.Gen.shapeCasts_S1x4096x4096_S4096x4096))

/-- Which block of each array a grid point works on. -/
theorem idx : ∀ t : Fin cfg0.N,
    win0_0.index t = ![t.val / 4, 0] ∧ win0_1.index t = ![0, t.val % 4]
      ∧ win0_2.index t = ![t.val / 4, t.val % 4] ∧ win0_3.index t = ![t.val / 4, t.val % 4] :=
  (by decide +kernel : ∀ t : Fin grid0.N, _)

/-- What a grid point stores is its block of the reference's result. -/
theorem point (c : Dev nD) (t : Fin cfg0.N) (y) : k0_pay1 (iblk m c 2 t) (iblk m c 0 t) (iblk m c 1 t) y
    = target (m ((c : Thread nD τ).loc main_arg0)) (m ((c : Thread nD τ).loc main_arg1)) (m ((c : Thread nD τ).loc main_arg2))
        (((cfg0.win 3).blk t).view.emb y) := by
  pointwise [k0_pay1, target]
  blk_point [iblk, V, idx t]

/-- The array after the call is the reference's result. -/
theorem final (c : Dev nD) : (dats m 0 c).arrAt 3 (cfgs 0).N
    = target (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutIdeal.Hand

end
-- ==== Proof.Branch.Value.lean ====
module

public import proofs.«01_k».proof.Proof.Gen.BranchIdeal.Value
public import proofs.«01_k».proof.Proof.Gen.BranchRefIdeal.Run
public import Idealize.ShloMosaic.Lib.Pipeline.ValueKit
public import Idealize.ShloMosaic.Lib.Pipeline.ReadBack
public import Idealize.ShloMosaic.Lib.Claim
public import Idealize.ShloMosaic.Lib.Pointwise

/-! # The branch merge: what the array of the merged branches holds after the call -/

@[expose] public section

set_option maxRecDepth 16384

noncomputable section

open Idealize.ShloMosaic Idealize.ShloMosaic.TcCoe Idealize.SL.Sem
open Idealize.ShloMosaic.Pipeline (Dat)

namespace Cert.BranchRefIdeal.Hand
open Cert.BranchRefIdeal Cert.BranchRefIdeal.Gen

/-- The rows of one sequence with a row of zeros before and after. -/
abbrev padded (u : FVec Ideal S16384x2048 .bf16) : FVec Ideal S4x4098x2048 .f32 :=
  pad S4x4098x2048 ![0, 1, 0] ![0, 1, 0] ![0, 0, 0] (shapeCast _ (extf .f32 u bitsLt_bf16_f32) shapeCasts_S16384x2048_S4x4096x2048)
    (sitofp .f32 (constantI S_ 32 0#32)) pads_S4x4096x2048_S4x4098x2048_000_110_000 h_S_
/-- Weight 0 of the convolution, over every row. -/
abbrev weight0 (cw : FVec Ideal S1x3x2048 .f32) : FVec Ideal S4x4096x2048 .f32 :=
  broadcastInDim S4x4096x2048 ![0, 1, 2] bcast_S1x1x2048_S4x4096x2048_0_1_2
    (broadcastInDim S1x1x2048 ![2] bcast_S2048_S1x1x2048_2 (shapeCast _ (extractStridedSlice S1x2048 ![0, 0] (shapeCast _ cw shapeCasts_S1x3x2048_S3x2048) slices_S3x2048_S1x2048_0_0) shapeCasts_S1x2048_S2048))
/-- Weight 1 of the convolution, over every row. -/
abbrev weight1 (cw : FVec Ideal S1x3x2048 .f32) : FVec Ideal S4x4096x2048 .f32 :=
  broadcastInDim S4x4096x2048 ![0, 1, 2] bcast_S1x1x2048_S4x4096x2048_0_1_2
    (broadcastInDim S1x1x2048 ![2] bcast_S2048_S1x1x2048_2 (shapeCast _ (extractStridedSlice S1x2048 ![1, 0] (shapeCast _ cw shapeCasts_S1x3x2048_S3x2048) slices_S3x2048_S1x2048_1_0) shapeCasts_S1x2048_S2048))
/-- Weight 2 of the convolution, over every row. -/
abbrev weight2 (cw : FVec Ideal S1x3x2048 .f32) : FVec Ideal S4x4096x2048 .f32 :=
  broadcastInDim S4x4096x2048 ![0, 1, 2] bcast_S1x1x2048_S4x4096x2048_0_1_2
    (broadcastInDim S1x1x2048 ![2] bcast_S2048_S1x1x2048_2 (shapeCast _ (extractStridedSlice S1x2048 ![2, 0] (shapeCast _ cw shapeCasts_S1x3x2048_S3x2048) slices_S3x2048_S1x2048_2_0) shapeCasts_S1x2048_S2048))
/-- The first branch: the short convolution of `u` along the sequence, gated by `CB`. -/
abbrev mixed (CB u : FVec Ideal S16384x2048 .bf16) (cw : FVec Ideal S1x3x2048 .f32) : FVec Ideal S4x4096x2048 .f32 :=
  mulf (shapeCast _ (extf .f32 CB bitsLt_bf16_f32) shapeCasts_S16384x2048_S4x4096x2048)
    (addf (addf (mulf (extractStridedSlice S4x4096x2048 ![0, 0, 0] (padded u) slices_S4x4098x2048_S4x4096x2048_0_0_0) (weight0 cw)) (mulf (extractStridedSlice S4x4096x2048 ![0, 1, 0] (padded u) slices_S4x4098x2048_S4x4096x2048_0_1_0) (weight1 cw))) (mulf (extractStridedSlice S4x4096x2048 ![0, 2, 0] (padded u) slices_S4x4098x2048_S4x4096x2048_0_2_0) (weight2 cw)))
/-- The reference's result as a function of its six arguments. -/
abbrev target (CB u yb : FVec Ideal S16384x2048 .bf16) (cw : FVec Ideal S1x3x2048 .f32) (g : FVec Ideal S16384x8192 .bf16)
    (wb : FVec Ideal S1x2x2048x4096 .f32) : FVec Ideal S16384x4096 .bf16 :=
  truncf .bf16 (shapeCast _
    (addf
    (mulf (extractStridedSlice S4x4096x4096 ![0, 0, 0] (shapeCast _ (extf .f32 g bitsLt_bf16_f32) shapeCasts_S16384x8192_S4x4096x8192) slices_S4x4096x8192_S4x4096x4096_0_0_0) (Host.dotGeneral dot_S4x4096x2048_S2048x4096_S4x4096x4096_2_0_01_1_n_n none (mixed CB u cw) (shapeCast _ (extractStridedSlice S1x1x2048x4096 ![0, 0, 0, 0] wb slices_S1x2x2048x4096_S1x1x2048x4096_0_0_0_0) shapeCasts_S1x1x2048x4096_S2048x4096)))
    (mulf (extractStridedSlice S4x4096x4096 ![0, 0, 4096] (shapeCast _ (extf .f32 g bitsLt_bf16_f32) shapeCasts_S16384x8192_S4x4096x8192) slices_S4x4096x8192_S4x4096x4096_0_0_4096) (Host.dotGeneral dot_S4x4096x2048_S2048x4096_S4x4096x4096_2_0_01_1_n_n none (shapeCast _ (extf .f32 yb bitsLt_bf16_f32) shapeCasts_S16384x2048_S4x4096x2048) (shapeCast _ (extractStridedSlice S1x1x2048x4096 ![0, 1, 0, 0] wb slices_S1x2x2048x4096_S1x1x2048x4096_0_1_0_0) shapeCasts_S1x1x2048x4096_S2048x4096)))) shapeCasts_S4x4096x4096_S16384x4096) bitsLt_bf16_f32

/-- Entry `k` of row `n` of an array of rows. -/
def cell (u : FVec Ideal S16384x2048 .bf16) (n : ℕ) (k : Fin 2048) : Ideal .f32 :=
  if h : n < 16384 then u (ix2 ⟨n, h⟩ k) else 0

/-- One entry of the gated short convolution. -/
def mix (CB u : FVec Ideal S16384x2048 .bf16) (cw : FVec Ideal S1x3x2048 .f32) (n : ℕ) (k : Fin 2048) : Ideal .f32 :=
  cell CB n k * ((if n % 4096 = 0 then 0 else cell u (n - 1) k) * cw (ix3 0 0 k) + cell u n k * cw (ix3 0 1 k)
    + (if n % 4096 = 4095 then 0 else cell u (n + 1) k) * cw (ix3 0 2 k))

theorem sitofp_none : (FloatOps.sitofp FTy.f32 0#32 : Ideal .f32) = 0 := by
  show ((((0#32 : BitVec 32).toInt : ℤ) : ℝ) : EReal) = 0
  simp

theorem dite_cell (u : FVec Ideal S16384x2048 .bf16) (k : Fin 2048) (p q : Prop) [Decidable p] [Decidable q] (n j : ℕ)
    (hn : p → n < 16384) (hp : p ↔ ¬q) (hj : p → n = j) :
    (if h : p then u (ix2 ⟨n, hn h⟩ k) else (FloatOps.sitofp FTy.f32 0#32 : Ideal .f32)) = if q then 0 else cell u j k := by
  by_cases h : p
  · obtain rfl := hj h
    rw [dif_pos h, if_neg (hp.mp h), cell, dif_pos (hn h)]
  · rw [dif_neg h, if_pos (not_not.mp (mt hp.mpr h))]; exact sitofp_none

theorem dite_cell' (u : FVec Ideal S16384x2048 .bf16) (k : Fin 2048) (p : Prop) [Decidable p] (n : Fin 16384) (hp : p) :
    (if h : p then u (ix2 n k) else (FloatOps.sitofp FTy.f32 0#32 : Ideal .f32)) = cell u n.val k := by
  rw [dif_pos hp, cell, dif_pos n.isLt]

theorem cell_fin (u : FVec Ideal S16384x2048 .bf16) (n : Fin 16384) (k : Fin 2048) : u (ix2 n k) = cell u n.val k := by
  rw [cell, dif_pos n.isLt]

theorem target_apply (CB u yb cw g wb) (R : Fin 16384) (k : Fin 4096) : target CB u yb cw g wb (ix2 R k)
    = g (ix2 R ⟨k.val, by omega⟩) * ∑ x, mix CB u cw R.val x * wb (ix4 0 0 x k)
      + g (ix2 R ⟨4096 + k.val, by omega⟩) * ∑ x, yb (ix2 R x) * wb (ix4 0 1 x k) := by
  pointwise [target]
  refine congrArg₂ (· + ·) (congrArg (g _ * ·) (Finset.sum_congr rfl fun x _ => congrArg (· * wb (ix4 0 0 x k)) ?_)) rfl
  unfold mix
  have hR := R.isLt
  refine congrArg₂ (· * ·) (cell_fin _ _ _) (congrArg₂ (· + ·) (congrArg₂ (· + ·) ?_ ?_) ?_)
  · exact congrArg (· * cw _) (dite_cell u x _ _ _ _ _ (by omega) (by omega))
  · exact congrArg (· * cw _) (dite_cell' u x _ _ (by omega))
  · exact congrArg (· * cw _) (dite_cell u x _ _ _ _ _ (by omega) (by omega))

end Cert.BranchRefIdeal.Hand

namespace Cert.BranchIdeal.Hand
open Cert.BranchIdeal Cert.BranchIdeal.Gen
open Cert.BranchRefIdeal.Hand (cell mix cell_fin)

variable (m : (ℓ : Loc nD τ sig) → Buf (Elt Ideal) ℓ)

/-! ## One tile of the short convolution -/

/-- One entry of the short convolution within a tile: the row above, the row itself and the row below, each with its weight. -/
def tap (kp kn p n w0 w1 w2 b : Ideal .f32) (u : Fin 1024 → Ideal .f32) (r : Fin 1024) : Ideal .f32 :=
  b * (Scalar.select (IntOp.cmpi .eq (BitVec.ofNat 32 r.val) 0#32) (p * kp) (u ⟨(r.val + 1024 - 1) % 1024, Nat.mod_lt _ (by decide)⟩) * w0
    + u r * w1
    + Scalar.select (IntOp.cmpi .eq (BitVec.ofNat 32 r.val) 1023#32) (n * kn) (u ⟨(r.val + 1024 - 1023) % 1024, Nat.mod_lt _ (by decide)⟩) * w2)

/-- The number of each row. -/
abbrev rowNo : IVec S1024x1 32 := iota Kind.tc S1024x1 32 [0] iota_S1024x1_d0_w32

section
variable (a : BitVec 32) (u : Vec Ideal S1024x512 .bf16) (p n : Vec Ideal S1x512 .bf16) (w0 w1 w2 : Vec Ideal S1x512 .f32)
  (b : Vec Ideal S1024x512 .bf16) (r : Fin 1024) (k : Fin 512)

/-- The convolution's entry from the loads of one chunk of columns. -/
abbrev chunkTap : Ideal .f32 :=
  tap (k0_pay4 a) (k0_pay5 a) (p (ix2 0 k)) (n (ix2 0 k)) (w0 (ix2 0 k)) (w1 (ix2 0 k)) (w2 (ix2 0 k)) (b (ix2 r k)) (fun r => u (ix2 r k)) r

theorem pay10_apply : k0_pay10 rowNo (k0_pay6 u) (k0_pay7 a p) (k0_pay8 a n) k0_pay9 w0 w1 w2 b (ix2 r k) = chunkTap a u p n w0 w1 w2 b r k := by
  unfold chunkTap tap; pointwise [k0_pay10, k0_pay6, k0_pay7, k0_pay8, k0_pay9, rowNo]
theorem pay13_apply : k0_pay13 (k0_pay5 a) rowNo (k0_pay11 u) (k0_pay12 (k0_pay4 a) p) n w0 w1 w2 b (ix2 r k) = chunkTap a u p n w0 w1 w2 b r k := by
  unfold chunkTap tap; pointwise [k0_pay13, k0_pay11, k0_pay12, rowNo]
theorem pay15_apply : k0_pay15 (k0_pay14 (k0_pay4 a) (k0_pay5 a) rowNo u p n w0 w1 w2 b) (ix2 r k) = chunkTap a u p n w0 w1 w2 b r k := by
  unfold chunkTap tap; pointwise [k0_pay15, k0_pay14, rowNo]
theorem pay1_apply : k0_pay1 (k0_pay17 (k0_pay4 a) rowNo u p w0 w1) (k0_pay18 (k0_pay5 a) rowNo u n w2) b (ix2 r k) = chunkTap a u p n w0 w1 w2 b r k := by
  unfold chunkTap tap; pointwise [k0_pay1, k0_pay17, k0_pay18, k0_pay16, rowNo]
end

/-- Where an entry of a box of a two-dimensional array lies in it. -/
theorem box_emb {A B C D : ℕ} (o o' : ℕ) (inb : ∀ a, (![o, o'] : Fin 2 → ℕ) a + (![C, D] : Fin 2 → ℕ) a ≤ (⟨2, ![A, B]⟩ : Shape).size a)
    (r : Fin C) (k : Fin D) (h : o + r.val < A) (h' : o' + k.val < B) :
    (Rect.unit (s := ⟨2, ![A, B]⟩) ![o, o'] ![C, D] inb).emb (ix2 r k) = ix2 ⟨o + r.val, h⟩ ⟨o' + k.val, h'⟩ := by
  funext a
  refine Fin.ext ?_
  fin_cases a
  · show o + 1 * r.val = o + r.val
    omega
  · show o' + 1 * k.val = o' + k.val
    omega

/-- The convolution over a whole tile, from the five blocks it reads. -/
def tapTile (a : BitVec 32) (U : Vec Ideal S1024x2048 .bf16) (P N : Vec Ideal S16x2048 .bf16) (W : Vec Ideal S3x2048 .f32)
    (B : Vec Ideal S1024x2048 .bf16) : Vec Ideal S1024x2048 .bf16 := fun y =>
  tap (k0_pay4 a) (k0_pay5 a) (P (ix2 15 (y 1))) (N (ix2 0 (y 1))) (W (ix2 0 (y 1))) (W (ix2 1 (y 1))) (W (ix2 2 (y 1))) (B y)
    (fun r => U (ix2 r (y 1))) (y 0)

/-- A chunk of columns whose entries are the convolution's is that chunk of the tile. -/
theorem chunk (a : BitVec 32) (U : Vec Ideal S1024x2048 .bf16) (P N : Vec Ideal S16x2048 .bf16) (W : Vec Ideal S3x2048 .f32)
    (B : Vec Ideal S1024x2048 .bf16) (o : ℕ) (iu ip inn i0 i1 i2) (Z : S1024x512.Idx → Ideal .bf16)
    (hZ : ∀ r k, Z (ix2 r k) = chunkTap a (View.ld U (Rect.unit ![0, o] ![1024, 512] iu)) (View.ld P (Rect.unit ![15, o] ![1, 512] ip))
      (View.ld N (Rect.unit ![0, o] ![1, 512] inn)) (View.ld W (Rect.unit ![0, o] ![1, 512] i0)) (View.ld W (Rect.unit ![1, o] ![1, 512] i1))
      (View.ld W (Rect.unit ![2, o] ![1, 512] i2)) (View.ld B (Rect.unit ![0, o] ![1024, 512] iu)) r k)
    (x : S1024x512.Idx) : Z x = tapTile a U P N W B ((Rect.unit (s := S1024x2048) ![0, o] ![1024, 512] iu).emb x) := by
  obtain ⟨r, k, rfl⟩ : ∃ r k, x = ix2 r k := ⟨x 0, x 1, (ix2_eta x).symm⟩
  have hb : o + 512 ≤ 2048 := iu 1
  have hr := r.isLt
  have hk := k.isLt
  have eU : ∀ r : Fin 1024, (Rect.unit (s := S1024x2048) ![0, o] ![1024, 512] iu).emb (ix2 r k) = ix2 r ⟨o + k.val, by omega⟩ := fun r =>
    (box_emb 0 o iu r k (by omega) (by omega)).trans (congrArg (ix2 · _) (Fin.ext (by show 0 + r.val = r.val; omega)))
  rw [hZ, eU]
  unfold chunkTap
  have eP : View.ld P (Rect.unit ![15, o] ![1, 512] ip) (ix2 0 k) = P (ix2 15 ⟨o + k.val, by omega⟩) :=
    congrArg P (box_emb 15 o ip (0 : Fin 1) k (by decide) (by omega))
  have eN : View.ld N (Rect.unit ![0, o] ![1, 512] inn) (ix2 0 k) = N (ix2 0 ⟨o + k.val, by omega⟩) :=
    congrArg N (box_emb 0 o inn (0 : Fin 1) k (by decide) (by omega))
  have e0 : View.ld W (Rect.unit ![0, o] ![1, 512] i0) (ix2 0 k) = W (ix2 0 ⟨o + k.val, by omega⟩) :=
    congrArg W (box_emb 0 o i0 (0 : Fin 1) k (by decide) (by omega))
  have e1 : View.ld W (Rect.unit ![1, o] ![1, 512] i1) (ix2 0 k) = W (ix2 1 ⟨o + k.val, by omega⟩) :=
    congrArg W (box_emb 1 o i1 (0 : Fin 1) k (by decide) (by omega))
  have e2 : View.ld W (Rect.unit ![2, o] ![1, 512] i2) (ix2 0 k) = W (ix2 2 ⟨o + k.val, by omega⟩) :=
    congrArg W (box_emb 2 o i2 (0 : Fin 1) k (by decide) (by omega))
  have eB : View.ld B (Rect.unit ![0, o] ![1024, 512] iu) (ix2 r k) = B (ix2 r ⟨o + k.val, by omega⟩) := congrArg B (eU r)
  have eUU : (fun r => View.ld U (Rect.unit ![0, o] ![1024, 512] iu) (ix2 r k)) = fun r => U (ix2 r ⟨o + k.val, by omega⟩) :=
    funext fun r => congrArg U (eU r)
  rw [eP, eN, e0, e1, e2, eB, eUU]
  rfl

/-- The four chunks of columns the body stores are those of the tile. -/
theorem chunks (a : BitVec 32) (U : Vec Ideal S1024x2048 .bf16) (P N : Vec Ideal S16x2048 .bf16) (W : Vec Ideal S3x2048 .f32)
    (B : Vec Ideal S1024x2048 .bf16) : View.PiecesOf (Val := Elt Ideal) (e := .bf16) (tapTile a U P N W B)
      [⟨Rect.unit ![0, 1536] ![1024, 512] inb_S1024x2048_S1024x512_0_1536,
          k0_pay1
            (k0_pay17 (k0_pay4 a) (iota Kind.tc S1024x1 32 [0] iota_S1024x1_d0_w32)
              (View.ld U (Rect.unit ![0, 1536] ![1024, 512] inb_S1024x2048_S1024x512_0_1536))
              (View.ld P (Rect.unit ![15, 1536] ![1, 512] inb_S16x2048_S1x512_15_1536))
              (View.ld W (Rect.unit ![0, 1536] ![1, 512] inb_S3x2048_S1x512_0_1536))
              (View.ld W (Rect.unit ![1, 1536] ![1, 512] inb_S3x2048_S1x512_1_1536)))
            (k0_pay18 (k0_pay5 a) (iota Kind.tc S1024x1 32 [0] iota_S1024x1_d0_w32)
              (View.ld U (Rect.unit ![0, 1536] ![1024, 512] inb_S1024x2048_S1024x512_0_1536))
              (View.ld N (Rect.unit ![0, 1536] ![1, 512] inb_S16x2048_S1x512_0_1536))
              (View.ld W (Rect.unit ![2, 1536] ![1, 512] inb_S3x2048_S1x512_2_1536)))
            (View.ld B (Rect.unit ![0, 1536] ![1024, 512] inb_S1024x2048_S1024x512_0_1536))⟩,
        ⟨Rect.unit ![0, 1024] ![1024, 512] inb_S1024x2048_S1024x512_0_1024,
          k0_pay15
            (k0_pay14 (k0_pay4 a) (k0_pay5 a)
              (iota Kind.tc S1024x1 32 [0] iota_S1024x1_d0_w32)
              (View.ld U (Rect.unit ![0, 1024] ![1024, 512] inb_S1024x2048_S1024x512_0_1024))
              (View.ld P (Rect.unit ![15, 1024] ![1, 512] inb_S16x2048_S1x512_15_1024))
              (View.ld N (Rect.unit ![0, 1024] ![1, 512] inb_S16x2048_S1x512_0_1024))
              (View.ld W (Rect.unit ![0, 1024] ![1, 512] inb_S3x2048_S1x512_0_1024))
              (View.ld W (Rect.unit ![1, 1024] ![1, 512] inb_S3x2048_S1x512_1_1024))
              (View.ld W (Rect.unit ![2, 1024] ![1, 512] inb_S3x2048_S1x512_2_1024))
              (View.ld B (Rect.unit ![0, 1024] ![1024, 512] inb_S1024x2048_S1024x512_0_1024)))⟩,
        ⟨Rect.unit ![0, 512] ![1024, 512] inb_S1024x2048_S1024x512_0_512,
          k0_pay13 (k0_pay5 a) (iota Kind.tc S1024x1 32 [0] iota_S1024x1_d0_w32)
            (k0_pay11 (View.ld U (Rect.unit ![0, 512] ![1024, 512] inb_S1024x2048_S1024x512_0_512)))
            (k0_pay12 (k0_pay4 a)
              (View.ld P (Rect.unit ![15, 512] ![1, 512] inb_S16x2048_S1x512_15_512)))
            (View.ld N (Rect.unit ![0, 512] ![1, 512] inb_S16x2048_S1x512_0_512))
            (View.ld W (Rect.unit ![0, 512] ![1, 512] inb_S3x2048_S1x512_0_512))
            (View.ld W (Rect.unit ![1, 512] ![1, 512] inb_S3x2048_S1x512_1_512))
            (View.ld W (Rect.unit ![2, 512] ![1, 512] inb_S3x2048_S1x512_2_512))
            (View.ld B (Rect.unit ![0, 512] ![1024, 512] inb_S1024x2048_S1024x512_0_512))⟩,
        ⟨Rect.unit ![0, 0] ![1024, 512] inb_S1024x2048_S1024x512_0_0,
          k0_pay10 (iota Kind.tc S1024x1 32 [0] iota_S1024x1_d0_w32)
            (k0_pay6 (View.ld U (Rect.unit ![0, 0] ![1024, 512] inb_S1024x2048_S1024x512_0_0)))
            (k0_pay7 a
              (View.ld P (Rect.unit ![15, 0] ![1, 512] inb_S16x2048_S1x512_15_0)))
            (k0_pay8 a
              (View.ld N (Rect.unit ![0, 0] ![1, 512] inb_S16x2048_S1x512_0_0)))
            k0_pay9 (View.ld W (Rect.unit ![0, 0] ![1, 512] inb_S3x2048_S1x512_0_0))
            (View.ld W (Rect.unit ![1, 0] ![1, 512] inb_S3x2048_S1x512_1_0))
            (View.ld W (Rect.unit ![2, 0] ![1, 512] inb_S3x2048_S1x512_2_0))
            (View.ld B (Rect.unit ![0, 0] ![1024, 512] inb_S1024x2048_S1024x512_0_0))⟩] :=
  ⟨chunk a U P N W B 1536 _ _ _ _ _ _ _ (pay1_apply a _ _ _ _ _ _ _), chunk a U P N W B 1024 _ _ _ _ _ _ _ (pay15_apply a _ _ _ _ _ _ _),
    chunk a U P N W B 512 _ _ _ _ _ _ _ (pay13_apply a _ _ _ _ _ _ _), chunk a U P N W B 0 _ _ _ _ _ _ _ (pay10_apply a _ _ _ _ _ _ _), trivial⟩

/-- A load of the whole buffer after stores that are the blocks of `G` and fill it reads `G`. -/
theorem load_pieces {e : EltTy} (v : View sig .tc .vmem S1024x2048 e) (G : Vec Ideal S1024x2048 e) (L : List (View.Piece (Elt Ideal) S1024x2048 e)) (inb)
    (h : View.PiecesOf G L) (hc : ∀ y, ∃ q ∈ L, y ∈ q.1.set) :
    v.readCov (Val := Elt Ideal) L (Rect.unit (s := S1024x2048) ![0, 0] ![1024, 2048] inb).toLoadRect = G := by
  have e : View.canon L = G := funext fun y => View.canon_apply_of_pieces G L h.mem y (hc y)
  rw [View.readCov_eq_canon', e]
  funext y
  obtain ⟨r, k, rfl⟩ : ∃ r k, y = ix2 r k := ⟨y 0, y 1, (ix2_eta y).symm⟩
  have := r.isLt
  have := k.isLt
  exact congrArg G ((box_emb 0 0 inb r k (by omega) (by omega)).trans (congrArg₂ ix2 (Fin.ext (by show 0 + r.val = r.val; omega)) (Fin.ext (by show 0 + k.val = k.val; omega))))

/-! ## The blocks a point works on -/

theorem lt_of (t : Fin cfg0.N) : t.val < 128 := lt_of_lt_of_eq t.isLt N_0

theorem idx : ∀ t : Fin cfg0.N,
    win0_0.index t = ![t.val / 8, 0] ∧ win0_1.index t = ![t.val / 8, 0] ∧ win0_2.index t = ![64 * (t.val / 8) - 1, 0]
      ∧ win0_3.index t = ![min (64 * (t.val / 8) + 64) 1023, 0] ∧ win0_4.index t = ![t.val / 8, 0] ∧ win0_5.index t = ![0, 0]
      ∧ win0_6.index t = ![t.val / 8, t.val % 8] ∧ win0_7.index t = ![t.val / 8, t.val % 8 + 8]
      ∧ win0_8.index t = ![0, 0, t.val % 8] ∧ win0_9.index t = ![1, 0, t.val % 8] ∧ win0_10.index t = ![t.val / 8, t.val % 8] :=
  (by decide +kernel : ∀ t : Fin grid0.N, _)

theorem coords0 : ∀ t : Fin cfg0.N, ((grid0.coords t) 0).val = t.val / 8 := (by decide +kernel : ∀ t : Fin grid0.N, _)

theorem row_lt (t : Fin cfg0.N) (r : Fin 1024) : 1024 * (t.val / 8) + r.val < 16384 := by
  have := lt_of t; omega

theorem cb_apply (c : Dev nD) (t : Fin cfg0.N) (r : Fin 1024) (k : Fin 2048) :
    iblk m c 0 t (ix2 r k) = m ((c : Thread nD τ).loc main_arg0) (ix2 ⟨1024 * (t.val / 8) + r.val, row_lt t r⟩ k) := by
  blk_ext! [iblk, V, idx t]
theorem u_apply (c : Dev nD) (t : Fin cfg0.N) (r : Fin 1024) (k : Fin 2048) :
    iblk m c 1 t (ix2 r k) = m ((c : Thread nD τ).loc main_arg1) (ix2 ⟨1024 * (t.val / 8) + r.val, row_lt t r⟩ k) := by
  blk_ext! [iblk, V, idx t]
theorem prev_apply (c : Dev nD) (t : Fin cfg0.N) (k : Fin 2048) (l : Fin 16384) (hl : l.val = (64 * (t.val / 8) - 1) * 16 + 15) :
    iblk m c 2 t (ix2 15 k) = m ((c : Thread nD τ).loc main_arg1) (ix2 l k) := by
  blk_ext! [iblk, V, idx t]
theorem next_apply (c : Dev nD) (t : Fin cfg0.N) (k : Fin 2048) (l : Fin 16384) (hl : l.val = min (64 * (t.val / 8) + 64) 1023 * 16) :
    iblk m c 3 t (ix2 0 k) = m ((c : Thread nD τ).loc main_arg1) (ix2 l k) := by
  blk_ext! [iblk, V, idx t]
theorem w_apply (c : Dev nD) (t : Fin cfg0.N) (j : Fin 3) (k : Fin 2048) :
    iblk m c 5 t (ix2 j k) = m ((c : Thread nD τ).loc main_arg3) (ix3 0 j k) := by
  blk_ext! [iblk, V, idx t]

/-! ## The tile against the reference's convolution -/

theorem keep_prev : ∀ i : Fin 16, k0_pay4 (F := Ideal) (BitVec.ofNat 32 i.val) = if i.val % 4 = 0 then 0 else 1 := by
  have h : ∀ i : Fin 16, ∃ b : BitVec 32, k0_pay4 (F := Ideal) (BitVec.ofNat 32 i.val) = (((b.toInt : ℤ) : ℝ) : EReal)
      ∧ b.toInt = if i.val % 4 = 0 then 0 else 1 := by
    intro i
    refine ⟨_, rfl, ?_⟩
    revert i
    decide
  intro i
  obtain ⟨b, h1, h2⟩ := h i
  rw [h1, h2]
  split <;> simp

theorem keep_next : ∀ i : Fin 16, k0_pay5 (F := Ideal) (BitVec.ofNat 32 i.val) = if i.val % 4 = 3 then 0 else 1 := by
  have h : ∀ i : Fin 16, ∃ b : BitVec 32, k0_pay5 (F := Ideal) (BitVec.ofNat 32 i.val) = (((b.toInt : ℤ) : ℝ) : EReal)
      ∧ b.toInt = if i.val % 4 = 3 then 0 else 1 := by
    intro i
    refine ⟨_, rfl, ?_⟩
    revert i
    decide
  intro i
  obtain ⟨b, h1, h2⟩ := h i
  rw [h1, h2]
  split <;> simp

/-- A choice on whether a row is a given one. -/
theorem select_row {α : Type} (r n : ℕ) (hr : r < 1024) (hn : n < 1024) (x y : α) :
    Scalar.select (IntOp.cmpi .eq (BitVec.ofNat 32 r) (BitVec.ofNat 32 n)) x y = if r = n then x else y := by
  by_cases h : r = n
  · subst h
    simp [Scalar.select, IntOp.cmpi]
  · have : ¬ BitVec.ofNat 32 r = BitVec.ofNat 32 n := fun e => h (by
      have := congrArg BitVec.toNat e
      simp only [BitVec.toNat_ofNat] at this
      omega)
    have hb : (BitVec.ofNat 32 r == BitVec.ofNat 32 n) = false := beq_eq_false_iff_ne.mpr this
    simp [Scalar.select, IntOp.cmpi, hb, h]

/-- The tile's rows of the reference's gated convolution. -/
abbrev mixTile (c : Dev nD) (t : Fin cfg0.N) : Vec Ideal S1024x2048 .bf16 := fun y =>
  mix (m ((c : Thread nD τ).loc main_arg0)) (m ((c : Thread nD τ).loc main_arg1)) (m ((c : Thread nD τ).loc main_arg3))
    (1024 * (t.val / 8) + (y 0).val) (y 1)

theorem tile_eq (c : Dev nD) (t : Fin cfg0.N) :
    tapTile (BitVec.ofNat 32 ((grid0.coords t) 0).val) (iblk m c 1 t) (iblk m c 2 t) (iblk m c 3 t) (iblk m c 5 t) (iblk m c 0 t) = mixTile m c t := by
  funext y
  obtain ⟨r, k, rfl⟩ : ∃ r k, y = ix2 r k := ⟨y 0, y 1, (ix2_eta y).symm⟩
  have ht := lt_of t
  have hr := r.isLt
  show tap _ _ (iblk m c 2 t (ix2 15 k)) (iblk m c 3 t (ix2 0 k)) (iblk m c 5 t (ix2 0 k)) (iblk m c 5 t (ix2 1 k)) (iblk m c 5 t (ix2 2 k))
    (iblk m c 0 t (ix2 r k)) (fun r => iblk m c 1 t (ix2 r k)) r = mix _ _ _ (1024 * (t.val / 8) + r.val) k
  rw [w_apply, w_apply, w_apply, cb_apply, coords0]
  rw [keep_prev ⟨t.val / 8, by omega⟩, keep_next ⟨t.val / 8, by omega⟩]
  unfold tap mix
  rw [select_row _ 0 hr (by decide), select_row _ 1023 hr (by decide)]
  rw [prev_apply m c t k ⟨(64 * (t.val / 8) - 1) * 16 + 15, by omega⟩ rfl, next_apply m c t k ⟨min (64 * (t.val / 8) + 64) 1023 * 16, by omega⟩ rfl]
  simp only [u_apply, cell_fin]
  refine congrArg₂ (· * ·) rfl (congrArg₂ (· + ·) (congrArg₂ (· + ·) (congrArg (· * _) ?_) rfl) (congrArg (· * _) ?_))
  · by_cases h : r.val = 0
    · rw [if_pos h]
      by_cases h4 : t.val / 8 % 4 = 0
      · rw [if_pos h4, if_pos (by omega), mul_zero]
      · rw [if_neg h4, if_neg (by omega), mul_one]
        exact congrArg (fun n => cell _ n k) (by show (64 * (t.val / 8) - 1) * 16 + 15 = _; omega)
    · rw [if_neg h, if_neg (by omega)]
      exact congrArg (fun n => cell _ n k) (by show 1024 * (t.val / 8) + (r.val + 1024 - 1) % 1024 = _; omega)
  · by_cases h : r.val = 1023
    · rw [if_pos h]
      by_cases h4 : t.val / 8 % 4 = 3
      · rw [if_pos h4, if_pos (by omega), mul_zero]
      · rw [if_neg h4, if_neg (by omega), mul_one]
        exact congrArg (fun n => cell _ n k) (by show min (64 * (t.val / 8) + 64) 1023 * 16 = _; omega)
    · rw [if_neg h, if_neg (by omega)]
      exact congrArg (fun n => cell _ n k) (by show 1024 * (t.val / 8) + (r.val + 1024 - 1023) % 1024 = _; omega)

/-! ## What a point leaves -/

theorem prev_lt (t : Fin cfg0.N) : t.val - 1 < cfg0.N := Nat.lt_of_le_of_lt (Nat.sub_le _ _) t.isLt

theorem scratch_first (c : Dev nD) (t : Fin cfg0.N) (h : t.val % 8 = 0) : (outsAt0 m c t.val t.isLt).2 = mixTile m c t := by
  funext y
  rw [outsAt0_A m c t h (by omega)]
  frame_out
  rw [← tile_eq m c t]
  exact View.canon_apply_of_pieces _ _ (chunks _ _ _ _ _ _).mem y (View.cover_of_tiledL _ ![1024, 512] (by sl_kernel_rfl) y)

theorem scratch_next (c : Dev nD) (t : Fin cfg0.N) (h : ¬t.val % 8 = 0) :
    (outsAt0 m c t.val t.isLt).2 = (outsAt0 m c (t.val - 1) (prev_lt t)).2 := by
  rw [outsAt0_B m c t h (by omega)]; rfl

theorem scratch (c : Dev nD) : ∀ (n : ℕ) (hn : n < cfg0.N), (outsAt0 m c n hn).2 = mixTile m c ⟨n, hn⟩ := by
  intro n
  induction n with
  | zero => intro hn; exact scratch_first m c ⟨0, hn⟩ rfl
  | succ n ih =>
    intro hn
    by_cases h : (n + 1) % 8 = 0
    · exact scratch_first m c ⟨n + 1, hn⟩ h
    · refine (scratch_next m c ⟨n + 1, hn⟩ h).trans ((ih _).trans ?_)
      funext y
      refine congrArg (fun q => mix _ _ _ q (y 1)) ?_
      show 1024 * (n / 8) + (y 0).val = 1024 * ((n + 1) / 8) + (y 0).val
      omega

/-- The merge of one tile, from the two branches' rows, their projections' columns and the gates. -/
def merged (Y : Vec Ideal S1024x2048 .bf16) (w0 : Vec Ideal S1x2048x512 .bf16) (yb : Vec Ideal S1024x2048 .bf16) (w1 : Vec Ideal S1x2048x512 .bf16)
    (ga gb : Vec Ideal S1024x512 .bf16) (y : S1024x512.Idx) : Ideal .bf16 :=
  ga y * ∑ x, Y (ix2 (y 0) x) * w0 (ix3 0 x (y 1)) + gb y * ∑ x, yb (ix2 (y 0) x) * w1 (ix3 0 x (y 1))

theorem pay2_apply (Y : Vec Ideal S1024x2048 .bf16) (w0 yb w1) (ga gb : Vec Ideal S1024x512 .bf16) (y) : k0_pay2 Y w0 yb w1 ga gb y = merged Y w0 yb w1 ga gb y := by
  unfold merged; pointwise [k0_pay2]
theorem pay3_apply (Y : Vec Ideal S1024x2048 .bf16) (w0 yb w1) (ga gb : Vec Ideal S1024x512 .bf16) (y) : k0_pay3 Y w0 yb w1 ga gb y = merged Y w0 yb w1 ga gb y := by
  unfold merged; pointwise [k0_pay3]

theorem out (c : Dev nD) (t : Fin cfg0.N) (y) : (outsAt0 m c t.val t.isLt).1 y
    = merged (mixTile m c t) (iblk m c 8 t) (iblk m c 4 t) (iblk m c 9 t) (iblk m c 6 t) (iblk m c 7 t) y := by
  by_cases h : t.val % 8 = 0
  · rw [outsAt0_A m c t h (by omega)]
    frame_out
    rw [← tile_eq m c t]
    refine (pay2_apply _ _ _ _ _ _ y).trans ?_
    exact congrArg (fun Y => merged Y _ _ _ _ _ y)
      (load_pieces _ _ _ _ (chunks _ _ _ _ _ _) fun y => View.cover_of_tiledL _ ![1024, 512] (by sl_kernel_rfl) y)
  · have e : mixTile m c ⟨t.val - 1, prev_lt t⟩ = mixTile m c t := by
      rw [← scratch, ← scratch m c t.val t.isLt, scratch_next m c t h]
    rw [outsAt0_B m c t h (by omega)]
    frame_out
    rw [read_unread_whole, scratch m c _ _, e]
    exact pay3_apply _ _ _ _ _ _ y

theorem yb_apply (c : Dev nD) (t : Fin cfg0.N) (r : Fin 1024) (k : Fin 2048) (l : Fin 16384) (hl : l.val = t.val / 8 * 1024 + r.val) :
    iblk m c 4 t (ix2 r k) = m ((c : Thread nD τ).loc main_arg2) (ix2 l k) := by
  blk_ext! [iblk, V, idx t]
theorem ga_apply (c : Dev nD) (t : Fin cfg0.N) (r : Fin 1024) (k : Fin 512) (l : Fin 16384) (hl : l.val = t.val / 8 * 1024 + r.val) (j : Fin 8192)
    (hj : j.val = t.val % 8 * 512 + k.val) : iblk m c 6 t (ix2 r k) = m ((c : Thread nD τ).loc main_arg4) (ix2 l j) := by
  blk_ext! [iblk, V, idx t]
theorem gb_apply (c : Dev nD) (t : Fin cfg0.N) (r : Fin 1024) (k : Fin 512) (l : Fin 16384) (hl : l.val = t.val / 8 * 1024 + r.val) (j : Fin 8192)
    (hj : j.val = (t.val % 8 + 8) * 512 + k.val) : iblk m c 7 t (ix2 r k) = m ((c : Thread nD τ).loc main_arg4) (ix2 l j) := by
  blk_ext! [iblk, V, idx t]
theorem w0_apply (c : Dev nD) (t : Fin cfg0.N) (x : Fin 2048) (k : Fin 512) (j : Fin 4096) (hj : j.val = t.val % 8 * 512 + k.val) :
    iblk m c 8 t (ix3 0 x k) = m ((c : Thread nD τ).loc main_arg5) (ix4 0 0 x j) := by
  blk_ext! [iblk, V, idx t]
theorem w1_apply (c : Dev nD) (t : Fin cfg0.N) (x : Fin 2048) (k : Fin 512) (j : Fin 4096) (hj : j.val = t.val % 8 * 512 + k.val) :
    iblk m c 9 t (ix3 0 x k) = m ((c : Thread nD τ).loc main_arg5) (ix4 0 1 x j) := by
  blk_ext! [iblk, V, idx t]

/-- The array after the call is the reference's result. -/
theorem final (c : Dev nD) : (dats m 0 c).arrAt 10 (cfgs 0).N
    = Cert.BranchRefIdeal.Hand.target (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 10 _ (by decide +kernel) fun t _ y => ?_
  obtain ⟨r, k, rfl⟩ : ∃ r k, y = ix2 r k := ⟨y 0, y 1, (ix2_eta y).symm⟩
  have ht := lt_of t
  have hr : r.val < 1024 := r.isLt
  have hk : k.val < 512 := k.isLt
  have e : ((cfg0.win 10).blk t).view.emb (ix2 r k) = ix2 (⟨t.val / 8 * 1024 + r.val, by omega⟩ : Fin 16384) (⟨t.val % 8 * 512 + k.val, by omega⟩ : Fin 4096) := by
    blk_ext [idx t]
  refine Eq.trans ?_ ((congrArg _ e).trans (Cert.BranchRefIdeal.Hand.target_apply _ _ _ _ _ _ _ _)).symm
  blk_simp
  rw [after0_10]
  refine (out m c t (ix2 r k)).trans ?_
  unfold merged
  refine congrArg₂ (· + ·) (congrArg₂ (· * ·) ?_ (Finset.sum_congr rfl fun x _ => congrArg₂ (· * ·) ?_ ?_))
    (congrArg₂ (· * ·) ?_ (Finset.sum_congr rfl fun x _ => congrArg₂ (· * ·) ?_ ?_))
  · exact ga_apply m c t r k _ rfl _ rfl
  · exact congrArg (fun n => mix _ _ _ n x) (by show 1024 * (t.val / 8) + r.val = t.val / 8 * 1024 + r.val; omega)
  · exact w0_apply m c t x k _ rfl
  · exact gb_apply m c t r k _ rfl _ (by show 4096 + (t.val % 8 * 512 + k.val) = _; omega)
  · exact yb_apply m c t r x _ rfl
  · exact w1_apply m c t x k _ rfl

end Cert.BranchIdeal.Hand

end
-- ==== Proof.Attn.Parts.lean ====
module

public import proofs.«01_k».proof.Proof.Gen.AttnIdeal.Frame
public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-!
# The attention call: the body's triple

The body first casts its blocks of the weights and fills the wide value tile it keeps between points (its ones column at the
first point, its value columns whenever a head starts), then attends.  The first part is run once per case; the rest, which
no case touches, once.
-/

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra. -/
local notation "𝕄" => MT nD τ sig Unit (Elt F) ℕ (UR sig nD τ) ℕ

/-! ## The conditions of the two fills -/

/-- The first point overall. -/
def condZ (i : grid0.Coords) : BitVec 1 :=
  Scalar.cmpi .ne (Scalar.extui (Scalar.cmpi .eq (Scalar.addi (Scalar.muli (Scalar.addi (Scalar.muli (BitVec.ofNat 32 (i 0).val) 16#32) (BitVec.ofNat 32 (i 1).val)) 4#32) (BitVec.ofNat 32 (i 2).val)) 0#32) : BitVec 32) 0#32
/-- A head's first query tile. -/
def condA (i : grid0.Coords) : BitVec 1 :=
  Scalar.cmpi .ne (Scalar.extui (Scalar.cmpi .eq (BitVec.ofNat 32 (i 2).val) 0#32) : BitVec 32) 0#32

/-! ## What the body leaves -/

abbrev rQ : Rect S1024x256 := Rect.unit (s := S1024x256) ![0, 0] S1024x256.size inb_S1024x256_S1024x256_0_0
abbrev rV : Rect S4096x128 := Rect.unit (s := S4096x128) ![0, 0] S4096x128.size inb_S4096x128_S4096x128_0_0
abbrev rG : Rect S16x11008 := Rect.unit (s := S16x11008) ![0, 0] S16x11008.size inb_S16x11008_S16x11008_0_0
abbrev rD : Rect S64x4096 := Rect.unit (s := S64x4096) ![0, 0] S64x4096.size inb_S64x4096_S64x4096_0_0
abbrev rO : Rect S1024x128 := Rect.unit (s := S1024x128) ![0, 0] S1024x128.size inb_S1024x128_S1024x128_0_0
abbrev rL : Rect S4096x256 := Rect.unit (s := S4096x256) ![0, 0] S4096x128.size inb_S4096x256_S4096x128_0_0
abbrev rR : Rect S4096x256 := Rect.unit (s := S4096x256) ![0, 128] S4096x128.size inb_S4096x256_S4096x128_0_128
theorem inbK (n : ℕ) (h : n ≤ 3840) : ∀ a, (![0, 0, 0, n] : Fin 4 → ℕ) a + S1x1x256x256.size a ≤ S1x1x256x4096.size a := by
  intro a
  match a with
  | ⟨0, _⟩ => exact Nat.le_refl 1
  | ⟨1, _⟩ => exact Nat.le_refl 1
  | ⟨2, _⟩ => exact Nat.le_refl 256
  | ⟨3, _⟩ => show n + 256 ≤ 4096; omega
theorem inbV (n : ℕ) (h : n ≤ 3840) : ∀ a, (![n, 0] : Fin 2 → ℕ) a + S256x256.size a ≤ S4096x256.size a := by
  intro a
  match a with
  | ⟨0, _⟩ => show n + 256 ≤ 4096; omega
  | ⟨1, _⟩ => exact Nat.le_refl 256
/-- The keys from `n` on, 256 of them. -/
abbrev rK (n : ℕ) (h : n ≤ 3840) : Rect S1x1x256x4096 := Rect.unit (s := S1x1x256x4096) ![0, 0, 0, n] S1x1x256x256.size (inbK n h)
/-- Their values' rows. -/
abbrev rW (n : ℕ) (h : n ≤ 3840) : Rect S4096x256 := Rect.unit (s := S4096x256) ![n, 0] S256x256.size (inbV n h)

def outG (x3 : Vec F S16x11008 .f32) : Vec F S16x11008 .bf16 := View.canon [⟨rG, k0_pay2 (View.ld x3 rG)⟩]
def outU (x4 : Vec F S16x11008 .f32) : Vec F S16x11008 .bf16 := View.canon [⟨rG, k0_pay3 (View.ld x4 rG)⟩]
def outD (x5 : Vec F S64x4096 .f32) : Vec F S64x4096 .bf16 := View.canon [⟨rD, k0_pay4 (View.ld x5 rD)⟩]
/-- The wide value tile: the head's values in the left columns, the ones column in the right ones. -/
def wide (x2 : Vec F S4096x128 .bf16) : Vec F S4096x256 .bf16 :=
  View.canon [⟨rL, k0_pay6 (View.ld x2 rV)⟩, ⟨rR, k0_pay5 (F := F)⟩]

/-- The attention of one query block over the sixteen key blocks, as the body computes it. -/
def att (q : Vec F S1024x256 .bf16) (k : (n : ℕ) → n ≤ 3840 → Vec F S1x1x256x256 .bf16) (v : (n : ℕ) → n ≤ 3840 → Vec F S256x256 .bf16) : FVec F S1024x128 .bf16 :=
  let a27 := k0_pay10 q (k 0 (by decide))
  let a61 := k0_pay15 q a27 (k 256 (by decide)) (k 512 (by decide))
  let a67 := k0_pay16 q a27 (k 256 (by decide)) (k 512 (by decide))
  let a69 := k0_pay17 q (k0_pay8 (F := F)) (k0_pay9 q (k 0 (by decide))) a27 (k0_pay11 q (k 0 (by decide))) (v 0 (by decide)) (k 256 (by decide)) (v 256 (by decide)) (k 512 (by decide))
  let a95 := k0_pay21 q a61 (k 768 (by decide)) (k 1024 (by decide))
  let a106 := k0_pay22 q a61 a67 a69 (v 512 (by decide)) (k 768 (by decide)) (v 768 (by decide)) (k 1024 (by decide)) (v 1024 (by decide))
  let a129 := k0_pay26 q a95 (k 1280 (by decide)) (k 1536 (by decide))
  let a140 := k0_pay27 q a95 a106 (k 1280 (by decide)) (v 1280 (by decide)) (k 1536 (by decide)) (v 1536 (by decide))
  let a143 := k0_pay28 q (k 1792 (by decide))
  let a146 := k0_pay29 q a95 (k 1280 (by decide)) (k 1536 (by decide)) (k 1792 (by decide))
  let a180 := k0_pay33 q a146 (k 2048 (by decide)) (k 2304 (by decide))
  let a186 := k0_pay34 q a146 (k 2048 (by decide)) (k 2304 (by decide))
  let a188 := k0_pay35 q a129 a140 a143 a146 (v 1792 (by decide)) (k 2048 (by decide)) (v 2048 (by decide)) (k 2304 (by decide))
  let a214 := k0_pay39 q a180 (k 2560 (by decide)) (k 2816 (by decide))
  let a225 := k0_pay40 q a180 a186 a188 (v 2304 (by decide)) (k 2560 (by decide)) (v 2560 (by decide)) (k 2816 (by decide)) (v 2816 (by decide))
  let a248 := k0_pay44 q a214 (k 3072 (by decide)) (k 3328 (by decide))
  let a259 := k0_pay45 q a214 a225 (k 3072 (by decide)) (v 3072 (by decide)) (k 3328 (by decide)) (v 3328 (by decide))
  k0_pay1 q a248 a259 (k0_pay46 q (k 3584 (by decide))) (k0_pay47 q (k 3584 (by decide))) (v 3584 (by decide)) (k 3840 (by decide)) (v 3840 (by decide))

def outO (x0 : Vec F S1024x256 .bf16) (x1 : Vec F S1x1x256x4096 .bf16) (s : Vec F S4096x256 .bf16) : Vec F S1024x128 .bf16 :=
  View.canon [⟨rO, att (View.ld x0 rQ) (fun n h => View.ld x1 (rK n h)) (fun n h => View.ld s (rW n h))⟩]

theorem coverG (p0 : Vec F S16x11008 .bf16) (y : S16x11008.Idx) :
    ∃ pc ∈ ([⟨rG, p0⟩] : List (View.Piece (Elt F) S16x11008 .bf16)), y ∈ pc.1.set :=
  View.cover_of_tiled [⟨rG, p0⟩] S16x11008.size (by rfl) y
theorem coverD (p0 : Vec F S64x4096 .bf16) (y : S64x4096.Idx) :
    ∃ pc ∈ ([⟨rD, p0⟩] : List (View.Piece (Elt F) S64x4096 .bf16)), y ∈ pc.1.set :=
  View.cover_of_tiled [⟨rD, p0⟩] S64x4096.size (by rfl) y
theorem coverO (p0 : Vec F S1024x128 .bf16) (y : S1024x128.Idx) :
    ∃ pc ∈ ([⟨rO, p0⟩] : List (View.Piece (Elt F) S1024x128 .bf16)), y ∈ pc.1.set :=
  View.cover_of_tiled [⟨rO, p0⟩] S1024x128.size (by rfl) y
theorem coverW (p0 p1 : Vec F S4096x128 .bf16) (y : S4096x256.Idx) :
    ∃ pc ∈ ([⟨rL, p0⟩, ⟨rR, p1⟩] : List (View.Piece (Elt F) S4096x256 .bf16)), y ∈ pc.1.set :=
  View.cover_of_tiled [⟨rL, p0⟩, ⟨rR, p1⟩] S4096x128.size (by rfl) y

theorem canon_left (p q : Vec F S4096x128 .bf16) (z : rL.shape.Idx) : View.canon (Val := Elt F) (e := .bf16) [⟨rL, p⟩, ⟨rR, q⟩] (rL.emb z) = p z :=
  View.canon_cons_emb (Val := Elt F) (e := .bf16) rL p [⟨rR, q⟩] z
theorem canon_right (p q : Vec F S4096x128 .bf16) (y : S4096x256.Idx) (hy : y ∉ rL.set) :
    View.canon (Val := Elt F) (e := .bf16) [⟨rL, p⟩, ⟨rR, q⟩] y = View.canon (Val := Elt F) (e := .bf16) [⟨rR, q⟩] y :=
  View.canon_cons_of_not_mem (Val := Elt F) (e := .bf16) ⟨rL, p⟩ [⟨rR, q⟩] hy

/-- Refilling the left columns of a wide tile leaves the wide tile of the new values. -/
theorem refill (a : Memref sig .tc .vmem S4096x256 .bf16) (f : a.view.ty.Contents (Elt F)) (x : Vec F S4096x128 .bf16)
    (p : Vec F S4096x128 .bf16) (hf : a.view.read (Elt F) f = wide x) :
    a.view.read (Elt F) (a.view.writes (Elt F) f [⟨rL, p⟩]) = View.canon [⟨rL, p⟩, ⟨rR, k0_pay5 (F := F)⟩] := by
  funext y
  by_cases hy : y ∈ rL.set
  · obtain ⟨z, rfl⟩ := rL.exists_idx_of_mem hy
    exact (View.read_writes_cons_emb a.view f rL p [] z).trans (canon_left p _ z).symm
  · have h1 : a.view.read (Elt F) (a.view.writes (Elt F) f [⟨rL, p⟩]) y = a.view.read (Elt F) f y :=
      View.read_writes_apply_of_forall_not_mem a.view f y [⟨rL, p⟩] (fun q hq => (List.mem_singleton.mp hq) ▸ hy)
    rw [h1, hf, canon_right _ _ _ hy]
    exact canon_right _ _ _ hy

/-! ## The rest of the body, after its first part -/

set_option maxHeartbeats 4000000 in
/-- The body, given its first part: `R` is what the wide tile and the third cast's buffer are at before, `x9` what that
    buffer and `s` what the wide tile hold after the first part. -/
theorem rest (c : Dev nD) (i : grid0.Coords) (arg3 : Memref sig .tc .vmem S1024x256 .bf16) (harg3 : arg3.IsWhole) (arg4 : Memref sig .tc .vmem S1x1x256x4096 .bf16) (harg4 : arg4.IsWhole) (arg5 : Memref sig .tc .vmem S4096x128 .bf16) (harg5 : arg5.IsWhole) (arg6 : Memref sig .tc .vmem S16x11008 .f32) (harg6 : arg6.IsWhole) (arg7 : Memref sig .tc .vmem S16x11008 .f32) (harg7 : arg7.IsWhole) (arg8 : Memref sig .tc .vmem S64x4096 .f32) (harg8 : arg8.IsWhole) (arg9 : Memref sig .tc .vmem S1024x128 .bf16) (harg9 : arg9.IsWhole) (arg10 : Memref sig .tc .vmem S16x11008 .bf16) (harg10 : arg10.IsWhole) (arg11 : Memref sig .tc .vmem S16x11008 .bf16) (harg11 : arg11.IsWhole) (arg12 : Memref sig .tc .vmem S64x4096 .bf16) (harg12 : arg12.IsWhole) (arg13 : Memref sig .tc .vmem S4096x256 .bf16) (harg13 : arg13.IsWhole)
    (x0 : Vec F S1024x256 .bf16) (x1 : Vec F S1x1x256x4096 .bf16) (x2 : Vec F S4096x128 .bf16) (x3 x4 : Vec F S16x11008 .f32) (x5 : Vec F S64x4096 .f32) (x9 : Vec F S64x4096 .bf16) (s : Vec F S4096x256 .bf16) (R : sProp 𝕄)
    (h : ∀ K : (Σ' (v19 : Vec F S1024x256 .bf16) (v21 : FVec F S1024x256 .f32) (v24 : FVec F S1024x256 .f32) (v27 : FVec F S1024x1 .f32), FVec F S1024x1 .f32) → sProp 𝕄,
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ R
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare (outG x3) ∗ owns (c : Thread nD τ) arg11 fullShare (outU x4) ∗ owns (c : Thread nD τ) arg12 fullShare x9 ∗ owns (c : Thread nD τ) arg13 fullShare s) -∗ K ⟨View.ld x0 rQ, k0_pay8 (F := F), k0_pay9 (View.ld x0 rQ) (View.ld x1 (rK 0 (by decide))), k0_pay10 (View.ld x0 rQ) (View.ld x1 (rK 0 (by decide))), k0_pay11 (View.ld x0 rQ) (View.ld x1 (rK 0 (by decide)))⟩))
      ⊢ wp frame (wpE (defs₀ (F := F)) Variants.none c none) Set.univ (k0_part1 i arg3 harg3 arg4 harg4 arg5 harg5 arg6 harg6 arg7 harg7 arg8 harg8 arg9 harg9 arg10 harg10 arg11 harg11 arg12 harg12 arg13 harg13) K)
    (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ R
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outO x0 x1 s) ∗ owns (c : Thread nD τ) arg10 fullShare (outG x3) ∗ owns (c : Thread nD τ) arg11 fullShare (outU x4) ∗ owns (c : Thread nD τ) arg12 fullShare x9 ∗ owns (c : Thread nD τ) arg13 fullShare s) -∗ K ⟨⟩))
      ⊢ wp frame (wpE (defs₀ (F := F)) Variants.none c none) Set.univ (cc0_attention i arg3 harg3 arg4 harg4 arg5 harg5 arg6 harg6 arg7 harg7 arg8 harg8 arg9 harg9 arg10 harg10 arg11 harg11 arg12 harg12 arg13 harg13) K := by
  simp only [cc0_attention_eq_skeleton]; unfold cc0_attention_skel
  rw [wp_bind]
  iintro ⟨H3, H4, H5, H6, H7, H8, H9, H10, H11, HR, Hk⟩
  iapply (h _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HR]; · iexact HR
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩⟩
  subst hf3 hf4 hf5 hf6 hf7 hf8 hf13
  simp only [k0_part2_eq_skeleton, k0_part3_eq_skeleton, k0_part4_eq_skeleton, k0_part5_eq_skeleton, k0_part6_eq_skeleton, k0_part7_eq_skeleton]
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverO _)
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  iexists f13; isplitr; · ipureintro; rfl
  iexact H13

/-! ## The first part, case by case -/

set_option maxHeartbeats 1000000 in
/-- The first point: it fills the whole wide tile. -/
theorem partZ (c : Dev nD) (i : grid0.Coords) (arg3 : Memref sig .tc .vmem S1024x256 .bf16) (harg3 : arg3.IsWhole) (arg4 : Memref sig .tc .vmem S1x1x256x4096 .bf16) (harg4 : arg4.IsWhole) (arg5 : Memref sig .tc .vmem S4096x128 .bf16) (harg5 : arg5.IsWhole) (arg6 : Memref sig .tc .vmem S16x11008 .f32) (harg6 : arg6.IsWhole) (arg7 : Memref sig .tc .vmem S16x11008 .f32) (harg7 : arg7.IsWhole) (arg8 : Memref sig .tc .vmem S64x4096 .f32) (harg8 : arg8.IsWhole) (arg9 : Memref sig .tc .vmem S1024x128 .bf16) (harg9 : arg9.IsWhole) (arg10 : Memref sig .tc .vmem S16x11008 .bf16) (harg10 : arg10.IsWhole) (arg11 : Memref sig .tc .vmem S16x11008 .bf16) (harg11 : arg11.IsWhole) (arg12 : Memref sig .tc .vmem S64x4096 .bf16) (harg12 : arg12.IsWhole) (arg13 : Memref sig .tc .vmem S4096x256 .bf16) (harg13 : arg13.IsWhole) (hc1 : k0_cond1 i = 1#1) (hc2 : k0_cond2 i = 1#1) (hc3 : k0_cond3 i = 1#1) (hc4 : condZ i = 1#1) (hc5 : condA i = 1#1)
    (x0 : Vec F S1024x256 .bf16) (x1 : Vec F S1x1x256x4096 .bf16) (x2 : Vec F S4096x128 .bf16) (x3 x4 : Vec F S16x11008 .f32) (x5 : Vec F S64x4096 .f32) (K : (Σ' (v19 : Vec F S1024x256 .bf16) (v21 : FVec F S1024x256 .f32) (v24 : FVec F S1024x256 .f32) (v27 : FVec F S1024x1 .f32), FVec F S1024x1 .f32) → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ iprop((∃ d, owns (c : Thread nD τ) arg12 fullShare d) ∗ (∃ d, owns (c : Thread nD τ) arg13 fullShare d))
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare (outG x3) ∗ owns (c : Thread nD τ) arg11 fullShare (outU x4) ∗ owns (c : Thread nD τ) arg12 fullShare (outD x5) ∗ owns (c : Thread nD τ) arg13 fullShare (wide x2)) -∗ K ⟨View.ld x0 rQ, k0_pay8 (F := F), k0_pay9 (View.ld x0 rQ) (View.ld x1 (rK 0 (by decide))), k0_pay10 (View.ld x0 rQ) (View.ld x1 (rK 0 (by decide))), k0_pay11 (View.ld x0 rQ) (View.ld x1 (rK 0 (by decide)))⟩))
      ⊢ wp frame (wpE (defs₀ (F := F)) Variants.none c none) Set.univ (k0_part1 i arg3 harg3 arg4 harg4 arg5 harg5 arg6 harg6 arg7 harg7 arg8 harg8 arg9 harg9 arg10 harg10 arg11 harg11 arg12 harg12 arg13 harg13) K := by
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, -, H10⟩, ⟨%d11, %f11, -, H11⟩, ⟨⟨%d12, %f12, -, H12⟩, ⟨%d13, %f13, -, H13⟩⟩, Hk⟩
  subst hf3 hf4 hf5 hf6 hf7 hf8
  sl_exec (disch := first | sl_exact hc1 | sl_exact hc2 | sl_exact hc3 | sl_exact hc4 | sl_exact hc5)
  sl_step
  simp only [View.readAt_eq_ld]
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists d9, f9; isplitr; · ipureintro; exact hf9
    iexact H9
  isplitl [H10]
  · iexists _; isplitr
    swap; · iexact H10
    ipureintro
    exact View.read_writes_eq_canon _ _ _ (coverG _)
  isplitl [H11]
  · iexists _; isplitr
    swap; · iexact H11
    ipureintro
    exact View.read_writes_eq_canon _ _ _ (coverG _)
  isplitl [H12]
  · iexists _; isplitr
    swap; · iexact H12
    ipureintro
    exact View.read_writes_eq_canon _ _ _ (coverD _)
  iexists _; isplitr
  swap; · iexact H13
  ipureintro
  exact View.read_writes_eq_canon _ _ _ (coverW _ _)

set_option maxHeartbeats 1000000 in
/-- A head's first query tile, the third cast live. -/
theorem partA (c : Dev nD) (i : grid0.Coords) (arg3 : Memref sig .tc .vmem S1024x256 .bf16) (harg3 : arg3.IsWhole) (arg4 : Memref sig .tc .vmem S1x1x256x4096 .bf16) (harg4 : arg4.IsWhole) (arg5 : Memref sig .tc .vmem S4096x128 .bf16) (harg5 : arg5.IsWhole) (arg6 : Memref sig .tc .vmem S16x11008 .f32) (harg6 : arg6.IsWhole) (arg7 : Memref sig .tc .vmem S16x11008 .f32) (harg7 : arg7.IsWhole) (arg8 : Memref sig .tc .vmem S64x4096 .f32) (harg8 : arg8.IsWhole) (arg9 : Memref sig .tc .vmem S1024x128 .bf16) (harg9 : arg9.IsWhole) (arg10 : Memref sig .tc .vmem S16x11008 .bf16) (harg10 : arg10.IsWhole) (arg11 : Memref sig .tc .vmem S16x11008 .bf16) (harg11 : arg11.IsWhole) (arg12 : Memref sig .tc .vmem S64x4096 .bf16) (harg12 : arg12.IsWhole) (arg13 : Memref sig .tc .vmem S4096x256 .bf16) (harg13 : arg13.IsWhole) (hc1 : k0_cond1 i = 1#1) (hc2 : k0_cond2 i = 1#1) (hc3 : k0_cond3 i = 1#1) (hc4 : ¬condZ i = 1#1) (hc5 : condA i = 1#1)
    (x0 : Vec F S1024x256 .bf16) (x1 : Vec F S1x1x256x4096 .bf16) (x2 : Vec F S4096x128 .bf16) (x3 x4 : Vec F S16x11008 .f32) (x5 : Vec F S64x4096 .f32) (x2' : Vec F S4096x128 .bf16) (K : (Σ' (v19 : Vec F S1024x256 .bf16) (v21 : FVec F S1024x256 .f32) (v24 : FVec F S1024x256 .f32) (v27 : FVec F S1024x1 .f32), FVec F S1024x1 .f32) → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ iprop((∃ d, owns (c : Thread nD τ) arg12 fullShare d) ∗ owns (c : Thread nD τ) arg13 fullShare (wide x2'))
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare (outG x3) ∗ owns (c : Thread nD τ) arg11 fullShare (outU x4) ∗ owns (c : Thread nD τ) arg12 fullShare (outD x5) ∗ owns (c : Thread nD τ) arg13 fullShare (wide x2)) -∗ K ⟨View.ld x0 rQ, k0_pay8 (F := F), k0_pay9 (View.ld x0 rQ) (View.ld x1 (rK 0 (by decide))), k0_pay10 (View.ld x0 rQ) (View.ld x1 (rK 0 (by decide))), k0_pay11 (View.ld x0 rQ) (View.ld x1 (rK 0 (by decide)))⟩))
      ⊢ wp frame (wpE (defs₀ (F := F)) Variants.none c none) Set.univ (k0_part1 i arg3 harg3 arg4 harg4 arg5 harg5 arg6 harg6 arg7 harg7 arg8 harg8 arg9 harg9 arg10 harg10 arg11 harg11 arg12 harg12 arg13 harg13) K := by
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, -, H10⟩, ⟨%d11, %f11, -, H11⟩, ⟨⟨%d12, %f12, -, H12⟩, ⟨%f13, %hf13, H13⟩⟩, Hk⟩
  subst hf3 hf4 hf5 hf6 hf7 hf8
  sl_exec (disch := first | sl_exact hc1 | sl_exact hc2 | sl_exact hc3 | sl_exact hc4 | sl_exact hc5)
  sl_step
  simp only [View.readAt_eq_ld]
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists d9, f9; isplitr; · ipureintro; exact hf9
    iexact H9
  isplitl [H10]
  · iexists _; isplitr
    swap; · iexact H10
    ipureintro
    exact View.read_writes_eq_canon _ _ _ (coverG _)
  isplitl [H11]
  · iexists _; isplitr
    swap; · iexact H11
    ipureintro
    exact View.read_writes_eq_canon _ _ _ (coverG _)
  isplitl [H12]
  · iexists _; isplitr
    swap; · iexact H12
    ipureintro
    exact View.read_writes_eq_canon _ _ _ (coverD _)
  iexists _; isplitr
  swap; · iexact H13
  ipureintro
  exact refill arg13 f13 x2' _ hf13

set_option maxHeartbeats 1000000 in
/-- A head's first query tile, the third cast over. -/
theorem partB (c : Dev nD) (i : grid0.Coords) (arg3 : Memref sig .tc .vmem S1024x256 .bf16) (harg3 : arg3.IsWhole) (arg4 : Memref sig .tc .vmem S1x1x256x4096 .bf16) (harg4 : arg4.IsWhole) (arg5 : Memref sig .tc .vmem S4096x128 .bf16) (harg5 : arg5.IsWhole) (arg6 : Memref sig .tc .vmem S16x11008 .f32) (harg6 : arg6.IsWhole) (arg7 : Memref sig .tc .vmem S16x11008 .f32) (harg7 : arg7.IsWhole) (arg8 : Memref sig .tc .vmem S64x4096 .f32) (harg8 : arg8.IsWhole) (arg9 : Memref sig .tc .vmem S1024x128 .bf16) (harg9 : arg9.IsWhole) (arg10 : Memref sig .tc .vmem S16x11008 .bf16) (harg10 : arg10.IsWhole) (arg11 : Memref sig .tc .vmem S16x11008 .bf16) (harg11 : arg11.IsWhole) (arg12 : Memref sig .tc .vmem S64x4096 .bf16) (harg12 : arg12.IsWhole) (arg13 : Memref sig .tc .vmem S4096x256 .bf16) (harg13 : arg13.IsWhole) (hc1 : k0_cond1 i = 1#1) (hc2 : k0_cond2 i = 1#1) (hc3 : ¬k0_cond3 i = 1#1) (hc4 : ¬condZ i = 1#1) (hc5 : condA i = 1#1)
    (x0 : Vec F S1024x256 .bf16) (x1 : Vec F S1x1x256x4096 .bf16) (x2 : Vec F S4096x128 .bf16) (x3 x4 : Vec F S16x11008 .f32) (x5 : Vec F S64x4096 .f32) (x9 : Vec F S64x4096 .bf16) (x2' : Vec F S4096x128 .bf16) (K : (Σ' (v19 : Vec F S1024x256 .bf16) (v21 : FVec F S1024x256 .f32) (v24 : FVec F S1024x256 .f32) (v27 : FVec F S1024x1 .f32), FVec F S1024x1 .f32) → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ iprop(owns (c : Thread nD τ) arg12 fullShare x9 ∗ owns (c : Thread nD τ) arg13 fullShare (wide x2'))
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare (outG x3) ∗ owns (c : Thread nD τ) arg11 fullShare (outU x4) ∗ owns (c : Thread nD τ) arg12 fullShare x9 ∗ owns (c : Thread nD τ) arg13 fullShare (wide x2)) -∗ K ⟨View.ld x0 rQ, k0_pay8 (F := F), k0_pay9 (View.ld x0 rQ) (View.ld x1 (rK 0 (by decide))), k0_pay10 (View.ld x0 rQ) (View.ld x1 (rK 0 (by decide))), k0_pay11 (View.ld x0 rQ) (View.ld x1 (rK 0 (by decide)))⟩))
      ⊢ wp frame (wpE (defs₀ (F := F)) Variants.none c none) Set.univ (k0_part1 i arg3 harg3 arg4 harg4 arg5 harg5 arg6 harg6 arg7 harg7 arg8 harg8 arg9 harg9 arg10 harg10 arg11 harg11 arg12 harg12 arg13 harg13) K := by
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, -, H10⟩, ⟨%d11, %f11, -, H11⟩, ⟨⟨%f12, %hf12, H12⟩, ⟨%f13, %hf13, H13⟩⟩, Hk⟩
  subst hf3 hf4 hf5 hf6 hf7 hf8
  sl_exec (disch := first | sl_exact hc1 | sl_exact hc2 | sl_exact hc3 | sl_exact hc4 | sl_exact hc5)
  sl_step
  simp only [View.readAt_eq_ld]
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists d9, f9; isplitr; · ipureintro; exact hf9
    iexact H9
  isplitl [H10]
  · iexists _; isplitr
    swap; · iexact H10
    ipureintro
    exact View.read_writes_eq_canon _ _ _ (coverG _)
  isplitl [H11]
  · iexists _; isplitr
    swap; · iexact H11
    ipureintro
    exact View.read_writes_eq_canon _ _ _ (coverG _)
  isplitl [H12]
  · iexists f12; isplitr; · ipureintro; exact hf12
    iexact H12
  iexists _; isplitr
  swap; · iexact H13
  ipureintro
  exact refill arg13 f13 x2' _ hf13

set_option maxHeartbeats 1000000 in
/-- A later query tile, the third cast live. -/
theorem partM (c : Dev nD) (i : grid0.Coords) (arg3 : Memref sig .tc .vmem S1024x256 .bf16) (harg3 : arg3.IsWhole) (arg4 : Memref sig .tc .vmem S1x1x256x4096 .bf16) (harg4 : arg4.IsWhole) (arg5 : Memref sig .tc .vmem S4096x128 .bf16) (harg5 : arg5.IsWhole) (arg6 : Memref sig .tc .vmem S16x11008 .f32) (harg6 : arg6.IsWhole) (arg7 : Memref sig .tc .vmem S16x11008 .f32) (harg7 : arg7.IsWhole) (arg8 : Memref sig .tc .vmem S64x4096 .f32) (harg8 : arg8.IsWhole) (arg9 : Memref sig .tc .vmem S1024x128 .bf16) (harg9 : arg9.IsWhole) (arg10 : Memref sig .tc .vmem S16x11008 .bf16) (harg10 : arg10.IsWhole) (arg11 : Memref sig .tc .vmem S16x11008 .bf16) (harg11 : arg11.IsWhole) (arg12 : Memref sig .tc .vmem S64x4096 .bf16) (harg12 : arg12.IsWhole) (arg13 : Memref sig .tc .vmem S4096x256 .bf16) (harg13 : arg13.IsWhole) (hc1 : k0_cond1 i = 1#1) (hc2 : k0_cond2 i = 1#1) (hc3 : k0_cond3 i = 1#1) (hc4 : ¬condZ i = 1#1) (hc5 : ¬condA i = 1#1)
    (x0 : Vec F S1024x256 .bf16) (x1 : Vec F S1x1x256x4096 .bf16) (x2 : Vec F S4096x128 .bf16) (x3 x4 : Vec F S16x11008 .f32) (x5 : Vec F S64x4096 .f32) (s : Vec F S4096x256 .bf16) (K : (Σ' (v19 : Vec F S1024x256 .bf16) (v21 : FVec F S1024x256 .f32) (v24 : FVec F S1024x256 .f32) (v27 : FVec F S1024x1 .f32), FVec F S1024x1 .f32) → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ iprop((∃ d, owns (c : Thread nD τ) arg12 fullShare d) ∗ owns (c : Thread nD τ) arg13 fullShare s)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare (outG x3) ∗ owns (c : Thread nD τ) arg11 fullShare (outU x4) ∗ owns (c : Thread nD τ) arg12 fullShare (outD x5) ∗ owns (c : Thread nD τ) arg13 fullShare s) -∗ K ⟨View.ld x0 rQ, k0_pay8 (F := F), k0_pay9 (View.ld x0 rQ) (View.ld x1 (rK 0 (by decide))), k0_pay10 (View.ld x0 rQ) (View.ld x1 (rK 0 (by decide))), k0_pay11 (View.ld x0 rQ) (View.ld x1 (rK 0 (by decide)))⟩))
      ⊢ wp frame (wpE (defs₀ (F := F)) Variants.none c none) Set.univ (k0_part1 i arg3 harg3 arg4 harg4 arg5 harg5 arg6 harg6 arg7 harg7 arg8 harg8 arg9 harg9 arg10 harg10 arg11 harg11 arg12 harg12 arg13 harg13) K := by
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, -, H10⟩, ⟨%d11, %f11, -, H11⟩, ⟨⟨%d12, %f12, -, H12⟩, ⟨%f13, %hf13, H13⟩⟩, Hk⟩
  subst hf3 hf4 hf5 hf6 hf7 hf8
  sl_exec (disch := first | sl_exact hc1 | sl_exact hc2 | sl_exact hc3 | sl_exact hc4 | sl_exact hc5)
  sl_step
  simp only [View.readAt_eq_ld]
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists d9, f9; isplitr; · ipureintro; exact hf9
    iexact H9
  isplitl [H10]
  · iexists _; isplitr
    swap; · iexact H10
    ipureintro
    exact View.read_writes_eq_canon _ _ _ (coverG _)
  isplitl [H11]
  · iexists _; isplitr
    swap; · iexact H11
    ipureintro
    exact View.read_writes_eq_canon _ _ _ (coverG _)
  isplitl [H12]
  · iexists _; isplitr
    swap; · iexact H12
    ipureintro
    exact View.read_writes_eq_canon _ _ _ (coverD _)
  iexists f13; isplitr; · ipureintro; exact hf13
  iexact H13

set_option maxHeartbeats 1000000 in
/-- A later query tile, the third cast over. -/
theorem partN (c : Dev nD) (i : grid0.Coords) (arg3 : Memref sig .tc .vmem S1024x256 .bf16) (harg3 : arg3.IsWhole) (arg4 : Memref sig .tc .vmem S1x1x256x4096 .bf16) (harg4 : arg4.IsWhole) (arg5 : Memref sig .tc .vmem S4096x128 .bf16) (harg5 : arg5.IsWhole) (arg6 : Memref sig .tc .vmem S16x11008 .f32) (harg6 : arg6.IsWhole) (arg7 : Memref sig .tc .vmem S16x11008 .f32) (harg7 : arg7.IsWhole) (arg8 : Memref sig .tc .vmem S64x4096 .f32) (harg8 : arg8.IsWhole) (arg9 : Memref sig .tc .vmem S1024x128 .bf16) (harg9 : arg9.IsWhole) (arg10 : Memref sig .tc .vmem S16x11008 .bf16) (harg10 : arg10.IsWhole) (arg11 : Memref sig .tc .vmem S16x11008 .bf16) (harg11 : arg11.IsWhole) (arg12 : Memref sig .tc .vmem S64x4096 .bf16) (harg12 : arg12.IsWhole) (arg13 : Memref sig .tc .vmem S4096x256 .bf16) (harg13 : arg13.IsWhole) (hc1 : k0_cond1 i = 1#1) (hc2 : k0_cond2 i = 1#1) (hc3 : ¬k0_cond3 i = 1#1) (hc4 : ¬condZ i = 1#1) (hc5 : ¬condA i = 1#1)
    (x0 : Vec F S1024x256 .bf16) (x1 : Vec F S1x1x256x4096 .bf16) (x2 : Vec F S4096x128 .bf16) (x3 x4 : Vec F S16x11008 .f32) (x5 : Vec F S64x4096 .f32) (x9 : Vec F S64x4096 .bf16) (s : Vec F S4096x256 .bf16) (K : (Σ' (v19 : Vec F S1024x256 .bf16) (v21 : FVec F S1024x256 .f32) (v24 : FVec F S1024x256 .f32) (v27 : FVec F S1024x1 .f32), FVec F S1024x1 .f32) → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ iprop(owns (c : Thread nD τ) arg12 fullShare x9 ∗ owns (c : Thread nD τ) arg13 fullShare s)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare (outG x3) ∗ owns (c : Thread nD τ) arg11 fullShare (outU x4) ∗ owns (c : Thread nD τ) arg12 fullShare x9 ∗ owns (c : Thread nD τ) arg13 fullShare s) -∗ K ⟨View.ld x0 rQ, k0_pay8 (F := F), k0_pay9 (View.ld x0 rQ) (View.ld x1 (rK 0 (by decide))), k0_pay10 (View.ld x0 rQ) (View.ld x1 (rK 0 (by decide))), k0_pay11 (View.ld x0 rQ) (View.ld x1 (rK 0 (by decide)))⟩))
      ⊢ wp frame (wpE (defs₀ (F := F)) Variants.none c none) Set.univ (k0_part1 i arg3 harg3 arg4 harg4 arg5 harg5 arg6 harg6 arg7 harg7 arg8 harg8 arg9 harg9 arg10 harg10 arg11 harg11 arg12 harg12 arg13 harg13) K := by
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, -, H10⟩, ⟨%d11, %f11, -, H11⟩, ⟨⟨%f12, %hf12, H12⟩, ⟨%f13, %hf13, H13⟩⟩, Hk⟩
  subst hf3 hf4 hf5 hf6 hf7 hf8
  sl_exec (disch := first | sl_exact hc1 | sl_exact hc2 | sl_exact hc3 | sl_exact hc4 | sl_exact hc5)
  sl_step
  simp only [View.readAt_eq_ld]
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists d9, f9; isplitr; · ipureintro; exact hf9
    iexact H9
  isplitl [H10]
  · iexists _; isplitr
    swap; · iexact H10
    ipureintro
    exact View.read_writes_eq_canon _ _ _ (coverG _)
  isplitl [H11]
  · iexists _; isplitr
    swap; · iexact H11
    ipureintro
    exact View.read_writes_eq_canon _ _ _ (coverG _)
  isplitl [H12]
  · iexists f12; isplitr; · ipureintro; exact hf12
    iexact H12
  iexists f13; isplitr; · ipureintro; exact hf13
  iexact H13

end Cert.AttnIdeal.Hand

end
-- ==== Proof.Attn.Frame.lean ====
module

public import proofs.«01_k».proof.Proof.Gen.AttnIdeal.Frame
public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.Attn.Parts

/-!
# The attention call: the run and the frame

The wide value tile holds, after a point, the values of the point's head; the third cast's buffer holds, from point 171 on,
what point 171 left.
-/

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's algebra. -/
local notation "𝕄" => MT nD τ sig Unit (Elt F) ℕ (UR sig nD τ) ℕ

variable (m : (ℓ : Loc nD τ sig) → Buf (Elt F) ℓ) (ρ : Dev nD → PrngReg)

/-! ## Which points do what -/

theorem N_eq : cfg0.N = 256 := N_0
theorem cond1_all : ∀ t : Fin cfg0.N, k0_cond1 (grid0.coords t) = 1#1 := (by decide +kernel : ∀ t : Fin grid0.N, _)
theorem cond2_all : ∀ t : Fin cfg0.N, k0_cond2 (grid0.coords t) = 1#1 := (by decide +kernel : ∀ t : Fin grid0.N, _)
theorem cond3_iff : ∀ t : Fin cfg0.N, k0_cond3 (grid0.coords t) = 1#1 ↔ t.val < 172 := (by decide +kernel : ∀ t : Fin grid0.N, _)
theorem condZ_iff : ∀ t : Fin cfg0.N, condZ (grid0.coords t) = 1#1 ↔ t.val = 0 := (by decide +kernel : ∀ t : Fin grid0.N, _)
theorem condA_iff : ∀ t : Fin cfg0.N, condA (grid0.coords t) = 1#1 ↔ t.val % 4 = 0 := (by decide +kernel : ∀ t : Fin grid0.N, _)
theorem idle_iff : ∀ t : Fin cfg0.N, cfg0.idle 9 (grid0.coords t) = decide (172 ≤ t.val) :=
  (by decide +kernel : ∀ t : Fin grid0.N, idle0 9 (grid0.coords t) = decide (172 ≤ t.val))
theorem flush_iff : ∀ t : Fin cfg0.N, (cfg0.win 9).flush t = true ↔ (t.val < 171 ∨ t.val = 255) :=
  (by decide +kernel : ∀ t : Fin grid0.N, win0_9.flush t = true ↔ (t.val < 171 ∨ t.val = 255))

/-! ## The proof data -/

/-- The first point of `t`'s head. -/
def head (t : Fin cfg0.N) : Fin cfg0.N := ⟨t.val - t.val % 4, by have := t.isLt; omega⟩
theorem head_self (t : Fin cfg0.N) (h : t.val % 4 = 0) : head t = t := Fin.ext (by show t.val - t.val % 4 = t.val; omega)
theorem head_eq (t s : Fin cfg0.N) (h : s.val = t.val - 1) (h4 : t.val % 4 ≠ 0) : head s = head t :=
  Fin.ext (by show s.val - s.val % 4 = t.val - t.val % 4; omega)
/-- The point whose cast block the third cast's buffer holds after point `t`. -/
def upTo (t : Fin cfg0.N) : Fin cfg0.N := ⟨min t.val 171, by have := t.isLt; omega⟩
theorem upTo_lt (t : Fin cfg0.N) (h : t.val < 172) : upTo t = t := Fin.ext (by show min t.val 171 = t.val; omega)
theorem upTo_ge (t s : Fin cfg0.N) (ht : 171 ≤ t.val) (hs : 171 ≤ s.val) : upTo t = upTo s :=
  Fin.ext (by show min t.val 171 = min s.val 171; omega)

/-- The wide value tile, whole. -/
abbrev scM : Memref sig .tc .vmem S4096x256 .bf16 := Memref.whole cc0_scratch0

theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- Between points: the wide tile at the values of the head of the point before. -/
def held (c : Dev nD) (s : Fin cfg0.N) : sProp 𝕄 :=
  iprop(owns (c : Thread nD τ) scM fullShare (wide (iblk m c 2 (head s))) ∗ (∃ r, prngReg c r))
def PhiS (c : Dev nD) (k : ℕ) : sProp 𝕄 :=
  if h : 0 < k ∧ k ≤ cfg0.N then held m c ⟨k - 1, by omega⟩ else Pipeline.ΦA spec0 c
theorem PhiS_zero (c : Dev nD) (k : ℕ) (h : k = 0) : PhiS m c k = Pipeline.ΦA spec0 c := dif_neg (by omega)
theorem PhiS_succ (c : Dev nD) (t : Fin cfg0.N) : PhiS m c (t.val + 1) = held m c t :=
  dif_pos (c := 0 < t.val + 1 ∧ t.val + 1 ≤ cfg0.N) ⟨Nat.succ_pos _, t.isLt⟩
theorem prev_lt (t : Fin cfg0.N) : t.val - 1 < cfg0.N := Nat.lt_of_le_of_lt (Nat.sub_le _ _) t.isLt
theorem PhiS_pos (c : Dev nD) (t : Fin cfg0.N) (h : t.val ≠ 0) : PhiS m c t.val = held m c ⟨t.val - 1, prev_lt t⟩ :=
  dif_pos ⟨Nat.pos_of_ne_zero h, le_of_lt t.isLt⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outO (iblk m c 0 t) (iblk m c 1 t) (wide (iblk m c 2 (head t)))
    | ⟨7, _⟩ => outG (iblk m c 3 t)
    | ⟨8, _⟩ => outU (iblk m c 4 t)
    | ⟨9, _⟩ => outD (iblk m c 5 (upTo t))
  Φ t := PhiS m c t.val
  q _ := fullShare
  owed _ := 0

theorem A_eq (c : Dev nD) (w : Fin cfg0.W) : (dats m 0 c).A w = V m c (Pipeline.arrRef spec0 w) := by
  dsimp only [dats]
theorem phi_castSucc (c : Dev nD) (t : Fin cfg0.N) : (dats m 0 c).Φ t.castSucc = PhiS m c t.val := rfl
theorem phi_succ (c : Dev nD) (t : Fin cfg0.N) : (dats m 0 c).Φ t.succ = PhiS m c (t.val + 1) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outO (iblk m c 0 t) (iblk m c 1 t) (wide (iblk m c 2 (head t))) := by dsimp only [dats]
theorem after0_7 (c : Dev nD) (t : Fin cfg0.N) : (dats m 0 c).after 7 t = outG (iblk m c 3 t) := by dsimp only [dats]
theorem after0_8 (c : Dev nD) (t : Fin cfg0.N) : (dats m 0 c).after 8 t = outU (iblk m c 4 t) := by dsimp only [dats]
theorem after0_9 (c : Dev nD) (t : Fin cfg0.N) : (dats m 0 c).after 9 t = outD (iblk m c 5 (upTo t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- From point 172 on the third cast's buffer holds what point 171 left. -/
theorem before0_9 (c : Dev nD) : ∀ (n : ℕ) (t : Fin cfg0.N), t.val = 172 + n → ∀ d, (dats m 0 c).before 9 t d = (dats m 0 c).after 9 t := by
  intro n
  induction n with
  | zero =>
    intro t ht d
    have hN := t.isLt
    have e := N_eq
    rw [(dats m 0 c).before_of_pos 9 t (by omega) ((cfg0.win 9).fetch_out rfl t) d,
      if_neg (fun h => by have := (flush_iff _).mp h; dsimp only at this; omega)]
    unfold Dat.left
    rw [show cfg0.idle 9 (cfg0.grid.coords ⟨t.val - 1, Nat.lt_of_le_of_lt (Nat.sub_le _ _) t.isLt⟩) = false from
      (idle_iff _).trans (decide_eq_false (by dsimp only; omega))]
    refine Eq.trans ?_ ((after0_9 m c ⟨t.val - 1, Nat.lt_of_le_of_lt (Nat.sub_le _ _) t.isLt⟩).trans ?_)
    · rfl
    · rw [after0_9, upTo_ge _ t (by dsimp only; omega) (by omega)]
  | succ n ih =>
    intro t ht d
    have hN := t.isLt
    have e := N_eq
    rw [(dats m 0 c).before_of_pos 9 t (by omega) ((cfg0.win 9).fetch_out rfl t) d,
      if_neg (fun h => by have := (flush_iff _).mp h; dsimp only at this; omega)]
    unfold Dat.left
    rw [show cfg0.idle 9 (cfg0.grid.coords ⟨t.val - 1, Nat.lt_of_le_of_lt (Nat.sub_le _ _) t.isLt⟩) = true from
      (idle_iff _).trans (decide_eq_true (by dsimp only; omega))]
    refine (ih _ (by dsimp only; omega) d).trans ?_
    rw [after0_9, after0_9, upTo_ge _ t (by dsimp only; omega) (by omega)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t)

/-- The third cast's buffer at what it holds after the point, as the pipeline asks for it. -/
theorem leaves9 (c : Dev nD) (t : Fin cfg0.N) :
    owns (c : Thread nD τ) (st0_9 t) fullShare ((dats m 0 c).after 9 t) ⊢ ((dats m 0 c).leavesExact 9 t : sProp 𝕄) := by
  by_cases h : t.val < 172
  · unfold Dat.leavesExact
    rw [show cfg0.idle 9 (cfg0.grid.coords t) = false from (idle_iff t).trans (decide_eq_false (by omega))]
  · by_cases hl : t.val = 255
    · unfold Dat.leavesExact
      rw [show cfg0.idle 9 (cfg0.grid.coords t) = true from (idle_iff t).trans (decide_eq_true (by omega)),
        (flush_iff t).mpr (Or.inr hl)]
    · rw [(dats m 0 c).leavesExact_idle 9 t ((idle_iff t).trans (decide_eq_true (by omega)))
        (by rw [← Bool.not_eq_true, flush_iff]; omega)]
      iintro H
      iexists (dats m 0 c).after 9 t
      rw [before0_9 m c (t.val - 172) t (by omega)]
      iexact H

theorem bodyZ (c : Dev nD) (t : Fin cfg0.N) (h : t.val = 0) :
    bodyPre m c t ⊢ wp frame (wpE (defs₀ (F := F)) Variants.none c none) Set.univ (bodyAt0 t) (fun _ => bodyPost m c t) := by
  have hN := t.isLt
  have e := N_eq
  unfold bodyPre bodyPost bodyAt0
  simp only [before0_0, before0_1, before0_2, before0_3, before0_4, before0_5]
  rw [phi_castSucc, phi_succ, PhiS_succ, PhiS_zero m c t.val (by omega), PhiA_eq,
    show (dats m 0 c).owesAt () t.succ = (dats m 0 c).owesAt () t.castSucc from rfl,
    after0_0, after0_1, after0_2, after0_3, after0_4, after0_5, after0_6, after0_7, after0_8]
  unfold held
  rw [head_self t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (rest c (grid0.coords t) _ _ _ _ _ _ _ _ _ _ _ _ _ _ _ _ _ _ _ _ _ _ (iblk m c 0 t) (iblk m c 1 t) (iblk m c 2 t) (iblk m c 3 t) (iblk m c 4 t) (iblk m c 5 t) (outD (iblk m c 5 t)) (wide (iblk m c 2 t)) _ (fun K => partZ c (grid0.coords t) _ _ _ _ _ _ _ _ _ _ _ _ _ _ _ _ _ _ _ _ _ _ (cond1_all t) (cond2_all t) ((cond3_iff t).mpr (by omega)) ((condZ_iff t).mpr (by omega)) ((condA_iff t).mpr (by omega)) (iblk m c 0 t) (iblk m c 1 t) (iblk m c 2 t) (iblk m c 3 t) (iblk m c 4 t) (iblk m c 5 t) K) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9 HS]
  · isplitl [H9]; · iexists _; iexact H9
    iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves9 m c t)
  rw [after0_9, upTo_lt t (by omega)]
  iexact H9

theorem bodyA (c : Dev nD) (t : Fin cfg0.N) (h : t.val % 4 = 0 ∧ t.val ≠ 0 ∧ t.val < 172) :
    bodyPre m c t ⊢ wp frame (wpE (defs₀ (F := F)) Variants.none c none) Set.univ (bodyAt0 t) (fun _ => bodyPost m c t) := by
  have hN := t.isLt
  have e := N_eq
  unfold bodyPre bodyPost bodyAt0
  simp only [before0_0, before0_1, before0_2, before0_3, before0_4, before0_5]
  rw [phi_castSucc, phi_succ, PhiS_succ, PhiS_pos m c t (by omega),
    show (dats m 0 c).owesAt () t.succ = (dats m 0 c).owesAt () t.castSucc from rfl,
    after0_0, after0_1, after0_2, after0_3, after0_4, after0_5, after0_6, after0_7, after0_8]
  unfold held
  rw [head_self t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (rest c (grid0.coords t) _ _ _ _ _ _ _ _ _ _ _ _ _ _ _ _ _ _ _ _ _ _ (iblk m c 0 t) (iblk m c 1 t) (iblk m c 2 t) (iblk m c 3 t) (iblk m c 4 t) (iblk m c 5 t) (outD (iblk m c 5 t)) (wide (iblk m c 2 t)) _ (fun K => partA c (grid0.coords t) _ _ _ _ _ _ _ _ _ _ _ _ _ _ _ _ _ _ _ _ _ _ (cond1_all t) (cond2_all t) ((cond3_iff t).mpr (by omega)) (fun k => absurd ((condZ_iff t).mp k) (by omega)) ((condA_iff t).mpr (by omega)) (iblk m c 0 t) (iblk m c 1 t) (iblk m c 2 t) (iblk m c 3 t) (iblk m c 4 t) (iblk m c 5 t) (iblk m c 2 (head ⟨t.val - 1, prev_lt t⟩)) K) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9 HS]
  · isplitl [H9]; · iexists _; iexact H9
    iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves9 m c t)
  rw [after0_9, upTo_lt t (by omega)]
  iexact H9

theorem bodyB (c : Dev nD) (t : Fin cfg0.N) (h : t.val % 4 = 0 ∧ 172 ≤ t.val) :
    bodyPre m c t ⊢ wp frame (wpE (defs₀ (F := F)) Variants.none c none) Set.univ (bodyAt0 t) (fun _ => bodyPost m c t) := by
  have hN := t.isLt
  have e := N_eq
  unfold bodyPre bodyPost bodyAt0
  simp only [before0_0, before0_1, before0_2, before0_3, before0_4, before0_5, before0_9 m c (t.val - 172) t (by omega), after0_9]
  rw [phi_castSucc, phi_succ, PhiS_succ, PhiS_pos m c t (by omega),
    show (dats m 0 c).owesAt () t.succ = (dats m 0 c).owesAt () t.castSucc from rfl,
    after0_0, after0_1, after0_2, after0_3, after0_4, after0_5, after0_6, after0_7, after0_8]
  unfold held
  rw [head_self t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (rest c (grid0.coords t) _ _ _ _ _ _ _ _ _ _ _ _ _ _ _ _ _ _ _ _ _ _ (iblk m c 0 t) (iblk m c 1 t) (iblk m c 2 t) (iblk m c 3 t) (iblk m c 4 t) (iblk m c 5 t) (outD (iblk m c 5 (upTo t))) (wide (iblk m c 2 t)) _ (fun K => partB c (grid0.coords t) _ _ _ _ _ _ _ _ _ _ _ _ _ _ _ _ _ _ _ _ _ _ (cond1_all t) (cond2_all t) (fun k => absurd ((cond3_iff t).mp k) (by omega)) (fun k => absurd ((condZ_iff t).mp k) (by omega)) ((condA_iff t).mpr (by omega)) (iblk m c 0 t) (iblk m c 1 t) (iblk m c 2 t) (iblk m c 3 t) (iblk m c 4 t) (iblk m c 5 t) (outD (iblk m c 5 (upTo t))) (iblk m c 2 (head ⟨t.val - 1, prev_lt t⟩)) K) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9 HS]
  · isplitl [H9]; · iexact H9
    iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves9 m c t)
  rw [after0_9]
  iexact H9

theorem bodyM (c : Dev nD) (t : Fin cfg0.N) (h : t.val % 4 ≠ 0 ∧ t.val < 172) :
    bodyPre m c t ⊢ wp frame (wpE (defs₀ (F := F)) Variants.none c none) Set.univ (bodyAt0 t) (fun _ => bodyPost m c t) := by
  have hN := t.isLt
  have e := N_eq
  unfold bodyPre bodyPost bodyAt0
  simp only [before0_0, before0_1, before0_2, before0_3, before0_4, before0_5]
  rw [phi_castSucc, phi_succ, PhiS_succ, PhiS_pos m c t (by omega),
    show (dats m 0 c).owesAt () t.succ = (dats m 0 c).owesAt () t.castSucc from rfl,
    after0_0, after0_1, after0_2, after0_3, after0_4, after0_5, after0_6, after0_7, after0_8]
  unfold held
  rw [head_eq t ⟨t.val - 1, prev_lt t⟩ rfl (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (rest c (grid0.coords t) _ _ _ _ _ _ _ _ _ _ _ _ _ _ _ _ _ _ _ _ _ _ (iblk m c 0 t) (iblk m c 1 t) (iblk m c 2 t) (iblk m c 3 t) (iblk m c 4 t) (iblk m c 5 t) (outD (iblk m c 5 t)) (wide (iblk m c 2 (head t))) _ (fun K => partM c (grid0.coords t) _ _ _ _ _ _ _ _ _ _ _ _ _ _ _ _ _ _ _ _ _ _ (cond1_all t) (cond2_all t) ((cond3_iff t).mpr (by omega)) (fun k => absurd ((condZ_iff t).mp k) (by omega)) (fun k => absurd ((condA_iff t).mp k) (by omega)) (iblk m c 0 t) (iblk m c 1 t) (iblk m c 2 t) (iblk m c 3 t) (iblk m c 4 t) (iblk m c 5 t) (wide (iblk m c 2 (head t))) K) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9 HS]
  · isplitl [H9]; · iexists _; iexact H9
    iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves9 m c t)
  rw [after0_9, upTo_lt t (by omega)]
  iexact H9

theorem bodyN (c : Dev nD) (t : Fin cfg0.N) (h : t.val % 4 ≠ 0 ∧ 172 ≤ t.val) :
    bodyPre m c t ⊢ wp frame (wpE (defs₀ (F := F)) Variants.none c none) Set.univ (bodyAt0 t) (fun _ => bodyPost m c t) := by
  have hN := t.isLt
  have e := N_eq
  unfold bodyPre bodyPost bodyAt0
  simp only [before0_0, before0_1, before0_2, before0_3, before0_4, before0_5, before0_9 m c (t.val - 172) t (by omega), after0_9]
  rw [phi_castSucc, phi_succ, PhiS_succ, PhiS_pos m c t (by omega),
    show (dats m 0 c).owesAt () t.succ = (dats m 0 c).owesAt () t.castSucc from rfl,
    after0_0, after0_1, after0_2, after0_3, after0_4, after0_5, after0_6, after0_7, after0_8]
  unfold held
  rw [head_eq t ⟨t.val - 1, prev_lt t⟩ rfl (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (rest c (grid0.coords t) _ _ _ _ _ _ _ _ _ _ _ _ _ _ _ _ _ _ _ _ _ _ (iblk m c 0 t) (iblk m c 1 t) (iblk m c 2 t) (iblk m c 3 t) (iblk m c 4 t) (iblk m c 5 t) (outD (iblk m c 5 (upTo t))) (wide (iblk m c 2 (head t))) _ (fun K => partN c (grid0.coords t) _ _ _ _ _ _ _ _ _ _ _ _ _ _ _ _ _ _ _ _ _ _ (cond1_all t) (cond2_all t) (fun k => absurd ((cond3_iff t).mp k) (by omega)) (fun k => absurd ((condZ_iff t).mp k) (by omega)) (fun k => absurd ((condA_iff t).mp k) (by omega)) (iblk m c 0 t) (iblk m c 1 t) (iblk m c 2 t) (iblk m c 3 t) (iblk m c 4 t) (iblk m c 5 t) (outD (iblk m c 5 (upTo t))) (wide (iblk m c 2 (head t))) K) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9 HS]
  · isplitl [H9]; · iexact H9
    iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves9 m c t)
  rw [after0_9]
  iexact H9

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyZ m c t h0
  by_cases h4 : t.val % 4 = 0 <;> by_cases hl : t.val < 172
  · exact bodyA m c t ⟨h4, h0, hl⟩
  · exact bodyB m c t ⟨h4, by omega⟩
  · exact bodyM m c t ⟨h4, hl⟩
  · exact bodyN m c t ⟨h4, by omega⟩

theorem defs₀_row (t : Fin cfg0.N) : defs₀ (F := F) .tc cfg0.body (cfg0.bodyArgs t (cfg0.slots t)) = bodyAt0 t := by
  unfold defs₀; rw [Defs.onTc_tc]

theorem leave_live (c : Dev nD) (w : Fin cfg0.W) (t : Fin cfg0.N) (h : cfg0.idle w (cfg0.grid.coords t) = false) :
    ((dats m 0 c).leavesExact w t : sProp 𝕄) = owns (c : Thread nD τ) ((cfg0.win w).stage (cfg0.slots t w)) fullShare ((dats m 0 c).after w t) := by
  unfold Dat.leavesExact; rw [h]
theorem live : ∀ w : Fin cfg0.W, w.val < 9 → ∀ t : Fin cfg0.N, cfg0.idle w (cfg0.grid.coords t) = false := by
  intro w h t
  match w, h with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => exact (by decide +kernel : ∀ t : Fin grid0.N, idle0 7 (grid0.coords t) = false) t
  | ⟨8, _⟩, _ => exact (by decide +kernel : ∀ t : Fin grid0.N, idle0 8 (grid0.coords t) = false) t
  | ⟨n + 9, _⟩, h => exact absurd h (by show ¬(n + 9 < 9); omega)

theorem bodyPost_eq (c : Dev nD) (t : Fin cfg0.N) :
    bodyPost m c t = iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t) := by
  unfold bodyPost
  rw [leave_live m c 0 t (live 0 (by decide) t), leave_live m c 1 t (live 1 (by decide) t), leave_live m c 2 t (live 2 (by decide) t), leave_live m c 3 t (live 3 (by decide) t), leave_live m c 4 t (live 4 (by decide) t), leave_live m c 5 t (live 5 (by decide) t), leave_live m c 6 t (live 6 (by decide) t), leave_live m c 7 t (live 7 (by decide) t), leave_live m c 8 t (live 8 (by decide) t)]

theorem body_obligation (c : Dev nD) : BodyObligation (dats (F := F) m 0 c) (defs₀ (F := F)) Variants.none () Set.univ := fun t => by
  rw [bigSep_W0, bigSep_W0, defs₀_row]
  have h := sound_body m c t
  simp only [bodyPost_eq] at h
  exact triple_restated h rfl .rfl fun _ => .rfl

/-! ## The run and the frame -/

theorem hin (c : Dev nD) : Pipeline.ΦA spec0 c ⊢ (dats m 0 c).Φ 0 := by
  rw [show (dats m 0 c).Φ 0 = PhiS m c 0 from rfl, PhiS_zero m c 0 rfl]
theorem last_eq : (Fin.last cfg0.N).val = (⟨255, by have e := N_eq; omega⟩ : Fin cfg0.N).val + 1 := N_eq
theorem phi_last (c : Dev nD) : (dats m 0 c).Φ (Fin.last cfg0.N) = PhiS m c (Fin.last cfg0.N).val := by dsimp only [dats]
theorem hout (c : Dev nD) : (dats m 0 c).Φ (Fin.last cfg0.N) ⊢ Pipeline.ΦA spec0 c := by
  rw [phi_last, last_eq, PhiS_succ, PhiA_eq]
  unfold held
  iintro ⟨HS, Hg⟩
  isplitl [HS]; · iexists _; iexact HS
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- What the run leaves, without the counters. -/
theorem run_post : θ_run defs (onTc (τ := τ) (main (F := F))) (s₀ m ρ) (Pipeline.FramePost cfgs (dats m) 0 (V m)) :=
  (θ_run defs _ _).mono (fun _ h => h.1) (run_main m ρ)

/-- The frame, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_main m ρ))

end Cert.AttnIdeal.Hand

end
-- ==== Proof.Attn.Bits.lean ====
module

public import proofs.«01_k».proof.Defs
public import proofs.«01_k».proof.Proof.Gen.Attn
public import proofs.«01_k».proof.Proof.Attn.Frame

/-! # The attention call at bits

The program read at bits and the one read at the ideal instance are one text, so the run proved over any float values
is the run of both. -/

@[expose] public section

noncomputable section

open Idealize.ShloMosaic Idealize.ShloMosaic.TcCoe Idealize.SL.Sem

namespace Cert.Attn.Hand

theorem defs₀_eq : (Cert.Attn.defs₀ (F := Bits)) = Cert.AttnIdeal.defs₀ (F := Bits) := by
  unfold Cert.Attn.defs₀ Cert.AttnIdeal.defs₀
  refine congrArg Defs.onTc ?_
  funext ℓ a
  match ℓ, a with
  | 0, (t, s) => rfl

theorem defs_eq : (Cert.Attn.defs (F := Bits)) = Cert.AttnIdeal.defs (F := Bits) :=
  congrArg (Pipeline.defs (Cert.AttnIdeal.pcfgs (F := Bits))) defs₀_eq

theorem frame : Cert.quiescent_Attn := fun m ρ _ => by
  have h := Cert.AttnIdeal.Hand.frame (F := Bits) m ρ
  rw [← defs_eq] at h
  exact h

end Cert.Attn.Hand

end
-- ==== Proof.Attn.Steps.lean ====
module

public import proofs.«01_k».proof.Proof.Attn.Parts
public import Idealize.ShloMosaic.Lib.Pipeline.ValueKit
public import Idealize.ShloMosaic.Lib.Pipeline.ReadBack
public import Idealize.ShloMosaic.Lib.Pointwise

/-!
# The attention call: the body's values as sixteen equal steps

The body's text runs over the key blocks one after another, each time with the same few lines; here its value is put as the
sixteenth term of one recursion, whose state is the row maximum and the accumulated wide product.
-/

@[expose] public section

set_option maxRecDepth 16384

noncomputable section

namespace Cert.AttnIdeal.Hand

open Cert.AttnIdeal Cert.AttnIdeal.Gen
open Idealize.ShloMosaic Idealize.ShloMosaic.TcCoe

variable {F : FTy → Type} [FloatOps F]

/-- The scores of a query block against one key block. -/
abbrev sc (q : Vec F S1024x256 .bf16) (k : Vec F S1x1x256x256 .bf16) : FVec F S1024x256 .f32 := k0_pay9 q k

/-- The row maximum after a key block. -/
def mx (q : Vec F S1024x256 .bf16) (M : FVec F S1024x1 .f32) (k : Vec F S1x1x256x256 .bf16) : FVec F S1024x1 .f32 :=
  maximumf M (shapeCast S1024x1 (multiReduction .maximumf [1] S1024 (sc q k) 0xFF800000#32 reduces_S1024x256_S1024 (.inl rfl) rfl) shapeCasts_S1024_S1024x1)

/-- The weights of a key block's columns. -/
def pr (q : Vec F S1024x256 .bf16) (M : FVec F S1024x1 .f32) (k : Vec F S1x1x256x256 .bf16) : FVec F S1024x256 .bf16 :=
  truncf .bf16 (exp2 (subf (sc q k) (broadcastTo S1024x256 (mx q M k) broadcasts_S1024x1_S1024x256))) bitsLt_bf16_f32

/-- What was accumulated, moved to the new maximum. -/
def sh (q : Vec F S1024x256 .bf16) (M : FVec F S1024x1 .f32) (A : FVec F S1024x256 .f32) (k : Vec F S1x1x256x256 .bf16) : FVec F S1024x256 .f32 :=
  mulf (broadcastTo S1024x256 (exp2 (subf M (mx q M k))) broadcasts_S1024x1_S1024x256) A

/-- A key block's contribution added. -/
def ac (A : FVec F S1024x256 .f32) (p : FVec F S1024x256 .bf16) (v : Vec F S256x256 .bf16) : FVec F S1024x256 .f32 :=
  addf A (matmul dot_S1024x256_S256x256_S1024x256_1_0_0_1_n_n none p v (constant S1024x256 .f32 0x00000000#32))

/-- One key block's step of the accumulator. -/
abbrev stp (q : Vec F S1024x256 .bf16) (M : FVec F S1024x1 .f32) (A : FVec F S1024x256 .f32) (k : Vec F S1x1x256x256 .bf16) (v : Vec F S256x256 .bf16) : FVec F S1024x256 .f32 :=
  ac (sh q M A k) (pr q M k) v

/-- The end: the value columns over the ones column. -/
def fin (A : FVec F S1024x256 .f32) : FVec F S1024x128 .bf16 :=
  truncf .bf16 (divf (extractStridedSlice S1024x128 ![0, 0] A slices_S1024x256_o0_0_S1024x128)
    (broadcastTo S1024x128 (extractStridedSlice S1024x1 ![0, 128] A slices_S1024x256_o0_128_S1024x1) broadcasts_S1024x1_S1024x128)) bitsLt_bf16_f32

/-- The row maximum after the first key blocks. -/
def Mx (q : Vec F S1024x256 .bf16) (k : ℕ → Vec F S1x1x256x256 .bf16) : ℕ → FVec F S1024x1 .f32
  | 0 => k0_pay7 (F := F)
  | j + 1 => mx q (Mx q k j) (k j)

/-- The accumulator after the first key blocks. -/
def Ac (q : Vec F S1024x256 .bf16) (k : ℕ → Vec F S1x1x256x256 .bf16) (v : ℕ → Vec F S256x256 .bf16) : ℕ → FVec F S1024x256 .f32
  | 0 => k0_pay8 (F := F)
  | j + 1 => stp q (Mx q k j) (Ac q k v j) (k j) (v j)

section Payloads

variable (q : Vec F S1024x256 .bf16) (M M' : FVec F S1024x1 .f32) (A : FVec F S1024x256 .f32) (p : FVec F S1024x256 .bf16)
  (k k' k'' : Vec F S1x1x256x256 .bf16) (v v' v'' : Vec F S256x256 .bf16)

theorem pay10 : k0_pay10 q k = mx q k0_pay7 k := rfl
theorem pay15 : k0_pay15 q M k k' = mx q (mx q M k) k' := rfl
theorem pay16 : k0_pay16 q M k k' = pr q (mx q M k) k' := rfl
theorem pay17 : k0_pay17 q (k0_pay8 (F := F)) (k0_pay9 q k) (mx q k0_pay7 k) (k0_pay11 q k) v k' v' k''
    = sh q (mx q (mx q k0_pay7 k) k') (stp q (mx q k0_pay7 k) (stp q k0_pay7 k0_pay8 k v) k' v') k'' := rfl
theorem pay21 : k0_pay21 q M k k' = mx q (mx q M k) k' := rfl
theorem pay26 : k0_pay26 q M k k' = mx q (mx q M k) k' := rfl
theorem pay33 : k0_pay33 q M k k' = mx q (mx q M k) k' := rfl
theorem pay39 : k0_pay39 q M k k' = mx q (mx q M k) k' := rfl
theorem pay44 : k0_pay44 q M k k' = mx q (mx q M k) k' := rfl
theorem pay22 : k0_pay22 q M p A v k v' k' v'' = stp q (mx q M k) (stp q M (ac A p v) k v') k' v'' := rfl
theorem pay40 : k0_pay40 q M p A v k v' k' v'' = stp q (mx q M k) (stp q M (ac A p v) k v') k' v'' := rfl
theorem pay27 : k0_pay27 q M A k v k' v' = stp q (mx q M k) (stp q M A k v) k' v' := rfl
theorem pay45 : k0_pay45 q M A k v k' v' = stp q (mx q M k) (stp q M A k v) k' v' := rfl
theorem pay28 : k0_pay28 q k = sc q k := rfl
theorem pay29 : k0_pay29 q M k k' k'' = mx q (mx q (mx q M k) k') k'' := rfl
theorem pay34 : k0_pay34 q M k k' = pr q (mx q M k) k' := rfl
theorem pay35 : k0_pay35 q M A (sc q k) (mx q M k) v k' v' k''
    = sh q (mx q (mx q M k) k') (stp q (mx q M k) (stp q M A k v) k' v') k'' := rfl
theorem pay1 : k0_pay1 q M A (k0_pay46 q k) (k0_pay47 q k) v k' v' = fin (stp q (mx q M k) (stp q M A k v) k' v') := rfl

end Payloads

/-- The body's value is the end of the sixteen steps. -/
theorem att_eq (q : Vec F S1024x256 .bf16) (k : (n : ℕ) → n ≤ 3840 → Vec F S1x1x256x256 .bf16) (v : (n : ℕ) → n ≤ 3840 → Vec F S256x256 .bf16) :
    att q k v = fin (Ac q (fun j => k (256 * min j 15) (by omega)) (fun j => v (256 * min j 15) (by omega)) 16) := by
  simp only [att, pay10, pay15, pay16, pay17, pay21, pay22, pay26, pay27, pay28, pay29, pay33, pay34, pay35, pay39, pay40, pay44, pay45, pay1]
  rfl

end Cert.AttnIdeal.Hand

end
-- ==== Proof.Attn.Softmax.lean ====
module

public import Idealize.ShloMosaic.Lib.Pipeline.ValueKit
public import Idealize.ShloMosaic.Lib.Pointwise

/-!
# Softmax, taken block by block and taken at once

A row's scores are reals; its values are any extended reals.  Going over the blocks with a running maximum keeps the values'
sum, weighted by the powers of two of the scores' distances from that maximum.  Which real the distances are taken from does
not matter to the weighted mean, so in the end it is the mean that the softmax of the whole row gives.
-/

@[expose] public section

noncomputable section

namespace Softmax

open Idealize.ShloMosaic

/-- The extended real is a real. -/
abbrev Real? (x : EReal) : Prop := ∃ r : ℝ, x = (r : EReal)

theorem of_ne {x : EReal} (h : x ≠ ⊤) (h' : x ≠ ⊥) : Real? x := ⟨x.toReal, (EReal.coe_toReal h h').symm⟩

theorem mul_real {x y : EReal} : Real? x → Real? y → Real? (x * y) := by
  rintro ⟨a, rfl⟩ ⟨b, rfl⟩
  exact ⟨a * b, (EReal.coe_mul a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type*} (s : Finset ι) (f : ι → EReal) (h : ∀ i, Real? (f i)) : Real? (∑ i ∈ s, f i) := by
  choose g hg using h
  exact ⟨∑ i ∈ s, g i, by rw [coe_sum]; exact Finset.sum_congr rfl fun i _ => hg i⟩

/-- A nonnegative real goes inside a sum. -/
theorem coe_mul_sum {ι : Type*} (a : ℝ) (ha : 0 ≤ a) (s : Finset ι) (f : ι → EReal) :
    (a : EReal) * ∑ i ∈ s, f i = ∑ i ∈ s, (a : EReal) * f i := by
  classical
  induction s using Finset.induction_on with
  | empty => simp
  | insert b s hb ih =>
    rw [Finset.sum_insert hb, Finset.sum_insert hb,
      EReal.left_distrib_of_nonneg_of_ne_top (EReal.coe_nonneg.mpr ha) (EReal.coe_ne_top a), ih]

/-- The largest of a nonempty family of reals is a real. -/
theorem fold_max_real {ι : Type*} [Fintype ι] (i₀ : ι) (f : ι → EReal) (h : ∀ i, Real? (f i)) :
    Real? ((Finset.univ : Finset ι).fold max ⊥ f) := by
  refine of_ne (ne_of_lt (Finset.fold_max_lt _ |>.mpr ⟨bot_lt_top, fun i _ => ?_⟩)) (ne_of_gt ?_)
  · obtain ⟨r, hr⟩ := h i
    rw [hr]; exact EReal.coe_lt_top r
  · refine lt_of_lt_of_le ?_ ((Finset.le_fold_max (f i₀)).mpr (Or.inr ⟨i₀, Finset.mem_univ _, le_rfl⟩))
    obtain ⟨r, hr⟩ := h i₀
    rw [hr]; exact EReal.bot_lt_coe r

theorem max_real {x y : EReal} : Real? x → Real? y → Real? (max x y) := by
  rintro ⟨a, rfl⟩ ⟨b, rfl⟩
  exact ⟨max a b, ((EReal.coe_strictMono.monotone).map_max).symm⟩

/-- A left fold of maxima stays finite, and is at least every entry. -/
theorem foldl_max {α : Type*} (f : α → EReal) (h : ∀ i, Real? (f i)) : ∀ (l : List α) (a : EReal), a ≠ ⊤ →
    l.foldl (fun r n => max r (f n)) a ≠ ⊤ ∧ a ≤ l.foldl (fun r n => max r (f n)) a
      ∧ ∀ n ∈ l, f n ≤ l.foldl (fun r n => max r (f n)) a
  | [], a, ha => ⟨ha, le_rfl, fun n hn => absurd hn List.not_mem_nil⟩
  | b :: l, a, ha => by
    have hb : max a (f b) ≠ ⊤ := by
      obtain ⟨r, hr⟩ := h b
      rw [hr]
      exact ne_of_lt (max_lt (lt_of_le_of_ne le_top ha) (EReal.coe_lt_top r))
    obtain ⟨h1, h2, h3⟩ := foldl_max f h l (max a (f b)) hb
    refine ⟨h1, (le_max_left _ _).trans h2, fun n hn => ?_⟩
    rcases List.mem_cons.mp hn with rfl | hn
    · exact (le_max_right _ _).trans h2
    · exact h3 n hn

/-- The host's reduction by maxima, over a fibre that is not empty, of reals, from a start below them. -/
theorem reduce_max_real {s t u : Shape} {axes : List (Fin s.rank)} (x : s.Idx → EReal) (init : u.Idx → EReal)
    (h : s.ReducesTo axes t) (hu : 0 < u.numel) (hx : ∀ i, Real? (x i)) (hi : init (Shape.Idx.first hu) ≠ ⊤) (j : t.Idx)
    (i : s.Idx) (hij : h.drop i = j) :
    Real? (Host.reduce (FloatOps.maximumf (F := Ideal) (φ := .f32)) x init h hu j) := by
  obtain ⟨h1, -, h3⟩ := foldl_max (fun n => x (s.rowMajor.symm n)) (fun n => hx _)
    ((List.finRange s.numel).filter fun n => h.drop (s.rowMajor.symm n) = j) (init (Shape.Idx.first hu)) hi
  refine of_ne h1 (ne_of_gt (lt_of_lt_of_le ?_ (h3 (s.rowMajor i) ?_)))
  · obtain ⟨r, hr⟩ := hx (s.rowMajor.symm (s.rowMajor i))
    show ⊥ < x (s.rowMajor.symm (s.rowMajor i))
    rw [hr]; exact EReal.bot_lt_coe r
  · refine List.mem_filter.mpr ⟨List.mem_finRange _, ?_⟩
    rw [Equiv.symm_apply_apply, hij]
    exact decide_eq_true rfl

theorem exp2_sub (a b : ℝ) : Ideal.exp2 ((a : EReal) - (b : EReal)) = (((2 : ℝ) ^ (a - b) : ℝ) : EReal) := by
  rw [← EReal.coe_sub]; rfl

theorem pow_pos (a : ℝ) : (0 : ℝ) < (2 : ℝ) ^ a := Real.rpow_pos_of_pos two_pos a

/-- The running form: after some blocks the maximum is a real, and what was accumulated is the values' sum weighted by the
    powers of two of the distances from it. -/
theorem online {n : ℕ} (x₀ : Fin n) (σ : ℕ → Fin n → ℝ) (v : ℕ → Fin n → EReal) (M A : ℕ → EReal) (hM0 : M 0 = ⊥) (hA0 : A 0 = 0)
    (hM : ∀ j, M (j + 1) = max (M j) ((Finset.univ : Finset (Fin n)).fold max ⊥ fun x => (σ j x : EReal)))
    (hA : ∀ j, A (j + 1) = Ideal.exp2 (M j - M (j + 1)) * A j + ∑ x, Ideal.exp2 ((σ j x : EReal) - M (j + 1)) * v j x) (j : ℕ) :
    ∃ μ : ℝ, M (j + 1) = μ ∧ A (j + 1) = ∑ i ∈ Finset.range (j + 1), ∑ x, (((2 : ℝ) ^ (σ i x - μ) : ℝ) : EReal) * v i x := by
  induction j with
  | zero =>
    obtain ⟨μ, hμ⟩ := fold_max_real x₀ (fun x => (σ 0 x : EReal)) fun x => ⟨σ 0 x, rfl⟩
    have h1 : M (0 + 1) = μ := by rw [hM 0, hM0, hμ]; exact max_eq_right bot_le
    refine ⟨μ, h1, ?_⟩
    rw [hA 0, hA0, mul_zero, zero_add, h1, Finset.sum_range_one]
    exact Finset.sum_congr rfl fun x _ => by rw [exp2_sub]
  | succ j ih =>
    obtain ⟨ν, hν, hAν⟩ := ih
    obtain ⟨μ, hμ⟩ := max_real ⟨ν, rfl⟩ (fold_max_real x₀ (fun x => (σ (j + 1) x : EReal)) fun x => ⟨σ (j + 1) x, rfl⟩)
    have h1 : M (j + 1 + 1) = μ := by rw [hM (j + 1), hν, hμ]
    refine ⟨μ, h1, ?_⟩
    rw [hA (j + 1), h1, hν, hAν, exp2_sub, coe_mul_sum _ (pow_pos _).le, Finset.sum_range_succ _ (j + 1)]
    refine congrArg₂ (· + ·) (Finset.sum_congr rfl fun i _ => ?_) (Finset.sum_congr rfl fun x _ => by rw [exp2_sub])
    rw [coe_mul_sum _ (pow_pos _).le]
    refine Finset.sum_congr rfl fun x _ => ?_
    rw [← mul_assoc, ← EReal.coe_mul, ← Real.rpow_add two_pos]
    congr 3
    ring

theorem exp_log_two (a b : ℝ) : Ideal.exp ((a : EReal) * ((Real.log 2 : ℝ) : EReal) - (b : EReal))
    = (((2 : ℝ) ^ a * Real.exp (-b) : ℝ) : EReal) := by
  rw [← EReal.coe_mul, ← EReal.coe_sub]
  show ((Real.exp (a * Real.log 2 - b) : ℝ) : EReal) = _
  rw [sub_eq_add_neg, Real.exp_add, mul_comm a, ← Real.rpow_def_of_pos two_pos]

theorem pow_sub (a μ : ℝ) : (2 : ℝ) ^ (a - μ) = (2 : ℝ) ^ a * (2 : ℝ) ^ (-μ) := by
  rw [sub_eq_add_neg, Real.rpow_add two_pos]

/-- The weighted sum over the weights' sum is the softmax's mean, whichever reals the two take their distances from. -/
theorem mean {n : ℕ} (k₀ : Fin n) (σ : Fin n → ℝ) (w : Fin n → EReal) (μ b : ℝ) :
    Ideal.div (∑ k, (((2 : ℝ) ^ (σ k - μ) : ℝ) : EReal) * w k) (∑ k, (((2 : ℝ) ^ (σ k - μ) : ℝ) : EReal) * 1)
      = ∑ k, w k * Ideal.div (Ideal.exp ((σ k : EReal) * ((Real.log 2 : ℝ) : EReal) - (b : EReal)))
          (∑ j, Ideal.exp ((σ j : EReal) * ((Real.log 2 : ℝ) : EReal) - (b : EReal))) := by
  have hS : (0 : ℝ) < ∑ j, (2 : ℝ) ^ σ j := Finset.sum_pos (fun j _ => pow_pos (σ j)) ⟨k₀, Finset.mem_univ _⟩
  have hL : ∑ k, (((2 : ℝ) ^ (σ k - μ) : ℝ) : EReal) * 1 = (((∑ j, (2 : ℝ) ^ σ j) * (2 : ℝ) ^ (-μ) : ℝ) : EReal) := by
    rw [Finset.sum_mul, coe_sum]
    exact Finset.sum_congr rfl fun k _ => by rw [mul_one, pow_sub]
  have hR : ∑ j, Ideal.exp ((σ j : EReal) * ((Real.log 2 : ℝ) : EReal) - (b : EReal))
      = (((∑ j, (2 : ℝ) ^ σ j) * Real.exp (-b) : ℝ) : EReal) := by
    rw [Finset.sum_mul, coe_sum]
    exact Finset.sum_congr rfl fun k _ => exp_log_two _ _
  have h2 : (∑ j, (2 : ℝ) ^ σ j) * (2 : ℝ) ^ (-μ) ≠ 0 := (mul_pos hS (pow_pos _)).ne'
  have h3 : (∑ j, (2 : ℝ) ^ σ j) * Real.exp (-b) ≠ 0 := (mul_pos hS (Real.exp_pos _)).ne'
  rw [hL, hR, Ideal.div_coe h2, mul_comm, coe_mul_sum _ (one_div_nonneg.mpr (mul_pos hS (pow_pos _)).le)]
  refine Finset.sum_congr rfl fun k _ => ?_
  rw [Ideal.div_coe h3, exp_log_two, ← mul_assoc, ← EReal.coe_mul, ← EReal.coe_mul, mul_comm (w k), pow_sub]
  congr 2
  have := (pow_pos (-μ)).ne'
  have := (Real.exp_pos (-b)).ne'
  field_simp

/-- A sum over blocks and their places is a sum over all places. -/
theorem sum_blocks {β : Type*} [AddCommMonoid β] (f : ℕ → β) :
    ∑ i ∈ Finset.range 16, ∑ x : Fin 256, f (256 * i + x.val) = ∑ k : Fin 4096, f k.val := by
  rw [Finset.sum_range, ← Fintype.sum_prod_type', ← Equiv.sum_comp (finProdFinEquiv (m := 16) (n := 256))]
  exact Finset.sum_congr rfl fun p _ => by rw [add_comm]; rfl

end Softmax

end
-- ==== Proof.Attn.Ref.lean ====
module

public import proofs.«01_k».proof.Proof.Gen.AttnRefIdeal.Run
public import proofs.«01_k».proof.Proof.Attn.Softmax

/-! # The attention reference, part by part -/

@[expose] public section

set_option maxRecDepth 16384

noncomputable section

namespace Cert.AttnRefIdeal.Hand

open Cert.AttnRefIdeal Cert.AttnRefIdeal.Gen
open Idealize.ShloMosaic Idealize.ShloMosaic.TcCoe
open Softmax (Real? mul_real sum_real reduce_max_real)

/-- The scores, from base two to base `e`. -/
def logit (q : FVec Ideal S16384x4096 .bf16) (k : FVec Ideal S4x16x256x4096 .bf16) : FVec Ideal S4x16x4096x4096 .f32 :=
  mulf (Host.dotGeneral dot_S4x4096x16x256_S4x16x256x4096_S4x16x4096x4096_3_2_1_3_02_01 none (shapeCast _ (extf .f32 q bitsLt_bf16_f32) shapeCasts_S16384x4096_S4x4096x16x256) (extf .f32 k bitsLt_bf16_f32)) (broadcastInDim S4x16x4096x4096 ![] bcast_S_S4x16x4096x4096 (Host.log (constant S_ .f32 0x40000000#32)))

/-- Each query's largest. -/
def top (q : FVec Ideal S16384x4096 .bf16) (k : FVec Ideal S4x16x256x4096 .bf16) : FVec Ideal S4x16x4096 .f32 :=
  Host.reduce FloatOps.maximumf (logit q k) (constant S_ .f32 0xFF800000#32) reducesTo_S4x16x4096x4096_S4x16x4096_d3 h_S_

/-- The same, not below where the reduction starts. -/
def peak (q : FVec Ideal S16384x4096 .bf16) (k : FVec Ideal S4x16x256x4096 .bf16) : FVec Ideal S4x16x4096 .f32 :=
  maximumf (broadcastInDim S4x16x4096 ![] bcast_S_S4x16x4096 (constant S_ .f32 0xFF800000#32)) (top q k)

/-- The exponentials. -/
def expo (q : FVec Ideal S16384x4096 .bf16) (k : FVec Ideal S4x16x256x4096 .bf16) : FVec Ideal S4x16x4096x4096 .f32 :=
  Host.exp (subf (logit q k) (broadcastInDim S4x16x4096x4096 ![0, 1, 2, 3] bcast_S4x16x4096x1_S4x16x4096x4096_0_1_2_3 (broadcastInDim S4x16x4096x1 ![0, 1, 2] bcast_S4x16x4096_S4x16x4096x1_0_1_2 (peak q k))))

/-- Their sums. -/
def total (q : FVec Ideal S16384x4096 .bf16) (k : FVec Ideal S4x16x256x4096 .bf16) : FVec Ideal S4x16x4096 .f32 :=
  Host.reduceAdd (expo q k) (constant S_ .f32 0x00000000#32) reducesTo_S4x16x4096x4096_S4x16x4096_d3 h_S_

/-- The softmax. -/
def soft (q : FVec Ideal S16384x4096 .bf16) (k : FVec Ideal S4x16x256x4096 .bf16) : FVec Ideal S4x16x4096x4096 .f32 :=
  Host.divf (expo q k) (broadcastInDim S4x16x4096x4096 ![0, 1, 2, 3] bcast_S4x16x4096x1_S4x16x4096x4096_0_1_2_3 (broadcastInDim S4x16x4096x1 ![0, 1, 2] bcast_S4x16x4096_S4x16x4096x1_0_1_2 (total q k)))

/-- The attention's result. -/
def attn (q : FVec Ideal S16384x4096 .bf16) (k : FVec Ideal S4x16x256x4096 .bf16) (v : FVec Ideal S16384x2048 .bf16) : FVec Ideal S16384x2048 .bf16 :=
  truncf .bf16 (shapeCast _ (transpose S4x4096x16x128 [0, 3, 1, 2] (Host.dotGeneral dot_S4x4096x16x128_S4x16x4096x4096_S4x16x128x4096_1_3_3_2_02_01 none (shapeCast _ (extf .f32 v bitsLt_bf16_f32) shapeCasts_S16384x2048_S4x4096x16x128) (soft q k)) transposes_S4x16x128x4096_S4x4096x16x128_0_3_1_2) shapeCasts_S4x4096x16x128_S16384x2048) bitsLt_bf16_f32

variable (q : FVec Ideal S16384x4096 .bf16) (k : FVec Ideal S4x16x256x4096 .bf16) (v : FVec Ideal S16384x2048 .bf16)

/-- A query's score against a key. -/
def score (b : Fin 4) (h : Fin 16) (i j : Fin 4096) : EReal :=
  ∑ x : Fin 256, q (ix2 ⟨b.val * 4096 + i.val, by omega⟩ ⟨h.val * 256 + x.val, by omega⟩) * k (ix4 b h x j)

theorem log_two : Ideal.log (Ideal.ofBits .f32 1073741824#32) = ((Real.log 2 : ℝ) : EReal) := by
  have h : Ideal.ofBits .f32 1073741824#32 = ((2 : ℝ) : EReal) := by
    simp [Ideal.ofBits, Ideal.ieee, -EReal.coe_mul]
    norm_num
  rw [h, Ideal.log_coe, if_neg (by norm_num)]

theorem logit_at (b : Fin 4) (h : Fin 16) (i j : Fin 4096) : logit q k (ix4 b h i j) = score q k b h i j * ((Real.log 2 : ℝ) : EReal) := by
  rw [← log_two]
  unfold score
  pointwise [logit]

theorem score_real (hq : ∀ y, Real? (q y)) (hk : ∀ y, Real? (k y)) (b : Fin 4) (h : Fin 16) (i j : Fin 4096) : Real? (score q k b h i j) :=
  sum_real _ _ fun x => mul_real (hq _) (hk _)

theorem logit_real (hq : ∀ y, Real? (q y)) (hk : ∀ y, Real? (k y)) (y : S4x16x4096x4096.Idx) : Real? (logit q k y) := by
  obtain ⟨b, h, i, j, rfl⟩ : ∃ b h i j, y = ix4 b h i j := ⟨y 0, y 1, y 2, y 3, (ix4_eta y).symm⟩
  rw [logit_at]
  exact mul_real (score_real q k hq hk b h i j) ⟨_, rfl⟩

theorem drop_at (b : Fin 4) (h : Fin 16) (i j : Fin 4096) : reducesTo_S4x16x4096x4096_S4x16x4096_d3.drop (ix4 b h i j) = ix3 b h i := by
  funext a
  match a with
  | ⟨0, _⟩ => rfl
  | ⟨1, _⟩ => rfl
  | ⟨2, _⟩ => rfl

theorem bot_bits : Ideal.ofBits .f32 0xFF800000#32 = ⊥ := by simp [Ideal.ofBits, Ideal.ieee]

theorem bot_ne (u) : constant (F := Ideal) S_ .f32 0xFF800000#32 u ≠ ⊤ := by
  show Ideal.ofBits .f32 0xFF800000#32 ≠ ⊤
  rw [bot_bits]
  exact bot_ne_top

theorem top_real (hq : ∀ y, Real? (q y)) (hk : ∀ y, Real? (k y)) (b : Fin 4) (h : Fin 16) (i : Fin 4096) : Real? (top q k (ix3 b h i)) := by
  unfold top
  exact reduce_max_real (logit q k) (constant (F := Ideal) S_ .f32 0xFF800000#32) reducesTo_S4x16x4096x4096_S4x16x4096_d3 h_S_
    (logit_real q k hq hk) (bot_ne _) (ix3 b h i) (ix4 b h i 0) (drop_at b h i 0)
theorem max_bot (T : FVec Ideal S4x16x4096 .f32) (b : Fin 4) (h : Fin 16) (i : Fin 4096) :
    maximumf (broadcastInDim S4x16x4096 ![] bcast_S_S4x16x4096 (constant S_ .f32 0xFF800000#32)) T (ix3 b h i) = max (Ideal.ofBits .f32 0xFF800000#32) (T (ix3 b h i)) := by
  pointwise

theorem peak_at (b : Fin 4) (h : Fin 16) (i : Fin 4096) : peak q k (ix3 b h i) = max (Ideal.ofBits .f32 0xFF800000#32) (top q k (ix3 b h i)) := by
  unfold peak
  exact max_bot _ b h i

theorem peak_real (hq : ∀ y, Real? (q y)) (hk : ∀ y, Real? (k y)) (b : Fin 4) (h : Fin 16) (i : Fin 4096) : Real? (peak q k (ix3 b h i)) := by
  rw [peak_at, bot_bits, max_eq_right bot_le]
  exact top_real q k hq hk b h i

theorem expo_at (b : Fin 4) (h : Fin 16) (i j : Fin 4096) : expo q k (ix4 b h i j) = Ideal.exp (logit q k (ix4 b h i j) - peak q k (ix3 b h i)) := by
  pointwise [expo]

theorem total_at (b : Fin 4) (h : Fin 16) (i : Fin 4096) : total q k (ix3 b h i) = ∑ x, expo q k (ix4 b h i x) := by
  pointwise [total]

theorem soft_at (b : Fin 4) (h : Fin 16) (i j : Fin 4096) : soft q k (ix4 b h i j) = Ideal.div (expo q k (ix4 b h i j)) (total q k (ix3 b h i)) := by
  pointwise [soft]

theorem attn_at (r : Fin 16384) (x : Fin 2048) : attn q k v (ix2 r x)
    = ∑ j : Fin 4096, v (ix2 ⟨r.val / 4096 * 4096 + j.val, by omega⟩ x)
        * soft q k (ix4 ⟨r.val / 4096, by omega⟩ ⟨x.val / 128, by omega⟩ ⟨r.val % 4096, by omega⟩ j) := by
  pointwise [attn]

/-- What the reference gives: the mean of the values under the softmax of the scores, taken about some real. -/
theorem attn_mean (hq : ∀ y, Real? (q y)) (hk : ∀ y, Real? (k y)) (r : Fin 16384) (x : Fin 2048) (b : Fin 4) (h : Fin 16) (i : Fin 4096)
    (hb : b.val = r.val / 4096) (hh : h.val = x.val / 128) (hi : i.val = r.val % 4096) :
    ∃ β : ℝ, attn q k v (ix2 r x) = ∑ j : Fin 4096, v (ix2 ⟨b.val * 4096 + j.val, by omega⟩ x)
      * Ideal.div (Ideal.exp (score q k b h i j * ((Real.log 2 : ℝ) : EReal) - (β : EReal)))
          (∑ j', Ideal.exp (score q k b h i j' * ((Real.log 2 : ℝ) : EReal) - (β : EReal))) := by
  obtain ⟨β, hβ⟩ := peak_real q k hq hk b h i
  refine ⟨β, ?_⟩
  rw [attn_at]
  have eb : (⟨r.val / 4096, by omega⟩ : Fin 4) = b := Fin.ext hb.symm
  have eh : (⟨x.val / 128, by omega⟩ : Fin 16) = h := Fin.ext hh.symm
  have ei : (⟨r.val % 4096, by omega⟩ : Fin 4096) = i := Fin.ext hi.symm
  have ev : ∀ j : Fin 4096, (⟨r.val / 4096 * 4096 + j.val, by omega⟩ : Fin 16384) = ⟨b.val * 4096 + j.val, by omega⟩ :=
    fun j => Fin.ext (by show r.val / 4096 * 4096 + j.val = b.val * 4096 + j.val; rw [hb])
  simp only [eb, eh, ei, ev]
  refine Finset.sum_congr rfl fun j _ => ?_
  have he : ∀ j', expo q k (ix4 b h i j') = Ideal.exp (score q k b h i j' * ((Real.log 2 : ℝ) : EReal) - (β : EReal)) := fun j' => by
    rw [expo_at, hβ, logit_at]
  rw [soft_at, total_at, he j, Finset.sum_congr rfl fun j' _ => he j']

/-- The parts, put back together. -/
theorem attn_eq : attn q k v = truncf .bf16 (shapeCast _ (transpose S4x4096x16x128 [0, 3, 1, 2] (Host.dotGeneral dot_S4x4096x16x128_S4x16x4096x4096_S4x16x128x4096_1_3_3_2_02_01 none (shapeCast _ (extf .f32 v bitsLt_bf16_f32) shapeCasts_S16384x2048_S4x4096x16x128) (Host.divf (Host.exp (subf (mulf (Host.dotGeneral dot_S4x4096x16x256_S4x16x256x4096_S4x16x4096x4096_3_2_1_3_02_01 none (shapeCast _ (extf .f32 q bitsLt_bf16_f32) shapeCasts_S16384x4096_S4x4096x16x256) (extf .f32 k bitsLt_bf16_f32)) (broadcastInDim S4x16x4096x4096 ![] bcast_S_S4x16x4096x4096 (Host.log (constant S_ .f32 0x40000000#32)))) (broadcastInDim S4x16x4096x4096 ![0, 1, 2, 3] bcast_S4x16x4096x1_S4x16x4096x4096_0_1_2_3 (broadcastInDim S4x16x4096x1 ![0, 1, 2] bcast_S4x16x4096_S4x16x4096x1_0_1_2 (maximumf (broadcastInDim S4x16x4096 ![] bcast_S_S4x16x4096 (constant S_ .f32 0xFF800000#32)) (Host.reduce FloatOps.maximumf (mulf (Host.dotGeneral dot_S4x4096x16x256_S4x16x256x4096_S4x16x4096x4096_3_2_1_3_02_01 none (shapeCast _ (extf .f32 q bitsLt_bf16_f32) shapeCasts_S16384x4096_S4x4096x16x256) (extf .f32 k bitsLt_bf16_f32)) (broadcastInDim S4x16x4096x4096 ![] bcast_S_S4x16x4096x4096 (Host.log (constant S_ .f32 0x40000000#32)))) (constant S_ .f32 0xFF800000#32) reducesTo_S4x16x4096x4096_S4x16x4096_d3 h_S_)))))) (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd (Host.exp (subf (mulf (Host.dotGeneral dot_S4x4096x16x256_S4x16x256x4096_S4x16x4096x4096_3_2_1_3_02_01 none (shapeCast _ (extf .f32 q bitsLt_bf16_f32) shapeCasts_S16384x4096_S4x4096x16x256) (extf .f32 k bitsLt_bf16_f32)) (broadcastInDim S4x16x4096x4096 ![] bcast_S_S4x16x4096x4096 (Host.log (constant S_ .f32 0x40000000#32)))) (broadcastInDim S4x16x4096x4096 ![0, 1, 2, 3] bcast_S4x16x4096x1_S4x16x4096x4096_0_1_2_3 (broadcastInDim S4x16x4096x1 ![0, 1, 2] bcast_S4x16x4096_S4x16x4096x1_0_1_2 (maximumf (broadcastInDim S4x16x4096 ![] bcast_S_S4x16x4096 (constant S_ .f32 0xFF800000#32)) (Host.reduce FloatOps.maximumf (mulf (Host.dotGeneral dot_S4x4096x16x256_S4x16x256x4096_S4x16x4096x4096_3_2_1_3_02_01 none (shapeCast _ (extf .f32 q bitsLt_bf16_f32) shapeCasts_S16384x4096_S4x4096x16x256) (extf .f32 k bitsLt_bf16_f32)) (broadcastInDim S4x16x4096x4096 ![] bcast_S_S4x16x4096x4096 (Host.log (constant S_ .f32 0x40000000#32)))) (constant S_ .f32 0xFF800000#32) reducesTo_S4x16x4096x4096_S4x16x4096_d3 h_S_)))))) (constant S_ .f32 0x00000000#32) reducesTo_S4x16x4096x4096_S4x16x4096_d3 h_S_))))) transposes_S4x16x128x4096_S4x4096x16x128_0_3_1_2) shapeCasts_S4x4096x16x128_S16384x2048) bitsLt_bf16_f32 := by
  unfold attn soft total expo peak top logit
  rfl

end Cert.AttnRefIdeal.Hand

end
-- ==== Proof.Attn.Value.lean ====
module

public import proofs.«01_k».proof.Proof.Attn.Steps
public import proofs.«01_k».proof.Proof.Attn.Ref
public import proofs.«01_k».proof.Proof.Attn.Frame

/-! # The attention call: what its four result arrays hold after the call -/

@[expose] public section

set_option maxRecDepth 16384

noncomputable section

open Idealize.ShloMosaic Idealize.ShloMosaic.TcCoe Idealize.SL.Sem
open Idealize.ShloMosaic.Pipeline (Dat)
open Softmax (Real? mul_real sum_real)

namespace Cert.AttnRefIdeal.Hand
open Cert.AttnRefIdeal Cert.AttnRefIdeal.Gen

/-- A weight into the wide space, cast. -/
abbrev castIn (w : FVec Ideal S1x4096x11008 .f32) : FVec Ideal S4096x11008 .bf16 :=
  truncf .bf16 (shapeCast _ w shapeCasts_S1x4096x11008_S4096x11008) bitsLt_bf16_f32

/-- A weight out of it, cast. -/
abbrev castOut (w : FVec Ideal S1x11008x4096 .f32) : FVec Ideal S11008x4096 .bf16 :=
  truncf .bf16 (shapeCast _ w shapeCasts_S1x11008x4096_S11008x4096) bitsLt_bf16_f32

end Cert.AttnRefIdeal.Hand

namespace Cert.AttnIdeal.Hand
open Cert.AttnIdeal Cert.AttnIdeal.Gen
open Cert.AttnRefIdeal.Hand (attn score castIn castOut)

/-! ## One block of queries -/

section Block

variable (q : Vec Ideal S1024x256 .bf16) (k : ℕ → Vec Ideal S1x1x256x256 .bf16) (v : ℕ → Vec Ideal S256x256 .bf16)

theorem sc_at (k : Vec Ideal S1x1x256x256 .bf16) (r : Fin 1024) (x : Fin 256) :
    sc q k (ix2 r x) = ∑ c : Fin 256, q (ix2 r c) * k (ix4 0 0 c x) := by
  pointwise [sc, k0_pay9]

theorem bot_bits : Ideal.ofBits .f32 4286578688#32 = ⊥ := by simp [Ideal.ofBits, Ideal.ieee]

theorem mx_at (M : FVec Ideal S1024x1 .f32) (k : Vec Ideal S1x1x256x256 .bf16) (r : Fin 1024) :
    mx q M k (ix2 r 0) = max (M (ix2 r 0)) ((Finset.univ : Finset (Fin 256)).fold max ⊥ fun x => sc q k (ix2 r x)) := by
  rw [← bot_bits]
  pointwise [mx]

theorem stp_at (M : FVec Ideal S1024x1 .f32) (A : FVec Ideal S1024x256 .f32) (k : Vec Ideal S1x1x256x256 .bf16) (v : Vec Ideal S256x256 .bf16)
    (r : Fin 1024) (d : Fin 256) :
    stp q M A k v (ix2 r d) = Ideal.exp2 (M (ix2 r 0) - mx q M k (ix2 r 0)) * A (ix2 r d)
      + ∑ x : Fin 256, Ideal.exp2 (sc q k (ix2 r x) - mx q M k (ix2 r 0)) * v (ix2 x d) := by
  pointwise [ac, sh, pr]
  rfl

theorem fin_at (A : FVec Ideal S1024x256 .f32) (r : Fin 1024) (d : Fin 128) :
    fin A (ix2 r d) = Ideal.div (A (ix2 r ⟨d.val, by omega⟩)) (A (ix2 r 128)) := by
  pointwise [fin]

/-- After the sixteen blocks: sums over all their keys, weighted about one real. -/
theorem Ac_at (r : Fin 1024) (σ : ℕ → Fin 256 → ℝ) (hs : ∀ j (x : Fin 256), sc q (k j) (ix2 r x) = (σ j x : EReal)) :
    ∃ μ : ℝ, ∀ d, Ac q k v 16 (ix2 r d)
      = ∑ i ∈ Finset.range 16, ∑ x : Fin 256, (((2 : ℝ) ^ (σ i x - μ) : ℝ) : EReal) * v i (ix2 x d) := by
  have hf : ∀ j, (fun x => sc q (k j) (ix2 r x)) = fun x => (σ j x : EReal) := fun j => funext (hs j)
  have key : ∀ d, ∃ μ : ℝ, Mx q k 16 (ix2 r 0) = (μ : EReal) ∧ Ac q k v 16 (ix2 r d)
      = ∑ i ∈ Finset.range 16, ∑ x : Fin 256, (((2 : ℝ) ^ (σ i x - μ) : ℝ) : EReal) * v i (ix2 x d) := fun d =>
    Softmax.online (0 : Fin 256) σ (fun j x => v j (ix2 x d)) (fun j => Mx q k j (ix2 r 0)) (fun j => Ac q k v j (ix2 r d))
      bot_bits (by show Ideal.ofBits .f32 0#32 = 0; simp [Ideal.ofBits, Ideal.ieee])
      (fun j => by
        show mx q (Mx q k j) (k j) (ix2 r 0) = _
        rw [mx_at, hf])
      (fun j => by
        show stp q (Mx q k j) (Ac q k v j) (k j) (v j) (ix2 r d) = _
        rw [stp_at]
        simp only [hs]
        rfl) 15
  obtain ⟨μ, hM, -⟩ := key 0
  refine ⟨μ, fun d => ?_⟩
  obtain ⟨ν, hN, hA⟩ := key d
  obtain rfl : μ = ν := EReal.coe_injective (hM.symm.trans hN)
  exact hA

/-- The wide tile's left columns are the values, -/
theorem wide_left (x2 : Vec Ideal S4096x128 .bf16) (i : Fin 4096) (d : Fin 128) : wide x2 (ix2 i ⟨d.val, by omega⟩) = x2 (ix2 i d) := by
  have e : (ix2 i ⟨d.val, by omega⟩ : S4096x256.Idx) = rL.emb (ix2 i d) := by
    funext a
    match a with
    | ⟨0, _⟩ => exact Fin.ext (by show i.val = 0 + 1 * i.val; omega)
    | ⟨1, _⟩ => exact Fin.ext (by show d.val = 0 + 1 * d.val; omega)
  refine (congrArg (wide x2) e).trans ((canon_left _ _ _).trans ?_)
  have h : ∀ x : FVec Ideal S4096x128 .bf16, k0_pay6 x = x := fun x => by
    unfold k0_pay6
    funext y
    obtain ⟨r, k, rfl⟩ : ∃ r k, y = ix2 r k := ⟨y 0, y 1, (ix2_eta y).symm⟩
    pointwise
  refine (congrFun (h (View.ld x2 rV)) (ix2 i d)).trans ?_
  refine congrArg x2 (funext fun a => ?_)
  match a with
  | ⟨0, _⟩ => exact Fin.ext (by show 0 + 1 * i.val = i.val; omega)
  | ⟨1, _⟩ => exact Fin.ext (by show 0 + 1 * d.val = d.val; omega)

/-- and its right ones begin with ones. -/
theorem wide_one (x2 : Vec Ideal S4096x128 .bf16) (i : Fin 4096) : wide x2 (ix2 i 128) = 1 := by
  have hy : (ix2 i 128 : S4096x256.Idx) ∉ rL.set := fun hy => by
    obtain ⟨z, hz⟩ := rL.exists_idx_of_mem hy
    have h1 : 0 + 1 * (z 1).val = 128 := congrArg Fin.val (congrFun hz 1)
    have h2 : (z 1).val < 128 := (z 1).isLt
    omega
  have e : (ix2 i 128 : S4096x256.Idx) = rR.emb (ix2 i 0) := by
    funext a
    match a with
    | ⟨0, _⟩ => exact Fin.ext (by show i.val = 0 + 1 * i.val; omega)
    | ⟨1, _⟩ => rfl
  refine (canon_right _ _ _ hy).trans ((congrArg _ e).trans ((View.canon_cons_emb (Val := Elt Ideal) (e := .bf16) rR _ [] (ix2 i 0)).trans ?_))
  pointwise [k0_pay5]

/-- A block's result: the mean of its head's values under the softmax of its scores, about any real. -/
theorem att_mean (K : Vec Ideal S1x1x256x4096 .bf16) (x2 : Vec Ideal S4096x128 .bf16) (hq : ∀ y, Real? (q y)) (hk : ∀ y, Real? (K y))
    (r : Fin 1024) (d : Fin 128) (β : ℝ) :
    att q (fun n h => View.ld K (rK n h)) (fun n h => View.ld (wide x2) (rW n h)) (ix2 r d)
      = ∑ j : Fin 4096, x2 (ix2 j d)
          * Ideal.div (Ideal.exp ((∑ c : Fin 256, q (ix2 r c) * K (ix4 0 0 c j)) * ((Real.log 2 : ℝ) : EReal) - (β : EReal)))
              (∑ j' : Fin 4096, Ideal.exp ((∑ c : Fin 256, q (ix2 r c) * K (ix4 0 0 c j')) * ((Real.log 2 : ℝ) : EReal) - (β : EReal))) := by
  have hS : ∀ j : Fin 4096, Real? (∑ c : Fin 256, q (ix2 r c) * K (ix4 0 0 c j)) := fun j => sum_real _ _ fun c => mul_real (hq _) (hk _)
  choose s hs using hS
  have hj : ∀ (j : ℕ) (x : Fin 256), 256 * min j 15 + x.val < 4096 := fun j x => by omega
  have ek : ∀ (j : ℕ) (c x : Fin 256), View.ld K (rK (256 * min j 15) (by omega)) (ix4 0 0 c x) = K (ix4 0 0 c ⟨256 * min j 15 + x.val, hj j x⟩) := by
    intro j c x
    refine congrArg K (funext fun a => ?_)
    match a with
    | ⟨0, _⟩ => rfl
    | ⟨1, _⟩ => rfl
    | ⟨2, _⟩ => exact Fin.ext (by show 0 + 1 * c.val = c.val; omega)
    | ⟨3, _⟩ => exact Fin.ext (by show 256 * min j 15 + 1 * x.val = 256 * min j 15 + x.val; omega)
  have ew : ∀ (j : ℕ) (x d : Fin 256), View.ld (wide x2) (rW (256 * min j 15) (by omega)) (ix2 x d) = wide x2 (ix2 ⟨256 * min j 15 + x.val, hj j x⟩ d) := by
    intro j x d
    refine congrArg (wide x2) (funext fun a => ?_)
    match a with
    | ⟨0, _⟩ => exact Fin.ext (by show 256 * min j 15 + 1 * x.val = 256 * min j 15 + x.val; omega)
    | ⟨1, _⟩ => exact Fin.ext (by show 0 + 1 * d.val = d.val; omega)
  obtain ⟨μ, hA⟩ := Ac_at q (fun j => View.ld K (rK (256 * min j 15) (by omega))) (fun j => View.ld (wide x2) (rW (256 * min j 15) (by omega)))
    r (fun j x => s ⟨256 * min j 15 + x.val, hj j x⟩) (fun j x => by rw [sc_at, ← hs]; simp only [ek])
  have hB : ∀ d, ∑ i ∈ Finset.range 16, ∑ x : Fin 256, (((2 : ℝ) ^ (s ⟨256 * min i 15 + x.val, hj i x⟩ - μ) : ℝ) : EReal)
        * View.ld (wide x2) (rW (256 * min i 15) (by omega)) (ix2 x d)
      = ∑ j : Fin 4096, (((2 : ℝ) ^ (s j - μ) : ℝ) : EReal) * wide x2 (ix2 j d) := by
    intro d
    have h := Softmax.sum_blocks fun n => if h : n < 4096 then (((2 : ℝ) ^ (s ⟨n, h⟩ - μ) : ℝ) : EReal) * wide x2 (ix2 ⟨n, h⟩ d) else 0
    simp only [Fin.is_lt, dite_true, Fin.eta] at h
    rw [← h]
    refine Finset.sum_congr rfl fun i hi => Finset.sum_congr rfl fun x _ => ?_
    have e : min i 15 = i := Nat.min_eq_left (by have := Finset.mem_range.mp hi; omega)
    have l : 256 * i + x.val < 4096 := by have := Finset.mem_range.mp hi; omega
    rw [ew, dif_pos l]
    simp only [e]
  rw [att_eq, fin_at, hA, hA, hB, hB]
  simp only [wide_left, wide_one, hs]
  exact Softmax.mean (0 : Fin 4096) s (fun j => x2 (ix2 j d)) μ β

end Block

/-! ## The call -/

variable (m : (ℓ : Loc nD τ sig) → Buf (Elt Ideal) ℓ)

/-- Which block of each array a grid point works on. -/
theorem idx : ∀ t : Fin cfg0.N,
    win0_0.index t = ![t.val / 64 * 4 + t.val % 4, t.val / 4 % 16] ∧ win0_1.index t = ![t.val / 64, t.val / 4 % 16, 0, 0]
      ∧ win0_2.index t = ![t.val / 64, t.val / 4 % 16] ∧ win0_3.index t = ![t.val, 0] ∧ win0_4.index t = ![t.val, 0]
      ∧ win0_5.index t = ![min t.val 171, 0] ∧ win0_6.index t = ![t.val / 64 * 4 + t.val % 4, t.val / 4 % 16]
      ∧ win0_7.index t = ![t.val, 0] ∧ win0_8.index t = ![t.val, 0] ∧ win0_9.index t = ![min t.val 171, 0] :=
  (by decide +kernel : ∀ t : Fin grid0.N, _)

theorem idxV (t : Fin cfg0.N) : win0_2.index (head t) = ![t.val / 64, t.val / 4 % 16] := by
  rw [(idx (head t)).2.2.1]
  show ![(t.val - t.val % 4) / 64, (t.val - t.val % 4) / 4 % 16] = _
  have h1 : (t.val - t.val % 4) / 64 = t.val / 64 := by omega
  have h2 : (t.val - t.val % 4) / 4 = t.val / 4 := by omega
  rw [h1, h2]

theorem idxD (t : Fin cfg0.N) : win0_5.index (upTo t) = ![min t.val 171, 0] := by
  rw [(idx (upTo t)).2.2.2.2.2.1]
  show ![min (min t.val 171) 171, 0] = _
  rw [min_assoc, min_self]

theorem lt_N (t : Fin cfg0.N) : t.val < 256 := by
  have e := N_eq
  have h := t.isLt
  omega

theorem inQ (c : Dev nD) (t : Fin cfg0.N) (r : Fin 1024) (x : Fin 256) : iblk m c 0 t (ix2 r x)
    = m ((c : Thread nD τ).loc main_arg0) (ix2 ⟨(t.val / 64 * 4 + t.val % 4) * 1024 + r.val, by have := lt_N t; omega⟩ ⟨t.val / 4 % 16 * 256 + x.val, by omega⟩) := by
  blk_point [iblk, V, idx t]

theorem inK (c : Dev nD) (t : Fin cfg0.N) (x : Fin 256) (j : Fin 4096) : iblk m c 1 t (ix4 0 0 x j)
    = m ((c : Thread nD τ).loc main_arg1) (ix4 ⟨t.val / 64, by have := lt_N t; omega⟩ ⟨t.val / 4 % 16, by omega⟩ x j) := by
  blk_point [iblk, V, idx t]

theorem inV (c : Dev nD) (t : Fin cfg0.N) (j : Fin 4096) (d : Fin 128) : iblk m c 2 (head t) (ix2 j d)
    = m ((c : Thread nD τ).loc main_arg2) (ix2 ⟨t.val / 64 * 4096 + j.val, by have := lt_N t; omega⟩ ⟨t.val / 4 % 16 * 128 + d.val, by omega⟩) := by
  blk_point [iblk, V, idxV t]

theorem outAt (t : Fin cfg0.N) (r : Fin 1024) (d : Fin 128) : ((cfg0.win 6).blk t).view.emb (ix2 r d)
    = ix2 ⟨(t.val / 64 * 4 + t.val % 4) * 1024 + r.val, by have := lt_N t; omega⟩ ⟨t.val / 4 % 16 * 128 + d.val, by omega⟩ := by
  blk_ext! [idx t]

theorem outO_at (x0 : Vec Ideal S1024x256 .bf16) (x1 : Vec Ideal S1x1x256x4096 .bf16) (s : Vec Ideal S4096x256 .bf16) (y : S1024x128.Idx) :
    outO x0 x1 s y = att x0 (fun n h => View.ld x1 (rK n h)) (fun n h => View.ld s (rW n h)) y := by
  have e : View.ld x0 rQ = x0 := by
    funext z
    refine congrArg x0 (funext fun a => ?_)
    match a with
    | ⟨0, _⟩ => exact Fin.ext (by show 0 + 1 * (z 0).val = (z 0).val; omega)
    | ⟨1, _⟩ => exact Fin.ext (by show 0 + 1 * (z 1).val = (z 1).val; omega)
  unfold outO
  rw [e]
  generalize att x0 (fun n h => View.ld x1 (rK n h)) (fun n h => View.ld s (rW n h)) = p
  frame_out

/-- What is stored of the result at a point is its block of the reference's. -/
theorem pointO (hq : ∀ (c : Dev nD) y, Real? (m ((c : Thread nD τ).loc main_arg0) y)) (hk : ∀ (c : Dev nD) y, Real? (m ((c : Thread nD τ).loc main_arg1) y))
    (c : Dev nD) (t : Fin cfg0.N) (y) :
    att (iblk m c 0 t) (fun n h => View.ld (iblk m c 1 t) (rK n h)) (fun n h => View.ld (wide (iblk m c 2 (head t))) (rW n h)) y
      = attn (m ((c : Thread nD τ).loc main_arg0)) (m ((c : Thread nD τ).loc main_arg1)) (m ((c : Thread nD τ).loc main_arg2))
          (((cfg0.win 6).blk t).view.emb y) := by
  obtain ⟨r, d, rfl⟩ : ∃ r d, y = ix2 r d := ⟨y 0, y 1, (ix2_eta y).symm⟩
  have hN := lt_N t
  have h0 : ∀ y, Real? (iblk m c 0 t y) := fun y => by
    obtain ⟨a, b, rfl⟩ : ∃ a b, y = ix2 a b := ⟨y 0, y 1, (ix2_eta y).symm⟩
    rw [inQ]; exact hq c _
  have h1 : ∀ y, Real? (iblk m c 1 t y) := fun y => by
    obtain ⟨a, b, i, j, rfl⟩ : ∃ a b i j, y = ix4 a b i j := ⟨y 0, y 1, y 2, y 3, (ix4_eta y).symm⟩
    obtain rfl : a = 0 := Subsingleton.elim (α := Fin 1) _ _
    obtain rfl : b = 0 := Subsingleton.elim (α := Fin 1) _ _
    rw [inK]; exact hk c _
  obtain ⟨β, hβ⟩ := Cert.AttnRefIdeal.Hand.attn_mean (m ((c : Thread nD τ).loc main_arg0)) (m ((c : Thread nD τ).loc main_arg1))
    (m ((c : Thread nD τ).loc main_arg2)) (hq c) (hk c) ⟨(t.val / 64 * 4 + t.val % 4) * 1024 + r.val, by omega⟩
    ⟨t.val / 4 % 16 * 128 + d.val, by omega⟩ ⟨t.val / 64, by omega⟩ ⟨t.val / 4 % 16, by omega⟩ ⟨t.val % 4 * 1024 + r.val, by omega⟩
    (by show t.val / 64 = ((t.val / 64 * 4 + t.val % 4) * 1024 + r.val) / 4096; omega)
    (by show t.val / 4 % 16 = (t.val / 4 % 16 * 128 + d.val) / 128; omega)
    (by show t.val % 4 * 1024 + r.val = ((t.val / 64 * 4 + t.val % 4) * 1024 + r.val) % 4096; omega)
  refine Eq.trans ?_ (congrArg (attn (m ((c : Thread nD τ).loc main_arg0)) (m ((c : Thread nD τ).loc main_arg1)) (m ((c : Thread nD τ).loc main_arg2)))
    (outAt t r d)).symm
  refine (att_mean (iblk m c 0 t) (iblk m c 1 t) (iblk m c 2 (head t)) h0 h1 r d β).trans (Eq.trans ?_ hβ.symm)
  have hs : ∀ j : Fin 4096, (∑ x : Fin 256, @HMul.hMul EReal EReal EReal _ (iblk m c 0 t (ix2 r x)) (iblk m c 1 t (ix4 0 0 x j)))
      = score (m ((c : Thread nD τ).loc main_arg0)) (m ((c : Thread nD τ).loc main_arg1)) ⟨t.val / 64, by omega⟩ ⟨t.val / 4 % 16, by omega⟩
          ⟨t.val % 4 * 1024 + r.val, by omega⟩ j := by
    intro j
    unfold score
    refine Finset.sum_congr rfl fun x _ => ?_
    rw [inQ, inK]
    congr 3
    exact Fin.ext (by show (t.val / 64 * 4 + t.val % 4) * 1024 + r.val = t.val / 64 * 4096 + (t.val % 4 * 1024 + r.val); omega)
  simp only [hs, inV]

theorem final6 (hq : ∀ (c : Dev nD) y, Real? (m ((c : Thread nD τ).loc main_arg0) y)) (hk : ∀ (c : Dev nD) y, Real? (m ((c : Thread nD τ).loc main_arg1) y))
    (c : Dev nD) : (dats m 0 c).arrAt 6 (cfgs 0).N
    = attn (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  exact (outO_at _ _ _ y).trans (pointO m hq hk c t y)

/-- What is stored of this cast at a point is its block of the reference's. -/
theorem pointG (c : Dev nD) (t : Fin cfg0.N) (y) : k0_pay2 (iblk m c 3 t) y
    = castIn (m ((c : Thread nD τ).loc main_arg3)) (((cfg0.win 7).blk t).view.emb y) := by
  pointwise [k0_pay2, castIn]
  blk_point [iblk, V, idx t]

theorem final7 (c : Dev nD) : (dats m 0 c).arrAt 7 (cfgs 0).N = castIn (m ((c : Thread nD τ).loc main_arg3)) := by
  refine (dats m 0 c).arrAt_eq_of_covers 7 _ (by decide +kernel) fun t _ y => ?_
  blk_simp
  rw [after0_7]; unfold outG; frame_out
  exact pointG m c t y

/-- What is stored of this cast at a point is its block of the reference's. -/
theorem pointU (c : Dev nD) (t : Fin cfg0.N) (y) : k0_pay3 (iblk m c 4 t) y
    = castIn (m ((c : Thread nD τ).loc main_arg4)) (((cfg0.win 8).blk t).view.emb y) := by
  pointwise [k0_pay3, castIn]
  blk_point [iblk, V, idx t]

theorem final8 (c : Dev nD) : (dats m 0 c).arrAt 8 (cfgs 0).N = castIn (m ((c : Thread nD τ).loc main_arg4)) := by
  refine (dats m 0 c).arrAt_eq_of_covers 8 _ (by decide +kernel) fun t _ y => ?_
  blk_simp
  rw [after0_8]; unfold outU; frame_out
  exact pointU m c t y

/-- What is stored of this cast at a point is its block of the reference's. -/
theorem pointD (c : Dev nD) (t : Fin cfg0.N) (y) : k0_pay4 (iblk m c 5 (upTo t)) y
    = castOut (m ((c : Thread nD τ).loc main_arg5)) (((cfg0.win 9).blk t).view.emb y) := by
  pointwise [k0_pay4, castOut]
  blk_point [iblk, V, idx t, idxD t]

theorem final9 (c : Dev nD) : (dats m 0 c).arrAt 9 (cfgs 0).N = castOut (m ((c : Thread nD τ).loc main_arg5)) := by
  refine (dats m 0 c).arrAt_eq_of_covers 9 _ (by decide +kernel) fun t _ y => ?_
  blk_simp
  rw [after0_9]; unfold outD; frame_out
  exact pointD m c t y

end Cert.AttnIdeal.Hand

end
-- ==== Proof.Attn.Finite.lean ====
module

public import proofs.«01_k».proof.Defs
public import proofs.«01_k».proof.Proof.Gen.Pre_attn_finite
public import proofs.«01_k».proof.Proof.Attn.Softmax
public import Idealize.ShloMosaic.Lib.Pipeline.ValueKit
public import Idealize.ShloMosaic.Lib.Pointwise

/-! # The attention's precondition, at the extended reals: the queries and the keys are reals -/

@[expose] public section

set_option maxRecDepth 16384

noncomputable section

namespace Cert.AttnIdeal.Hand

open Idealize.ShloMosaic Idealize.ShloMosaic.TcCoe
open Softmax (Real?)
open Cert.AttnIdeal

/-- What is below the greatest in size is a real. -/
theorem real_of_lt (x : EReal) (h : BitVec.ofBool (decide (FloatOps.absf (F := Ideal) (φ := .f32) x < Ideal.ofBits .f32 2139095040#32)) = 1#1) :
    Real? x := by
  have ht : Ideal.ofBits .f32 2139095040#32 = ⊤ := by simp [Ideal.ofBits, Ideal.ieee]
  rw [ht] at h
  have hlt : max x (-x) < (⊤ : EReal) := by
    by_contra hn
    have e : decide (FloatOps.absf (F := Ideal) (φ := .f32) x < (⊤ : EReal)) = false := decide_eq_false hn
    rw [e] at h
    exact absurd h (by decide)
  refine Softmax.of_ne (ne_of_lt ((le_max_left _ _).trans_lt hlt)) fun hb => ?_
  rw [hb, EReal.neg_bot, max_eq_right bot_le] at hlt
  exact lt_irrefl _ hlt

open Cert.Pre_attn_finite in
theorem below_q (x : FVec Ideal S16384x4096 .bf16) (h) (h') (y) :
    cmpf .olt (Host.absf (extf .f32 x h)) (broadcastInDim S16384x4096 ![] h' (constant S_ .f32 0x7F800000#32)) y
      = BitVec.ofBool (decide (FloatOps.absf (F := Ideal) (φ := .f32) (x y) < Ideal.ofBits .f32 2139095040#32)) := by
  obtain ⟨a, b, rfl⟩ : ∃ a b, y = ix2 a b := ⟨y 0, y 1, (ix2_eta y).symm⟩
  pointwise

open Cert.Pre_attn_finite in
theorem below_k (x : FVec Ideal S4x16x256x4096 .bf16) (h) (h') (y) :
    cmpf .olt (Host.absf (extf .f32 x h)) (broadcastInDim S4x16x256x4096 ![] h' (constant S_ .f32 0x7F800000#32)) y
      = BitVec.ofBool (decide (FloatOps.absf (F := Ideal) (φ := .f32) (x y) < Ideal.ofBits .f32 2139095040#32)) := by
  obtain ⟨a, b, c, d, rfl⟩ : ∃ a b c d, y = ix4 a b c d := ⟨y 0, y 1, y 2, y 3, (ix4_eta y).symm⟩
  pointwise

/-- The precondition says that the queries and the keys are reals. -/
theorem reals (m : (ℓ : Loc nD τ sig) → Buf (Elt Ideal) ℓ) (h : Cert.Pre_AttnIdeal_attn_finite m) :
    (∀ (c : Dev nD) y, Real? (m ((c : Thread nD τ).loc main_arg0) y)) ∧ ∀ (c : Dev nD) y, Real? (m ((c : Thread nD τ).loc main_arg1) y) :=
  ⟨fun c y => real_of_lt _ ((below_q _ _ _ y).symm.trans (congrFun (h c).1 y)),
    fun c y => real_of_lt _ ((below_k _ _ _ y).symm.trans (congrFun (h c).2 y))⟩

end Cert.AttnIdeal.Hand

end
-- ==== Proof.Q.Tile.lean ====
module

public import proofs.«01_k».proof.Proof.Gen.QIdeal.Value
public import Idealize.ShloMosaic.Lib.Pipeline.ValueKit
public import Idealize.ShloMosaic.Lib.Pipeline.ReadBack
public import Idealize.ShloMosaic.Lib.Pointwise

/-! # The query projection: the tile a point stores, put together from its pieces -/

@[expose] public section

set_option maxRecDepth 16384

noncomputable section

open Idealize.ShloMosaic Idealize.ShloMosaic.TcCoe Idealize.SL.Sem
open Idealize.ShloMosaic.Pipeline (Dat)

namespace Cert.QIdeal.Hand
open Cert.QIdeal Cert.QIdeal.Gen

/-- The scale of the queries. -/
abbrev scale : Ideal .f32 := Ideal.ofBits .f32 0x3DD53B95#32

/-- A column of the projection, by its number. -/
abbrev col (n : ℕ) : Fin 4096 := ⟨n % 4096, Nat.mod_lt _ (by decide)⟩
/-- A column of the tables, by its number. -/
abbrev lane (n : ℕ) : Fin 128 := ⟨n % 128, Nat.mod_lt _ (by decide)⟩

/-- The tile of queries: for each head 128 columns scaled, 64 rotated and 64 of zeros. -/
def tile (z : FVec Ideal S512x4096 .f32) (C S : FVec Ideal S512x128 .f32) : Vec Ideal S512x4096 .bf16 := fun y =>
  if (y 1).val % 256 < 128 then z (ix2 (y 0) (col ((y 1).val / 256 * 128 + (y 1).val % 256))) * scale
  else if (y 1).val % 256 < 192 then
    z (ix2 (y 0) (col (2048 + (y 1).val / 256 * 64 + ((y 1).val % 256 - 128)))) * C (ix2 (y 0) (lane ((y 1).val / 256 % 2 * 64 + ((y 1).val % 256 - 128))))
      + z (ix2 (y 0) (col (3072 + (y 1).val / 256 * 64 + ((y 1).val % 256 - 128)))) * S (ix2 (y 0) (lane ((y 1).val / 256 % 2 * 64 + ((y 1).val % 256 - 128))))
  else 0

/-- The columns of a head that are scaled only. -/
abbrev plain (z : FVec Ideal S512x4096 .f32) (o : ℕ) (hs : S512x4096.Slices ![0, o] S512x128) : FVec Ideal S512x128 .bf16 :=
  truncf .bf16 (mulf (extractStridedSlice S512x128 ![0, o] z hs) (broadcast S512x128 (Scalar.ofBits .f32 0x3DD53B95#32))) bitsLt_bf16_f32
/-- The rotated columns of a pair of heads. -/
abbrev turned (z : FVec Ideal S512x4096 .f32) (C S : FVec Ideal S512x128 .f32) (o o' : ℕ) (hs : S512x4096.Slices ![0, o] S512x128)
    (hs' : S512x4096.Slices ![0, o'] S512x128) : FVec Ideal S512x128 .f32 :=
  addf (mulf (extractStridedSlice S512x128 ![0, o] z hs) C) (mulf (extractStridedSlice S512x128 ![0, o'] z hs') S)
/-- The first half of 128 columns, and zeros. -/
abbrev kept (R : FVec Ideal S512x128 .f32) : FVec Ideal S512x128 .bf16 :=
  truncf .bf16 (select (broadcastTo S512x128 (shapeCast S1x128 k0_pay7 shapeCasts_S1x128_S1x128) broadcasts_S1x128_S512x128) R
    (broadcast S512x128 (Scalar.ofBits .f32 0x00000000#32))) bitsLt_bf16_f32

/-- Where an entry of a box of 128 columns lies in the tile. -/
theorem emb_apply (o : ℕ) (inb) (r : Fin 512) (k : Fin 128) (h : o + k.val < 4096) :
    (Rect.unit (s := S512x4096) ![0, o] ![512, 128] inb).emb (ix2 r k) = ix2 r ⟨o + k.val, h⟩ := by
  funext a
  refine Fin.ext ?_
  fin_cases a
  · show 0 + 1 * r.val = r.val
    omega
  · show o + 1 * k.val = o + k.val
    omega

/-- The choice of the first half of the columns. -/
theorem select_first (k : Fin 128) (x y : Ideal .f32) :
    Scalar.select (IntOp.cmpi .slt (BitVec.ofNat 32 k.val) 64#32) x y = if k.val < 64 then x else y := by
  have h : ∀ k : Fin 128, IntOp.cmpi .slt (BitVec.ofNat 32 k.val) 64#32 = if k.val < 64 then 1 else 0 := by decide
  rw [h k]
  split <;> rfl

theorem at_col (z : FVec Ideal S512x4096 .f32) (r : Fin 512) {a b : ℕ} (ha : a < 4096) (e : a = b) : z (ix2 r ⟨a, ha⟩) = z (ix2 r (col b)) :=
  congrArg (fun n => z (ix2 r n)) (Fin.ext (by show a = b % 4096; omega))
theorem at_lane (z : FVec Ideal S512x128 .f32) (r : Fin 512) (a : Fin 128) {b : ℕ} (e : a.val = b) : z (ix2 r a) = z (ix2 r (lane b)) :=
  congrArg (fun n => z (ix2 r n)) (Fin.ext (by show a.val = b % 128; omega))

section
variable (z : FVec Ideal S512x4096 .f32) (C S : FVec Ideal S512x128 .f32)

theorem plain_piece (d : ℕ) (hd : d < 16) (hs inb) (x : S512x128.Idx) :
    plain z (d * 128) hs x = tile z C S ((Rect.unit (s := S512x4096) ![0, d * 256] ![512, 128] inb).emb x) := by
  obtain ⟨r, k, rfl⟩ : ∃ r k, x = ix2 r k := ⟨x 0, x 1, (ix2_eta x).symm⟩
  have hk := k.isLt
  rw [emb_apply _ inb r k (by omega)]
  unfold tile
  show _ = if (d * 256 + k.val) % 256 < 128 then z (ix2 r (col ((d * 256 + k.val) / 256 * 128 + (d * 256 + k.val) % 256))) * scale else _
  rw [if_pos (by omega)]
  pointwise [plain]
  exact congrArg (· * _) (at_col z r _ (by omega))

/-- One entry of the rotated part of a head. -/
theorem tile_turn (d : ℕ) (r : Fin 512) (k : Fin 128) (h : d * 256 + 128 + k.val < 4096) : tile z C S (ix2 r ⟨d * 256 + 128 + k.val, h⟩)
    = if k.val < 64 then z (ix2 r (col (2048 + d * 64 + k.val))) * C (ix2 r (lane (d % 2 * 64 + k.val)))
        + z (ix2 r (col (3072 + d * 64 + k.val))) * S (ix2 r (lane (d % 2 * 64 + k.val))) else 0 := by
  have hk := k.isLt
  have e1 : (d * 256 + 128 + k.val) / 256 = d := by omega
  have e2 : (d * 256 + 128 + k.val) % 256 - 128 = k.val := by omega
  unfold tile
  show (if (d * 256 + 128 + k.val) % 256 < 128 then _ else if (d * 256 + 128 + k.val) % 256 < 192 then
      z (ix2 r (col (2048 + (d * 256 + 128 + k.val) / 256 * 64 + ((d * 256 + 128 + k.val) % 256 - 128))))
          * C (ix2 r (lane ((d * 256 + 128 + k.val) / 256 % 2 * 64 + ((d * 256 + 128 + k.val) % 256 - 128))))
        + z (ix2 r (col (3072 + (d * 256 + 128 + k.val) / 256 * 64 + ((d * 256 + 128 + k.val) % 256 - 128))))
          * S (ix2 r (lane ((d * 256 + 128 + k.val) / 256 % 2 * 64 + ((d * 256 + 128 + k.val) % 256 - 128)))) else 0) = _
  rw [if_neg (by omega), e1, e2]
  by_cases h : k.val < 64
  · rw [if_pos (by omega), if_pos h]
  · rw [if_neg (by omega), if_neg h]

theorem even_piece (p : ℕ) (hp : p < 8) (hs hs' inb) (x : S512x128.Idx) : kept (turned z C S (2048 + p * 128) (3072 + p * 128) hs hs') x
    = tile z C S ((Rect.unit (s := S512x4096) ![0, 2 * p * 256 + 128] ![512, 128] inb).emb x) := by
  obtain ⟨r, k, rfl⟩ : ∃ r k, x = ix2 r k := ⟨x 0, x 1, (ix2_eta x).symm⟩
  have hk := k.isLt
  rw [emb_apply _ inb r k (by omega), tile_turn]
  pointwise [kept, k0_pay7, turned]
  rw [select_first]
  by_cases h : k.val < 64
  · rw [if_pos h, if_pos h]
    exact congrArg₂ (· + ·) (congrArg₂ (· * ·) (at_col z r _ (by omega)) (at_lane C r k (by omega)))
      (congrArg₂ (· * ·) (at_col z r _ (by omega)) (at_lane S r k (by omega)))
  · rw [if_neg h, if_neg h]

theorem odd_piece (p : ℕ) (hp : p < 8) (hs hs' inb) (x : S512x128.Idx) :
    kept (dynamicRotate 1 64#32 none (turned z C S (2048 + p * 128) (3072 + p * 128) hs hs') rotates_S512x128_d1) x
    = tile z C S ((Rect.unit (s := S512x4096) ![0, (2 * p + 1) * 256 + 128] ![512, 128] inb).emb x) := by
  obtain ⟨r, k, rfl⟩ : ∃ r k, x = ix2 r k := ⟨x 0, x 1, (ix2_eta x).symm⟩
  have hk := k.isLt
  rw [emb_apply _ inb r k (by omega), tile_turn]
  pointwise [kept, k0_pay7, turned]
  rw [select_first]
  by_cases h : k.val < 64
  · rw [if_pos h, if_pos h]
    exact congrArg₂ (· + ·) (congrArg₂ (· * ·) (at_col z r _ (by omega)) (at_lane C r _ (by show (k.val + 128 - 64) % 128 = _; omega)))
      (congrArg₂ (· * ·) (at_col z r _ (by omega)) (at_lane S r _ (by show (k.val + 128 - 64) % 128 = _; omega)))
  · rw [if_neg h, if_neg h]
end

variable (m : (ℓ : Loc nD τ sig) → Buf (Elt Ideal) ℓ)

/-- The tile left at a point. -/
theorem out (c : Dev nD) (t : Fin cfg0.N) (y) : outsAt0 m c t y
    = tile (k0_pay2 (iblk m c 0 t) (X0_4 m c t) (iblk m c 5 t) (iblk m c 6 t)) (k0_pay5 (iblk m c 1 t) (iblk m c 2 t))
        (k0_pay6 (k0_pay4 (iblk m c 1 t) (iblk m c 2 t) (iblk m c 3 t)) (FloatOps.ofBits FTy.f32 0x3DD53B95#32)) y := by
  unfold outsAt0
  frame_out
  generalize k0_pay2 (iblk m c 0 t) (X0_4 m c t) (iblk m c 5 t) (iblk m c 6 t) = z
  generalize k0_pay4 (iblk m c 1 t) (iblk m c 2 t) (iblk m c 3 t) = S
  generalize k0_pay5 (iblk m c 1 t) (iblk m c 2 t) = C
  refine View.canon_apply_of_pieces _ _ (View.PiecesOf.mem ?_) y (View.cover_of_tiledL _ ![512, 128] (by sl_kernel_rfl) y)
  exact ⟨odd_piece z C (k0_pay6 S _) 7 (by decide) _ _ inb_S512x4096_S512x128_0_3968,
    plain_piece z C (k0_pay6 S _) 15 (by decide) _ inb_S512x4096_S512x128_0_3840,
    even_piece z C (k0_pay6 S _) 7 (by decide) _ _ inb_S512x4096_S512x128_0_3712,
    plain_piece z C (k0_pay6 S _) 14 (by decide) _ inb_S512x4096_S512x128_0_3584,
    odd_piece z C (k0_pay6 S _) 6 (by decide) _ _ inb_S512x4096_S512x128_0_3456,
    plain_piece z C (k0_pay6 S _) 13 (by decide) _ inb_S512x4096_S512x128_0_3328,
    even_piece z C (k0_pay6 S _) 6 (by decide) _ _ inb_S512x4096_S512x128_0_3200,
    plain_piece z C (k0_pay6 S _) 12 (by decide) _ inb_S512x4096_S512x128_0_3072,
    odd_piece z C (k0_pay6 S _) 5 (by decide) _ _ inb_S512x4096_S512x128_0_2944,
    plain_piece z C (k0_pay6 S _) 11 (by decide) _ inb_S512x4096_S512x128_0_2816,
    even_piece z C (k0_pay6 S _) 5 (by decide) _ _ inb_S512x4096_S512x128_0_2688,
    plain_piece z C (k0_pay6 S _) 10 (by decide) slices_S512x4096_o0_1280_S512x128 inb_S512x4096_S512x128_0_2560,
    odd_piece z C (k0_pay6 S _) 4 (by decide) _ _ inb_S512x4096_S512x128_0_2432,
    plain_piece z C (k0_pay6 S _) 9 (by decide) _ inb_S512x4096_S512x128_0_2304,
    even_piece z C (k0_pay6 S _) 4 (by decide) _ _ inb_S512x4096_S512x128_0_2176,
    plain_piece z C (k0_pay6 S _) 8 (by decide) _ inb_S512x4096_S512x128_0_2048,
    odd_piece z C (k0_pay6 S _) 3 (by decide) _ _ inb_S512x4096_S512x128_0_1920,
    plain_piece z C (k0_pay6 S _) 7 (by decide) _ inb_S512x4096_S512x128_0_1792,
    even_piece z C (k0_pay6 S _) 3 (by decide) _ _ inb_S512x4096_S512x128_0_1664,
    plain_piece z C (k0_pay6 S _) 6 (by decide) _ inb_S512x4096_S512x128_0_1536,
    odd_piece z C (k0_pay6 S _) 2 (by decide) _ _ inb_S512x4096_S512x128_0_1408,
    plain_piece z C (k0_pay6 S _) 5 (by decide) _ inb_S512x4096_S512x128_0_1280,
    even_piece z C (k0_pay6 S _) 2 (by decide) _ _ inb_S512x4096_S512x128_0_1152,
    plain_piece z C (k0_pay6 S _) 4 (by decide) _ inb_S512x4096_S512x128_0_1024,
    odd_piece z C (k0_pay6 S _) 1 (by decide) _ _ inb_S512x4096_S512x128_0_896,
    plain_piece z C (k0_pay6 S _) 3 (by decide) _ inb_S512x4096_S512x128_0_768,
    even_piece z C (k0_pay6 S _) 1 (by decide) _ _ inb_S512x4096_S512x128_0_640,
    plain_piece z C (k0_pay6 S _) 2 (by decide) slices_S512x4096_o0_256_S512x128 inb_S512x4096_S512x128_0_512,
    odd_piece z C (k0_pay6 S _) 0 (by decide) _ _ inb_S512x4096_S512x128_0_384,
    plain_piece z C (k0_pay6 S _) 1 (by decide) _ inb_S512x4096_S512x128_0_256,
    even_piece z C (k0_pay6 S _) 0 (by decide) _ _ inb_S512x4096_S512x128_0_128,
    plain_piece z C (k0_pay6 S _) 0 (by decide) _ inb_S512x4096_S512x128_0_0,
    trivial⟩

end Cert.QIdeal.Hand

end
-- ==== Proof.Q.Ref.lean ====
module

public import proofs.«01_k».proof.Proof.Gen.QRefIdeal.Run
public import Idealize.ShloMosaic.Lib.Pipeline.ValueKit
public import Idealize.ShloMosaic.Lib.Pointwise

/-! # The query projection's reference, entry by entry -/

@[expose] public section

set_option maxRecDepth 16384

noncomputable section

open Idealize.ShloMosaic Idealize.ShloMosaic.TcCoe Idealize.SL.Sem

namespace Cert.QRefIdeal.Hand
open Cert.QRefIdeal Cert.QRefIdeal.Gen

/-- The projection to the query's latent columns. -/
abbrev cols (h : FVec Ideal S16384x4096 .bf16) (w : FVec Ideal S1x4096x15936 .f32) : FVec Ideal S16384x1024 .f32 :=
  extractStridedSlice S16384x1024 ![0, 6144] (Host.dotGeneral dot_S16384x4096_S4096x15936_S16384x15936_1_0_0_1_n_n none (extf .f32 h bitsLt_bf16_f32) (shapeCast _ w shapeCasts_S1x4096x15936_S4096x15936)) slices_S16384x15936_S16384x1024_0_6144
/-- The latent columns, normed. -/
abbrev normed (h : FVec Ideal S16384x4096 .bf16) (w : FVec Ideal S1x4096x15936 .f32) (g : FVec Ideal S1x1024 .f32) : FVec Ideal S16384x1024 .f32 :=
  mulf (mulf (cols h w) (broadcastInDim S16384x1024 ![0, 1] bcast_S16384x1_S16384x1024_0_1 (Host.rsqrt (addf (Host.divf (broadcastInDim S16384x1 ![0] bcast_S16384_S16384x1_0 (Host.reduceAdd (mulf (cols h w) (cols h w)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))
/-- The heads' queries before the rotation. -/
abbrev queries (h : FVec Ideal S16384x4096 .bf16) (w : FVec Ideal S1x4096x15936 .f32) (g : FVec Ideal S1x1024 .f32)
    (wq : FVec Ideal S1x1024x3072 .f32) : FVec Ideal S4x4096x16x192 .f32 :=
  shapeCast _ (Host.dotGeneral dot_S16384x1024_S1024x3072_S16384x3072_1_0_0_1_n_n none (normed h w g) (shapeCast _ wq shapeCasts_S1x1024x3072_S1024x3072)) shapeCasts_S16384x3072_S4x4096x16x192
/-- The columns of the queries that are rotated. -/
abbrev rope (Q : FVec Ideal S4x4096x16x192 .f32) : FVec Ideal S4x4096x16x64 .f32 :=
  extractStridedSlice S4x4096x16x64 ![0, 0, 0, 128] Q slices_S4x4096x16x192_S4x4096x16x64_0_0_0_128
/-- The frequencies of the rotation. -/
abbrev freq : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))
/-- The angles of the rotation. -/
abbrev angle (pos : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 pos))) (broadcastInDim S4x4096x32 ![0, 1, 2] bcast_S1x1x32_S4x4096x32_0_1_2 (broadcastInDim S1x1x32 ![2] bcast_S32_S1x1x32_2 freq))
/-- The queries rotated, scaled and padded. -/
abbrev rotated (Q : FVec Ideal S4x4096x16x192 .f32) (C S : FVec Ideal S4x4096x32 .f32) : FVec Ideal S16384x4096 .bf16 :=
  truncf .bf16 (shapeCast _ (pad S4x4096x16x256 ![0, 0, 0, 0] ![0, 0, 0, 64] ![0, 0, 0, 0] (mulf (concatenate S4x4096x16x192 3 [⟨S4x4096x16x128, (extractStridedSlice S4x4096x16x128 ![0, 0, 0, 0] Q slices_S4x4096x16x192_S4x4096x16x128_0_0_0_0)⟩, ⟨S4x4096x16x64, (concatenate S4x4096x16x64 3 [⟨S4x4096x16x32, (subf (mulf (extractStridedSlice S4x4096x16x32 ![0, 0, 0, 0] (rope Q) slices_S4x4096x16x64_S4x4096x16x32_0_0_0_0) (broadcastInDim S4x4096x16x32 ![0, 1, 2, 3] bcast_S4x4096x1x32_S4x4096x16x32_0_1_2_3 (broadcastInDim S4x4096x1x32 ![0, 1, 3] bcast_S4x4096x32_S4x4096x1x32_0_1_3 C))) (mulf (extractStridedSlice S4x4096x16x32 ![0, 0, 0, 32] (rope Q) slices_S4x4096x16x64_S4x4096x16x32_0_0_0_32) (broadcastInDim S4x4096x16x32 ![0, 1, 2, 3] bcast_S4x4096x1x32_S4x4096x16x32_0_1_2_3 (broadcastInDim S4x4096x1x32 ![0, 1, 3] bcast_S4x4096x32_S4x4096x1x32_0_1_3 S))))⟩, ⟨S4x4096x16x32, (addf (mulf (extractStridedSlice S4x4096x16x32 ![0, 0, 0, 0] (rope Q) slices_S4x4096x16x64_S4x4096x16x32_0_0_0_0) (broadcastInDim S4x4096x16x32 ![0, 1, 2, 3] bcast_S4x4096x1x32_S4x4096x16x32_0_1_2_3 (broadcastInDim S4x4096x1x32 ![0, 1, 3] bcast_S4x4096x32_S4x4096x1x32_0_1_3 S))) (mulf (extractStridedSlice S4x4096x16x32 ![0, 0, 0, 32] (rope Q) slices_S4x4096x16x64_S4x4096x16x32_0_0_0_32) (broadcastInDim S4x4096x16x32 ![0, 1, 2, 3] bcast_S4x4096x1x32_S4x4096x16x32_0_1_2_3 (broadcastInDim S4x4096x1x32 ![0, 1, 3] bcast_S4x4096x32_S4x4096x1x32_0_1_3 C))))⟩] concatenates_S4x4096x16x32_S4x4096x16x32_S4x4096x16x64_d3)⟩] concatenates_S4x4096x16x128_S4x4096x16x64_S4x4096x16x192_d3) (broadcastInDim S4x4096x16x192 ![] bcast_S_S4x4096x16x192 (constant S_ .f32 0x3DD53B95#32))) (sitofp .f32 (constantI S_ 32 0#32)) pads_S4x4096x16x192_S4x4096x16x256_000_000_000_0640 h_S_) shapeCasts_S4x4096x16x256_S16384x4096) bitsLt_bf16_f32
/-- The reference's result as a function of its five arguments. -/
abbrev target (h : FVec Ideal S16384x4096 .bf16) (pos : IVec S4x4096 32) (w : FVec Ideal S1x4096x15936 .f32) (g : FVec Ideal S1x1024 .f32)
    (wq : FVec Ideal S1x1024x3072 .f32) : FVec Ideal S16384x4096 .bf16 :=
  rotated (queries h w g wq) (Host.cos (angle pos)) (Host.sin (angle pos))

/-- The frequency of lane `j`. -/
abbrev rate (j : ℕ) : Ideal .f32 :=
  Ideal.pow (Ideal.ofBits FTy.f32 1176256512#32)
    (Ideal.div (-(Ideal.ofBits FTy.f32 1073741824#32 * (FloatOps.sitofp FTy.f32 (BitVec.ofNat 32 j) : Ideal .f32))) (Ideal.ofBits FTy.f32 1115684864#32))

/-- The scale of the queries. -/
abbrev factor : Ideal .f32 := Ideal.ofBits .f32 0x3DD53B95#32

theorem factor_nonneg : 0 ≤ factor := by
  simp [factor, Ideal.ofBits, Ideal.ieee, -EReal.coe_mul]
theorem factor_ne_top : factor ≠ ⊤ := by
  simp [factor, Ideal.ofBits, Ideal.ieee, -EReal.coe_mul]

theorem sitofp_zero : (FloatOps.sitofp FTy.f32 0#32 : Ideal .f32) = 0 := by
  show ((((0#32 : BitVec 32).toInt : ℤ) : ℝ) : EReal) = 0
  simp

theorem ix4_congr {a b c d : ℕ} {x x' : Fin a} {y y' : Fin b} {z z' : Fin c} {u u' : Fin d} (h : x.val = x'.val) (h1 : y.val = y'.val)
    (h2 : z.val = z'.val) (h3 : u.val = u'.val) : ix4 x y z u = ix4 x' y' z' u' := by
  obtain rfl := Fin.ext h; obtain rfl := Fin.ext h1; obtain rfl := Fin.ext h2; obtain rfl := Fin.ext h3; rfl
theorem ix3_congr {a b c : ℕ} {x x' : Fin a} {y y' : Fin b} {z z' : Fin c} (h : x.val = x'.val) (h1 : y.val = y'.val)
    (h2 : z.val = z'.val) : ix3 x y z = ix3 x' y' z' := by
  obtain rfl := Fin.ext h; obtain rfl := Fin.ext h1; obtain rfl := Fin.ext h2; rfl

section
variable (Q : FVec Ideal S4x4096x16x192 .f32) (C S : FVec Ideal S4x4096x32 .f32) (R : Fin 16384) (k : Fin 4096)
  (b : Fin 4) (s : Fin 4096) (d : Fin 16) (hR : R.val = b.val * 4096 + s.val)
include hR

/-- A column that is scaled only. -/
theorem rotated_plain (e : Fin 192) (he : e.val < 128) (hk : k.val = d.val * 256 + e.val) :
    rotated Q C S (ix2 R k) = Q (ix4 b s d e) * factor := by
  pointwise [rotated, rope]
  have hs := s.isLt
  have hd := d.isLt
  rw [dif_pos (by omega), dif_pos (by omega)]
  refine congrArg (· * _) (congrArg Q ?_)
  refine ix4_congr ?_ ?_ ?_ ?_ <;> dsimp only <;> omega

/-- A column of the first half of the rotated ones. -/
theorem rotated_low (j : Fin 32) (hk : k.val = d.val * 256 + 128 + j.val) :
    rotated Q C S (ix2 R k) = (Q (ix4 b s d ⟨128 + j.val, by omega⟩) * C (ix3 b s j) - Q (ix4 b s d ⟨160 + j.val, by omega⟩) * S (ix3 b s j)) * factor := by
  pointwise [rotated, rope]
  have hs := s.isLt
  have hd := d.isLt
  have hj := j.isLt
  rw [dif_pos (by omega), dif_neg (by omega), dif_pos (by omega)]
  refine congrArg (· * _) (congrArg₂ (· - ·) (congrArg₂ (· * ·) (congrArg Q ?_) (congrArg C ?_)) (congrArg₂ (· * ·) (congrArg Q ?_) (congrArg S ?_)))
  · refine ix4_congr ?_ ?_ ?_ ?_ <;> dsimp only <;> omega
  · refine ix3_congr ?_ ?_ ?_ <;> dsimp only <;> omega
  · refine ix4_congr ?_ ?_ ?_ ?_ <;> dsimp only <;> omega
  · refine ix3_congr ?_ ?_ ?_ <;> dsimp only <;> omega

/-- A column of the second half of the rotated ones. -/
theorem rotated_high (j : Fin 32) (hk : k.val = d.val * 256 + 160 + j.val) :
    rotated Q C S (ix2 R k) = (Q (ix4 b s d ⟨128 + j.val, by omega⟩) * S (ix3 b s j) + Q (ix4 b s d ⟨160 + j.val, by omega⟩) * C (ix3 b s j)) * factor := by
  pointwise [rotated, rope]
  have hs := s.isLt
  have hd := d.isLt
  have hj := j.isLt
  rw [dif_pos (by omega), dif_neg (by omega), dif_neg (by omega)]
  refine congrArg (· * _) (congrArg₂ (· + ·) (congrArg₂ (· * ·) (congrArg Q ?_) (congrArg S ?_)) (congrArg₂ (· * ·) (congrArg Q ?_) (congrArg C ?_)))
  · refine ix4_congr ?_ ?_ ?_ ?_ <;> dsimp only <;> omega
  · refine ix3_congr ?_ ?_ ?_ <;> dsimp only <;> omega
  · refine ix4_congr ?_ ?_ ?_ ?_ <;> dsimp only <;> omega
  · refine ix3_congr ?_ ?_ ?_ <;> dsimp only <;> omega

/-- A column of the padding. -/
theorem rotated_pad (hk : 192 ≤ k.val % 256) : rotated Q C S (ix2 R k) = 0 := by
  pointwise [rotated, rope]
  rw [dif_neg (by omega)]
  exact sitofp_zero
end

/-- A query before the rotation: the product of a row of latent columns, normed, with a column of weights. -/
def query (h : FVec Ideal S16384x4096 .bf16) (w : FVec Ideal S1x4096x15936 .f32) (g : FVec Ideal S1x1024 .f32) (wq : FVec Ideal S1x1024x3072 .f32)
    (R : Fin 16384) (n : Fin 3072) : Ideal .f32 :=
  ∑ x, (∑ y, h (ix2 R y) * w (ix3 0 y ⟨6144 + x.val, by omega⟩))
      * Ideal.rsqrt (Ideal.div (∑ l : Fin 1024, (∑ y, h (ix2 R y) * w (ix3 0 y ⟨6144 + l.val, by omega⟩)) * ∑ y, h (ix2 R y) * w (ix3 0 y ⟨6144 + l.val, by omega⟩))
          (Ideal.ofBits FTy.f32 1149239296#32) + Ideal.ofBits FTy.f32 897988541#32)
      * g (ix2 0 x) * wq (ix3 0 x n)

theorem queries_apply (h w g wq) (b : Fin 4) (s : Fin 4096) (d : Fin 16) (e : Fin 192) :
    queries h w g wq (ix4 b s d e) = query h w g wq ⟨b.val * 4096 + s.val, by omega⟩ ⟨d.val * 192 + e.val, by omega⟩ := by
  unfold query
  pointwise [queries]

theorem angle_apply (pos) (b : Fin 4) (s : Fin 4096) (j : Fin 32) : angle pos (ix3 b s j) = FloatOps.sitofp FTy.f32 (pos (ix2 b s)) * rate j.val := by
  pointwise [angle, freq]

theorem reference_eq (m : (ℓ : Loc nD τ sig) → Buf (Elt Ideal) ℓ) (c : Dev nD) : Value.res_main_v61 m c
    = target (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.QRefIdeal.Hand

end
-- ==== Proof.Q.Value.lean ====
module

public import proofs.«01_k».proof.Proof.Q.Tile
public import proofs.«01_k».proof.Proof.Q.Ref
public import Idealize.ShloMosaic.Lib.Pipeline.ValueKit
public import Idealize.ShloMosaic.Lib.Pipeline.ReadBack
public import Idealize.ShloMosaic.Lib.Claim
public import Idealize.ShloMosaic.Lib.Pointwise

/-! # The query projection: what the array of the queries holds after the call -/

@[expose] public section

set_option maxRecDepth 16384

noncomputable section

open Idealize.ShloMosaic Idealize.ShloMosaic.TcCoe Idealize.SL.Sem
open Idealize.ShloMosaic.Pipeline (Dat)

namespace Cert.QIdeal.Hand
open Cert.QIdeal Cert.QIdeal.Gen
open Cert.QRefIdeal.Hand (rate factor query target rotated queries angle)
variable (m : (ℓ : Loc nD τ sig) → Buf (Elt Ideal) ℓ)

theorem lt_of (t : Fin cfg0.N) : t.val < 32 := lt_of_lt_of_eq t.isLt N_0

theorem idx : ∀ t : Fin cfg0.N,
    win0_0.index t = ![t.val, 0] ∧ win0_1.index t = ![t.val, 0] ∧ win0_2.index t = ![0, 0] ∧ win0_3.index t = ![0, 0]
      ∧ win0_4.index t = ![6, 0] ∧ win0_5.index t = ![0, 0] ∧ win0_6.index t = ![0, 0] ∧ win0_7.index t = ![t.val, 0] :=
  (by decide +kernel : ∀ t : Fin grid0.N, _)

theorem row_lt (t : Fin cfg0.N) (r : Fin 512) : t.val * 512 + r.val < 16384 := by
  have := lt_of t; omega

theorem h_apply (c : Dev nD) (t : Fin cfg0.N) (r : Fin 512) (k : Fin 4096) :
    iblk m c 0 t (ix2 r k) = m ((c : Thread nD τ).loc main_arg0) (ix2 ⟨t.val * 512 + r.val, row_lt t r⟩ k) := by
  blk_ext! [iblk, V, idx t]
theorem pos_apply (c : Dev nD) (t : Fin cfg0.N) (r : Fin 512) (b : Fin 4) (s : Fin 4096) (h : t.val * 512 + r.val = b.val * 4096 + s.val) :
    iblk m c 1 t (ix2 r 0) = m ((c : Thread nD τ).loc main_arg1) (ix2 b s) := by
  blk_ext! [iblk, V, idx t]
theorem inv_apply (c : Dev nD) (t : Fin cfg0.N) (k : Fin 128) : iblk m c 2 t (ix2 0 k) = rate (k.val % 32) := by
  have e : ((cfg0.win 2).blk t).view.emb (ix2 0 k) = ix2 0 k := by blk_ext [idx t]
  show V m c main_v13 (((cfg0.win 2).blk t).view.emb (ix2 0 k)) = _
  rw [e]
  entry_read
  pointwise
theorem sgn_apply (c : Dev nD) (t : Fin cfg0.N) (k : Fin 128) : iblk m c 3 t (ix2 0 k) = if k.val % 64 < 32 then (-1 : EReal) else 1 := by
  have e : ((cfg0.win 3).blk t).view.emb (ix2 0 k) = ix2 0 k := by blk_ext [idx t]
  show V m c main_v21 (((cfg0.win 3).blk t).view.emb (ix2 0 k)) = _
  rw [e]
  entry_read
  pointwise
  split <;> rfl
theorem wqa_apply (c : Dev nD) (t : Fin cfg0.N) (n : Fin 1024) (x : Fin 4096) :
    X0_4 m c t (ix2 n x) = m ((c : Thread nD τ).loc main_arg2) (ix3 0 x ⟨6144 + n.val, by omega⟩) := by
  unfold X0_4 Pipeline.Window.fill
  rw [dif_pos (moved0_4 t _)]
  blk_ext! [iblk, V, idx t]
theorem g_apply (c : Dev nD) (t : Fin cfg0.N) (n : Fin 1024) :
    iblk m c 5 t (ix2 0 n) = m ((c : Thread nD τ).loc main_arg3) (ix2 0 n) := by
  blk_ext! [iblk, V, idx t]

/-! ## The weights of the heads, as the call takes them -/

/-- The weights, head by head. -/
abbrev heads (w : FVec Ideal S1x1024x3072 .f32) : FVec Ideal S1024x16x192 .f32 :=
  shapeCast S1024x16x192 (shapeCast S1024x3072 w shapeCasts_S1x1024x3072_S1024x3072) shapeCasts_S1024x3072_S1024x16x192
/-- The columns that are not rotated. -/
abbrev wPlain (w : FVec Ideal S1x1024x3072 .f32) : FVec Ideal S1024x2048 .f32 :=
  shapeCast S1024x2048 (extractStridedSlice S1024x16x128 ![0, 0, 0] (heads w) slices_S1024x16x192_S1024x16x128_0_0_0) shapeCasts_S1024x16x128_S1024x2048
/-- The columns that are rotated, head by head. -/
abbrev hRope (w : FVec Ideal S1x1024x3072 .f32) : FVec Ideal S1024x16x64 .f32 :=
  extractStridedSlice S1024x16x64 ![0, 0, 128] (heads w) slices_S1024x16x192_S1024x16x64_0_0_128
/-- The columns that are rotated. -/
abbrev wRope (w : FVec Ideal S1x1024x3072 .f32) : FVec Ideal S1024x1024 .f32 :=
  shapeCast S1024x1024 (hRope w) shapeCasts_S1024x16x64_S1024x1024
/-- The columns that are rotated, the halves of each head exchanged. -/
abbrev wSwap (w : FVec Ideal S1x1024x3072 .f32) : FVec Ideal S1024x1024 .f32 :=
  shapeCast S1024x1024 (concatenate S1024x16x64 2
    [⟨S1024x16x32, extractStridedSlice S1024x16x32 ![0, 0, 32] (hRope w) slices_S1024x16x64_S1024x16x32_0_0_32⟩,
      ⟨S1024x16x32, extractStridedSlice S1024x16x32 ![0, 0, 0] (hRope w) slices_S1024x16x64_S1024x16x32_0_0_0⟩]
    concatenates_S1024x16x32_S1024x16x32_S1024x16x64_d2) shapeCasts_S1024x16x64_S1024x1024
/-- The three beside each other. -/
abbrev wAll (a : FVec Ideal S1024x2048 .f32) (b d : FVec Ideal S1024x1024 .f32) : FVec Ideal S1024x4096 .bf16 :=
  truncf .bf16 (concatenate S1024x4096 1 [⟨S1024x2048, a⟩, ⟨S1024x1024, b⟩, ⟨S1024x1024, d⟩]
    concatenates_S1024x2048_S1024x1024_S1024x1024_S1024x4096_d1) bitsLt_bf16_f32

theorem entry30 (c : Dev nD) : V m c main_v30 = wPlain (m ((c : Thread nD τ).loc main_arg4)) := by
  entry_read
  rfl
theorem entry31 (c : Dev nD) : V m c main_v31 = wRope (m ((c : Thread nD τ).loc main_arg4)) := by
  entry_read
  rfl
theorem entry35 (c : Dev nD) : V m c main_v35 = wSwap (m ((c : Thread nD τ).loc main_arg4)) := by
  entry_read
  rfl
set_option maxRecDepth 100000 in
set_option maxHeartbeats 1000000 in
theorem entry37 (c : Dev nD) : V m c main_v37 = wAll (V m c main_v30) (V m c main_v31) (V m c main_v35) := rfl

theorem all_apply (w) (n : Fin 1024) (k : Fin 4096) : wAll (wPlain w) (wRope w) (wSwap w) (ix2 n k)
    = if h : k.val < 2048 then w (ix3 0 n ⟨k.val / 128 * 192 + k.val % 128, by omega⟩)
      else if h : k.val - 2048 < 1024 then w (ix3 0 n ⟨(k.val - 2048) / 64 * 192 + (128 + (k.val - 2048) % 64), by omega⟩)
      else if h : (k.val - 2048 - 1024) % 64 < 32 then w (ix3 0 n ⟨(k.val - 2048 - 1024) / 64 * 192 + (128 + (32 + (k.val - 2048 - 1024) % 64)), by omega⟩)
      else w (ix3 0 n ⟨(k.val - 2048 - 1024) / 64 * 192 + (128 + ((k.val - 2048 - 1024) % 64 - 32)), by omega⟩) := by
  pointwise [wAll, wPlain, wRope, wSwap, hRope, heads]

theorem wq_apply (c : Dev nD) (t : Fin cfg0.N) (n : Fin 1024) (k : Fin 4096) : iblk m c 6 t (ix2 n k)
    = wAll (wPlain (m ((c : Thread nD τ).loc main_arg4))) (wRope (m ((c : Thread nD τ).loc main_arg4))) (wSwap (m ((c : Thread nD τ).loc main_arg4))) (ix2 n k) := by
  have e : ((cfg0.win 6).blk t).view.emb (ix2 n k) = ix2 n k := by blk_ext [idx t]
  show V m c main_v37 (((cfg0.win 6).blk t).view.emb (ix2 n k)) = _
  rw [e, entry37, entry30, entry31, entry35]

section
variable (c : Dev nD) (t : Fin cfg0.N) (n : Fin 1024) (k : Fin 4096) (l : Fin 3072) (d x : ℕ) (hd : d < 16)
include hd

theorem wq_plain (hx : x < 128) (hk : k.val = d * 128 + x) (hl : l.val = d * 192 + x) :
    iblk m c 6 t (ix2 n k) = m ((c : Thread nD τ).loc main_arg4) (ix3 0 n l) := by
  rw [wq_apply, all_apply, dif_pos (by omega)]
  exact congrArg (fun l => m ((c : Thread nD τ).loc main_arg4) (ix3 0 n l)) (Fin.ext (by dsimp only; omega))
theorem wq_rope (hx : x < 64) (hk : k.val = 2048 + d * 64 + x) (hl : l.val = d * 192 + 128 + x) :
    iblk m c 6 t (ix2 n k) = m ((c : Thread nD τ).loc main_arg4) (ix3 0 n l) := by
  rw [wq_apply, all_apply, dif_neg (by omega), dif_pos (by omega)]
  exact congrArg (fun l => m ((c : Thread nD τ).loc main_arg4) (ix3 0 n l)) (Fin.ext (by dsimp only; omega))
theorem wq_swap (hx : x < 64) (hk : k.val = 3072 + d * 64 + x) (hl : l.val = d * 192 + 128 + (x + 32) % 64) :
    iblk m c 6 t (ix2 n k) = m ((c : Thread nD τ).loc main_arg4) (ix3 0 n l) := by
  rw [wq_apply, all_apply, dif_neg (by omega), dif_neg (by omega)]
  by_cases h : x < 32
  · rw [dif_pos (by omega)]
    exact congrArg (fun l => m ((c : Thread nD τ).loc main_arg4) (ix3 0 n l)) (Fin.ext (by dsimp only; omega))
  · rw [dif_neg (by omega)]
    exact congrArg (fun l => m ((c : Thread nD τ).loc main_arg4) (ix3 0 n l)) (Fin.ext (by dsimp only; omega))
end

/-! ## The tile's entries -/

/-- The projection's column `k` is the reference's column `l` where their weights are the same. -/
theorem z_apply (c : Dev nD) (t : Fin cfg0.N) (r : Fin 512) (k : Fin 4096) (l : Fin 3072)
    (hw : ∀ n, iblk m c 6 t (ix2 n k) = m ((c : Thread nD τ).loc main_arg4) (ix3 0 n l)) :
    k0_pay2 (iblk m c 0 t) (X0_4 m c t) (iblk m c 5 t) (iblk m c 6 t) (ix2 r k)
      = query (m ((c : Thread nD τ).loc main_arg0)) (m ((c : Thread nD τ).loc main_arg2)) (m ((c : Thread nD τ).loc main_arg3))
          (m ((c : Thread nD τ).loc main_arg4)) ⟨t.val * 512 + r.val, row_lt t r⟩ l := by
  unfold query
  pointwise [k0_pay2]
  simp only [h_apply, wqa_apply, g_apply, hw]

theorem cos_apply (c : Dev nD) (t : Fin cfg0.N) (r : Fin 512) (l : Fin 128) (b : Fin 4) (s : Fin 4096) (h : t.val * 512 + r.val = b.val * 4096 + s.val) :
    k0_pay5 (iblk m c 1 t) (iblk m c 2 t) (ix2 r l)
      = Ideal.cos ((FloatOps.sitofp FTy.f32 (m ((c : Thread nD τ).loc main_arg1) (ix2 b s)) : Ideal .f32) * rate (l.val % 32)) * factor := by
  pointwise [k0_pay5, k0_pay3]
  rw [pos_apply m c t r b s h, inv_apply]
theorem sin_apply (c : Dev nD) (t : Fin cfg0.N) (r : Fin 512) (l : Fin 128) (b : Fin 4) (s : Fin 4096) (h : t.val * 512 + r.val = b.val * 4096 + s.val) :
    k0_pay6 (k0_pay4 (iblk m c 1 t) (iblk m c 2 t) (iblk m c 3 t)) (FloatOps.ofBits FTy.f32 0x3DD53B95#32) (ix2 r l)
      = Ideal.sin ((FloatOps.sitofp FTy.f32 (m ((c : Thread nD τ).loc main_arg1) (ix2 b s)) : Ideal .f32) * rate (l.val % 32))
          * (if l.val % 64 < 32 then (-1 : EReal) else 1) * factor := by
  pointwise [k0_pay6, k0_pay4, k0_pay3]
  rw [pos_apply m c t r b s h, inv_apply, sgn_apply]

/-- The rotation's difference, scaled after it. -/
theorem low_eq (a b x y F : EReal) (h0 : 0 ≤ F) (hF : F ≠ ⊤) : a * (x * F) + b * (y * -1 * F) = (a * x - b * y) * F := by
  rw [sub_eq_add_neg, EReal.right_distrib_of_nonneg_of_ne_top h0 hF, mul_neg, mul_one, neg_mul, mul_neg, neg_mul, mul_assoc, mul_assoc]
/-- The rotation's sum, scaled after it. -/
theorem high_eq (a b x y F : EReal) (h0 : 0 ≤ F) (hF : F ≠ ⊤) : b * (x * F) + a * (y * 1 * F) = (a * y + b * x) * F := by
  rw [EReal.right_distrib_of_nonneg_of_ne_top h0 hF, mul_one, mul_assoc, mul_assoc, add_comm]

section
variable (Z : FVec Ideal S512x4096 .f32) (C S : FVec Ideal S512x128 .f32) (r : Fin 512) (k : Fin 4096)

theorem tile_plain (h : k.val % 256 < 128) : tile Z C S (ix2 r k) = Z (ix2 r (col (k.val / 256 * 128 + k.val % 256))) * factor := if_pos h
theorem tile_rope (h : ¬ k.val % 256 < 128) (h' : k.val % 256 < 192) (x : ℕ) (hx : k.val % 256 - 128 = x) : tile Z C S (ix2 r k)
    = Z (ix2 r (col (2048 + k.val / 256 * 64 + x))) * C (ix2 r (lane (k.val / 256 % 2 * 64 + x)))
      + Z (ix2 r (col (3072 + k.val / 256 * 64 + x))) * S (ix2 r (lane (k.val / 256 % 2 * 64 + x))) := by
  subst hx
  exact (if_neg h).trans (if_pos h')
theorem tile_pad (h : ¬ k.val % 256 < 128) (h' : ¬ k.val % 256 < 192) : tile Z C S (ix2 r k) = 0 := (if_neg h).trans (if_neg h')
end

/-- The tile at a row, from what its tables hold in that row: the reference's rows. -/
theorem cell_of (Q : FVec Ideal Cert.QRefIdeal.S4x4096x16x192 .f32) (C' S' : FVec Ideal Cert.QRefIdeal.S4x4096x32 .f32)
    (Z : FVec Ideal S512x4096 .f32) (C S : FVec Ideal S512x128 .f32) (r : Fin 512) (k : Fin 4096) (R : Fin 16384) (b : Fin 4) (s : Fin 4096)
    (hR : R.val = b.val * 4096 + s.val)
    (hz : ∀ (d : Fin 16) (e : Fin 192) (x : ℕ) (k : Fin 4096), (x < 128 ∧ k.val = d.val * 128 + x ∧ e.val = x)
      ∨ (x < 64 ∧ k.val = 2048 + d.val * 64 + x ∧ e.val = 128 + x) ∨ (x < 64 ∧ k.val = 3072 + d.val * 64 + x ∧ e.val = 128 + (x + 32) % 64) →
      Z (ix2 r k) = Q (ix4 b s d e))
    (hc : ∀ (l : Fin 128) (j : Fin 32), l.val % 32 = j.val → C (ix2 r l) = C' (ix3 b s j) * factor)
    (hs : ∀ (l : Fin 128) (j : Fin 32), l.val % 32 = j.val → S (ix2 r l) = S' (ix3 b s j) * (if l.val % 64 < 32 then (-1 : EReal) else 1) * factor) :
    tile Z C S (ix2 r k) = Cert.QRefIdeal.Hand.rotated Q C' S' (ix2 R k) := by
  have hk := k.isLt
  by_cases h1 : k.val % 256 < 128
  · rw [tile_plain Z C S r k h1, Cert.QRefIdeal.Hand.rotated_plain Q C' S' R k b s ⟨k.val / 256, by omega⟩ hR ⟨k.val % 256, by omega⟩ h1 (by dsimp only; omega)]
    exact congrArg (· * factor) (hz _ _ (k.val % 256) _ (Or.inl ⟨h1, by dsimp only [col]; omega, rfl⟩))
  by_cases h2 : k.val % 256 < 192
  · obtain ⟨x, hx⟩ : ∃ x, k.val % 256 - 128 = x := ⟨_, rfl⟩
    obtain ⟨l, hl, el⟩ : ∃ l, lane (k.val / 256 % 2 * 64 + x) = l ∧ l.val = k.val / 256 % 2 * 64 + x := ⟨_, rfl, by dsimp only [lane]; omega⟩
    rw [tile_rope Z C S r k h1 h2 x hx, hl]
    by_cases h3 : x < 32
    · rw [Cert.QRefIdeal.Hand.rotated_low Q C' S' R k b s ⟨k.val / 256, by omega⟩ hR ⟨x, h3⟩ (by dsimp only; omega),
        hz ⟨k.val / 256, by omega⟩ ⟨128 + x, by omega⟩ x _ (Or.inr (Or.inl ⟨by omega, by dsimp only [col]; omega, rfl⟩)),
        hz ⟨k.val / 256, by omega⟩ ⟨160 + x, by omega⟩ x _ (Or.inr (Or.inr ⟨by omega, by dsimp only [col]; omega, by dsimp only; omega⟩)),
        hc l ⟨x, h3⟩ (by dsimp only; omega), hs l ⟨x, h3⟩ (by dsimp only; omega), if_pos (by omega)]
      exact low_eq _ _ _ _ _ Cert.QRefIdeal.Hand.factor_nonneg Cert.QRefIdeal.Hand.factor_ne_top
    · rw [Cert.QRefIdeal.Hand.rotated_high Q C' S' R k b s ⟨k.val / 256, by omega⟩ hR ⟨x - 32, by omega⟩ (by dsimp only; omega),
        hz ⟨k.val / 256, by omega⟩ ⟨160 + (x - 32), by omega⟩ x _ (Or.inr (Or.inl ⟨by omega, by dsimp only [col]; omega, by dsimp only; omega⟩)),
        hz ⟨k.val / 256, by omega⟩ ⟨128 + (x - 32), by omega⟩ x _ (Or.inr (Or.inr ⟨by omega, by dsimp only [col]; omega, by dsimp only; omega⟩)),
        hc l ⟨x - 32, by omega⟩ (by dsimp only; omega), hs l ⟨x - 32, by omega⟩ (by dsimp only; omega), if_neg (by omega)]
      exact high_eq _ _ _ _ _ Cert.QRefIdeal.Hand.factor_nonneg Cert.QRefIdeal.Hand.factor_ne_top
  · rw [tile_pad Z C S r k h1 h2]
    exact (Cert.QRefIdeal.Hand.rotated_pad Q C' S' R k b s hR (by omega)).symm

/-- The tile left at a point is the reference's rows. -/
theorem cell (c : Dev nD) (t : Fin cfg0.N) (r : Fin 512) (k : Fin 4096) :
    tile (k0_pay2 (iblk m c 0 t) (X0_4 m c t) (iblk m c 5 t) (iblk m c 6 t)) (k0_pay5 (iblk m c 1 t) (iblk m c 2 t))
        (k0_pay6 (k0_pay4 (iblk m c 1 t) (iblk m c 2 t) (iblk m c 3 t)) (FloatOps.ofBits FTy.f32 0x3DD53B95#32)) (ix2 r k)
      = target (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨t.val * 512 + r.val, row_lt t r⟩ k) := by
  have hr := row_lt t r
  obtain ⟨b, s, hbs⟩ : ∃ (b : Fin 4) (s : Fin 4096), t.val * 512 + r.val = b.val * 4096 + s.val :=
    ⟨⟨(t.val * 512 + r.val) / 4096, by omega⟩, ⟨(t.val * 512 + r.val) % 4096, by omega⟩, by dsimp only; omega⟩
  refine cell_of _ _ _ _ _ _ r k ⟨t.val * 512 + r.val, hr⟩ b s hbs (fun d e x k h => ?_) (fun l j h => ?_) (fun l j h => ?_)
  · have hl : d.val * 192 + e.val < 3072 := by omega
    refine (z_apply m c t r k ⟨d.val * 192 + e.val, hl⟩ fun n => ?_).trans ?_
    · rcases h with ⟨h, hk, he⟩ | ⟨h, hk, he⟩ | ⟨h, hk, he⟩
      · exact wq_plain m c t n k _ d.val x d.isLt h hk (by dsimp only; omega)
      · exact wq_rope m c t n k _ d.val x d.isLt h hk (by dsimp only; omega)
      · exact wq_swap m c t n k _ d.val x d.isLt h hk (by dsimp only; omega)
    · refine Eq.trans ?_ (Cert.QRefIdeal.Hand.queries_apply _ _ _ _ b s d e).symm
      exact congrArg (fun R => query _ _ _ _ R _) (Fin.ext hbs)
  · refine (cos_apply m c t r l b s hbs).trans (congrArg (· * factor) ?_)
    rw [h]
    exact congrArg Ideal.cos (Cert.QRefIdeal.Hand.angle_apply _ b s j).symm
  · refine (sin_apply m c t r l b s hbs).trans (congrArg (fun x => x * _ * factor) ?_)
    rw [h]
    exact congrArg Ideal.sin (Cert.QRefIdeal.Hand.angle_apply _ b s j).symm

/-- The array after the call is the reference's result. -/
theorem final (c : Dev nD) : (dats m 0 c).arrAt 7 (cfgs 0).N
    = target (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  obtain ⟨r, k, rfl⟩ : ∃ r k, y = ix2 r k := ⟨y 0, y 1, (ix2_eta y).symm⟩
  have e : ((cfg0.win 7).blk t).view.emb (ix2 r k) = ix2 (⟨t.val * 512 + r.val, row_lt t r⟩ : Fin 16384) k := by
    blk_ext [idx t]
  refine Eq.trans ?_ (congrArg _ e).symm
  blk_simp
  rw [after0_7]
  exact (out m c t (ix2 r k)).trans (cell m c t r k)

end Cert.QIdeal.Hand

end
-- ==== Proof.Kv.Tile.lean ====
module

public import proofs.«01_k».proof.Proof.Gen.KvIdeal.Value
public import Idealize.ShloMosaic.Lib.Pipeline.ValueKit
public import Idealize.ShloMosaic.Lib.Pipeline.ReadBack
public import Idealize.ShloMosaic.Lib.Pointwise

/-! # The key and value projections: the tile of keys a point stores, put together from its pieces -/

@[expose] public section

set_option maxRecDepth 16384

noncomputable section

open Idealize.ShloMosaic Idealize.ShloMosaic.TcCoe Idealize.SL.Sem
open Idealize.ShloMosaic.Pipeline (Dat)

namespace Cert.KvIdeal.Hand
open Cert.KvIdeal Cert.KvIdeal.Gen

/-- The tile of keys: for each head 128 rows of its own and the 128 rows common to the heads. -/
def tile (N : FVec Ideal S2048x512 .f32) (K : FVec Ideal S128x512 .bf16) : Vec Ideal S1x16x256x512 .bf16 := fun y =>
  if (y 2).val < 128 then N (ix2 ⟨((y 1).val * 128 + (y 2).val) % 2048, Nat.mod_lt _ (by decide)⟩ (y 3))
  else K (ix2 ⟨(y 2).val % 128, Nat.mod_lt _ (by decide)⟩ (y 3))

/-- A head's own rows. -/
abbrev own (N : FVec Ideal S2048x512 .f32) (o : ℕ) (hs : S2048x512.Slices ![o, 0] S128x512) : FVec Ideal S1x1x128x512 .bf16 :=
  shapeCast S1x1x128x512 (truncf .bf16 (extractStridedSlice S128x512 ![o, 0] N hs) bitsLt_bf16_f32) shapeCasts_S128x512_S1x1x128x512

/-- Where an entry of a box of 128 rows lies in the tile. -/
theorem emb_apply (d o : ℕ) (inb) (k : Fin 128) (r : Fin 512) (hd : d < 16) (h : o + k.val < 256) :
    (Rect.unit (s := S1x16x256x512) ![0, d, o, 0] S1x1x128x512.size inb).emb (ix4 0 0 k r) = ix4 0 ⟨d, hd⟩ ⟨o + k.val, h⟩ r := by
  funext a
  refine Fin.ext ?_
  fin_cases a
  · rfl
  · show d + 1 * 0 = d
    omega
  · show o + 1 * k.val = o + k.val
    omega
  · show 0 + 1 * r.val = r.val
    omega

section
variable (N : FVec Ideal S2048x512 .f32) (K : FVec Ideal S128x512 .bf16)

theorem eta (x : S1x1x128x512.Idx) : ∃ k r, x = ix4 0 0 k r := by
  refine ⟨x 2, x 3, (ix4_eta x).symm.trans ?_⟩
  have e0 : x 0 = (0 : Fin 1) := Fin.eq_zero (x 0 : Fin 1)
  have e1 : x 1 = (0 : Fin 1) := Fin.eq_zero (x 1 : Fin 1)
  rw [e0, e1]

theorem own_piece (d : ℕ) (hd : d < 16) (hs inb) (x : S1x1x128x512.Idx) :
    own N (d * 128) hs x = tile N K ((Rect.unit (s := S1x16x256x512) ![0, d, 0, 0] S1x1x128x512.size inb).emb x) := by
  obtain ⟨k, r, rfl⟩ := eta x
  have hk := k.isLt
  rw [emb_apply d 0 inb k r hd (by omega)]
  unfold tile
  show _ = if 0 + k.val < 128 then N (ix2 ⟨(d * 128 + (0 + k.val)) % 2048, _⟩ r) else _
  rw [if_pos (by omega)]
  pointwise [own]
  exact congrArg (fun n => N (ix2 n r)) (Fin.ext (by dsimp only; omega))

theorem rope_piece (d : ℕ) (hd : d < 16) (inb) (x : S1x1x128x512.Idx) : shapeCast S1x1x128x512 K shapeCasts_S128x512_S1x1x128x512 x
    = tile N K ((Rect.unit (s := S1x16x256x512) ![0, d, 128, 0] S1x1x128x512.size inb).emb x) := by
  obtain ⟨k, r, rfl⟩ := eta x
  have hk := k.isLt
  rw [emb_apply d 128 inb k r hd (by omega)]
  unfold tile
  show _ = if 128 + k.val < 128 then _ else K (ix2 ⟨(128 + k.val) % 128, _⟩ r)
  rw [if_neg (by omega)]
  pointwise
  exact congrArg (fun n => K (ix2 n r)) (Fin.ext (by dsimp only; omega))
end

variable (m : (ℓ : Loc nD τ sig) → Buf (Elt Ideal) ℓ)

/-- The latent columns of a point's rows, normed. -/
abbrev P (c : Dev nD) (t : Fin cfg0.N) : FVec Ideal S512x512 .bf16 := k0_pay7 (iblk m c 0 t) (iblk m c 1 t) (iblk m c 5 t) (iblk m c 6 t)
/-- The heads' own rows of keys at a point. -/
abbrev rows (c : Dev nD) (t : Fin cfg0.N) : FVec Ideal S2048x512 .f32 := k0_pay10 (P m c t) (iblk m c 7 t)
/-- The rows common to the heads at a point. -/
abbrev common (c : Dev nD) (t : Fin cfg0.N) : FVec Ideal S128x512 .bf16 :=
  k0_pay11 (k0_pay6 (iblk m c 0 t) (iblk m c 1 t) (iblk m c 5 t)) (iblk m c 2 t) (iblk m c 3 t) (iblk m c 4 t)

section
variable (x0 : Vec Ideal S512x4096 .f32) (x1 : Vec Ideal S1x4096 .f32) (x2 : Vec Ideal S512x1 .i32) (x3 : Vec Ideal S1x128 .f32) (x4 : Vec Ideal S1x128 .f32)
  (x5 : Vec Ideal S768x4096 .bf16) (x6 : Vec Ideal S1x512 .f32) (x7 : Vec Ideal S2048x512 .bf16) (x8 : Vec Ideal S512x2048 .bf16)
theorem pay44_eq : k0_pay44 x0 x1 x2 x3 x4 x5 x6 x7 x8 = k0_pay6 x0 x1 x5 := by
  unfold k0_pay44
  simp (disch := decide) only [View.ld_unit_lit']
theorem pay45_eq : k0_pay45 x0 x1 x2 x3 x4 x5 x6 x7 x8 = k0_pay7 x0 x1 x5 x6 := by
  unfold k0_pay45
  simp (disch := decide) only [View.ld_unit_lit']
theorem pay46_eq : k0_pay46 x0 x1 x2 x3 x4 x5 x6 x7 x8 = k0_pay10 (k0_pay7 x0 x1 x5 x6) x7 := by
  unfold k0_pay46
  simp (disch := decide) only [View.ld_unit_lit', pay45_eq]
theorem pay47_eq : k0_pay47 x0 x1 x2 x3 x4 x5 x6 x7 x8 = k0_pay11 (k0_pay6 x0 x1 x5) x2 x3 x4 := by
  unfold k0_pay47
  simp (disch := decide) only [View.ld_unit_lit', pay44_eq]
end

/-- The tile of keys left at a point. -/
theorem out10 (c : Dev nD) (t : Fin cfg0.N) (y) : out0_10 (iblk m c 0 t) (iblk m c 1 t) (iblk m c 2 t) (iblk m c 3 t) (iblk m c 4 t) (iblk m c 5 t) (iblk m c 6 t)
    (iblk m c 7 t) (iblk m c 8 t) y = tile (rows m c t) (common m c t) y := by
  frame_out
  simp only [pay44_eq, pay45_eq, pay46_eq, pay47_eq]
  unfold rows common P
  generalize k0_pay7 (iblk m c 0 t) (iblk m c 1 t) (iblk m c 5 t) (iblk m c 6 t) = L
  generalize k0_pay6 (iblk m c 0 t) (iblk m c 1 t) (iblk m c 5 t) = z
  generalize iblk m c 7 t = w
  generalize iblk m c 2 t = p
  generalize iblk m c 3 t = q
  generalize iblk m c 4 t = s
  refine View.canon_apply_of_pieces _ _ (View.PiecesOf.mem ?_) y (View.cover_of_tiledL _ ![1, 1, 128, 512] (by sl_kernel_rfl) y)
  exact ⟨rope_piece (k0_pay10 L w) (k0_pay11 z p q s) 15 (by decide) inb_S1x16x256x512_S1x1x128x512_0_15_128_0,
    own_piece (k0_pay10 L w) (k0_pay11 z p q s) 15 (by decide) slices_S2048x512_o1920_0_S128x512 inb_S1x16x256x512_S1x1x128x512_0_15_0_0,
    rope_piece (k0_pay10 L w) (k0_pay11 z p q s) 14 (by decide) inb_S1x16x256x512_S1x1x128x512_0_14_128_0,
    own_piece (k0_pay10 L w) (k0_pay11 z p q s) 14 (by decide) slices_S2048x512_o1792_0_S128x512 inb_S1x16x256x512_S1x1x128x512_0_14_0_0,
    rope_piece (k0_pay10 L w) (k0_pay11 z p q s) 13 (by decide) inb_S1x16x256x512_S1x1x128x512_0_13_128_0,
    own_piece (k0_pay10 L w) (k0_pay11 z p q s) 13 (by decide) slices_S2048x512_o1664_0_S128x512 inb_S1x16x256x512_S1x1x128x512_0_13_0_0,
    rope_piece (k0_pay10 L w) (k0_pay11 z p q s) 12 (by decide) inb_S1x16x256x512_S1x1x128x512_0_12_128_0,
    own_piece (k0_pay10 L w) (k0_pay11 z p q s) 12 (by decide) slices_S2048x512_o1536_0_S128x512 inb_S1x16x256x512_S1x1x128x512_0_12_0_0,
    rope_piece (k0_pay10 L w) (k0_pay11 z p q s) 11 (by decide) inb_S1x16x256x512_S1x1x128x512_0_11_128_0,
    own_piece (k0_pay10 L w) (k0_pay11 z p q s) 11 (by decide) slices_S2048x512_o1408_0_S128x512 inb_S1x16x256x512_S1x1x128x512_0_11_0_0,
    rope_piece (k0_pay10 L w) (k0_pay11 z p q s) 10 (by decide) inb_S1x16x256x512_S1x1x128x512_0_10_128_0,
    own_piece (k0_pay10 L w) (k0_pay11 z p q s) 10 (by decide) slices_S2048x512_o1280_0_S128x512 inb_S1x16x256x512_S1x1x128x512_0_10_0_0,
    rope_piece (k0_pay10 L w) (k0_pay11 z p q s) 9 (by decide) inb_S1x16x256x512_S1x1x128x512_0_9_128_0,
    own_piece (k0_pay10 L w) (k0_pay11 z p q s) 9 (by decide) slices_S2048x512_o1152_0_S128x512 inb_S1x16x256x512_S1x1x128x512_0_9_0_0,
    rope_piece (k0_pay10 L w) (k0_pay11 z p q s) 8 (by decide) inb_S1x16x256x512_S1x1x128x512_0_8_128_0,
    own_piece (k0_pay10 L w) (k0_pay11 z p q s) 8 (by decide) slices_S2048x512_o1024_0_S128x512 inb_S1x16x256x512_S1x1x128x512_0_8_0_0,
    rope_piece (k0_pay10 L w) (k0_pay11 z p q s) 7 (by decide) inb_S1x16x256x512_S1x1x128x512_0_7_128_0,
    own_piece (k0_pay10 L w) (k0_pay11 z p q s) 7 (by decide) slices_S2048x512_o896_0_S128x512 inb_S1x16x256x512_S1x1x128x512_0_7_0_0,
    rope_piece (k0_pay10 L w) (k0_pay11 z p q s) 6 (by decide) inb_S1x16x256x512_S1x1x128x512_0_6_128_0,
    own_piece (k0_pay10 L w) (k0_pay11 z p q s) 6 (by decide) slices_S2048x512_o768_0_S128x512 inb_S1x16x256x512_S1x1x128x512_0_6_0_0,
    rope_piece (k0_pay10 L w) (k0_pay11 z p q s) 5 (by decide) inb_S1x16x256x512_S1x1x128x512_0_5_128_0,
    own_piece (k0_pay10 L w) (k0_pay11 z p q s) 5 (by decide) slices_S2048x512_o640_0_S128x512 inb_S1x16x256x512_S1x1x128x512_0_5_0_0,
    rope_piece (k0_pay10 L w) (k0_pay11 z p q s) 4 (by decide) inb_S1x16x256x512_S1x1x128x512_0_4_128_0,
    own_piece (k0_pay10 L w) (k0_pay11 z p q s) 4 (by decide) slices_S2048x512_o512_0_S128x512 inb_S1x16x256x512_S1x1x128x512_0_4_0_0,
    rope_piece (k0_pay10 L w) (k0_pay11 z p q s) 3 (by decide) inb_S1x16x256x512_S1x1x128x512_0_3_128_0,
    own_piece (k0_pay10 L w) (k0_pay11 z p q s) 3 (by decide) slices_S2048x512_o384_0_S128x512 inb_S1x16x256x512_S1x1x128x512_0_3_0_0,
    rope_piece (k0_pay10 L w) (k0_pay11 z p q s) 2 (by decide) inb_S1x16x256x512_S1x1x128x512_0_2_128_0,
    own_piece (k0_pay10 L w) (k0_pay11 z p q s) 2 (by decide) slices_S2048x512_o256_0_S128x512 inb_S1x16x256x512_S1x1x128x512_0_2_0_0,
    rope_piece (k0_pay10 L w) (k0_pay11 z p q s) 1 (by decide) inb_S1x16x256x512_S1x1x128x512_0_1_128_0,
    own_piece (k0_pay10 L w) (k0_pay11 z p q s) 1 (by decide) slices_S2048x512_o128_0_S128x512 inb_S1x16x256x512_S1x1x128x512_0_1_0_0,
    rope_piece (k0_pay10 L w) (k0_pay11 z p q s) 0 (by decide) inb_S1x16x256x512_S1x1x128x512_0_0_128_0,
    own_piece (k0_pay10 L w) (k0_pay11 z p q s) 0 (by decide) slices_S2048x512_o0_0_S128x512 inb_S1x16x256x512_S1x1x128x512_0_0_0_0,
    trivial⟩

end Cert.KvIdeal.Hand

end
-- ==== Proof.Kv.Ref.lean ====
module

public import proofs.«01_k».proof.Proof.Gen.KvRefIdeal.Run
public import proofs.«01_k».proof.Proof.Q.Ref
public import Idealize.ShloMosaic.Lib.Pipeline.ValueKit
public import Idealize.ShloMosaic.Lib.Pointwise

/-! # The key and value projections' reference, entry by entry -/

@[expose] public section

set_option maxRecDepth 16384

noncomputable section

open Idealize.ShloMosaic Idealize.ShloMosaic.TcCoe Idealize.SL.Sem

namespace Cert.KvRefIdeal.Hand
open Cert.KvRefIdeal Cert.KvRefIdeal.Gen
open Cert.QRefIdeal.Hand (rate sitofp_zero ix4_congr ix3_congr)

/-- The layer's input, normed. -/
abbrev hid (x : FVec Ideal S4x4096x4096 .f32) (gm : FVec Ideal S1x4096 .f32) : FVec Ideal S4x4096x4096 .f32 :=
  mulf (mulf x (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf x x) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (shapeCast _ gm shapeCasts_S1x4096_S4096)))
/-- All the columns of the input projection. -/
abbrev proj (H : FVec Ideal S4x4096x4096 .f32) (w : FVec Ideal S1x4096x15936 .f32) : FVec Ideal S4x4096x15936 .f32 :=
  Host.dotGeneral dot_S4x4096x4096_S4096x15936_S4x4096x15936_2_0_01_1_n_n none H (shapeCast _ w shapeCasts_S1x4096x15936_S4096x15936)
/-- The latent columns. -/
abbrev latent (Z : FVec Ideal S4x4096x15936 .f32) : FVec Ideal S4x4096x512 .f32 :=
  extractStridedSlice S4x4096x512 ![0, 0, 7168] Z slices_S4x4096x15936_S4x4096x512_0_0_7168
/-- The latent columns, normed. -/
abbrev normed (A : FVec Ideal S4x4096x512 .f32) (g : FVec Ideal S1x512 .f32) : FVec Ideal S4x4096x512 .f32 :=
  mulf (mulf A (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf A A) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 (shapeCast _ g shapeCasts_S1x512_S512)))
/-- The heads' keys and values, from all the columns of the input projection. -/
abbrev heads (Z : FVec Ideal S4x4096x15936 .f32) (g : FVec Ideal S1x512 .f32) (wk : FVec Ideal S1x512x4096 .f32) : FVec Ideal S4x4096x16x256 .f32 :=
  shapeCast _ (Host.dotGeneral dot_S4x4096x512_S512x4096_S4x4096x4096_2_0_01_1_n_n none (normed (latent Z) g) (shapeCast _ wk shapeCasts_S1x512x4096_S512x4096)) shapeCasts_S4x4096x4096_S4x4096x16x256
/-- The angles of the rotation. -/
abbrev angle (pos : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 pos))) (broadcastInDim S4x4096x32 ![0, 1, 2] bcast_S1x1x32_S4x4096x32_0_1_2 (broadcastInDim S1x1x32 ![2] bcast_S32_S1x1x32_2 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
/-- The columns that are rotated, common to the heads. -/
abbrev rope (Z : FVec Ideal S4x4096x15936 .f32) : FVec Ideal S4x4096x64 .f32 :=
  extractStridedSlice S4x4096x64 ![0, 0, 7680] Z slices_S4x4096x15936_S4x4096x64_0_0_7680
/-- The keys: each head's own columns, the rotated ones, and the padding; the positions last. -/
abbrev keys (W : FVec Ideal S4x4096x16x256 .f32) (Z : FVec Ideal S4x4096x15936 .f32) (C S : FVec Ideal S4x4096x32 .f32) : FVec Ideal S4x16x256x4096 .bf16 :=
  truncf .bf16 (transpose S4x16x256x4096 [0, 2, 3, 1] (pad S4x4096x16x256 ![0, 0, 0, 0] ![0, 0, 0, 64] ![0, 0, 0, 0] (concatenate S4x4096x16x192 3 [⟨S4x4096x16x128, (extractStridedSlice S4x4096x16x128 ![0, 0, 0, 0] W slices_S4x4096x16x256_S4x4096x16x128_0_0_0_0)⟩, ⟨S4x4096x16x64, (broadcastInDim S4x4096x16x64 ![0, 1, 2, 3] bcast_S4x4096x1x64_S4x4096x16x64_0_1_2_3 (broadcastInDim S4x4096x1x64 ![0, 1, 3] bcast_S4x4096x64_S4x4096x1x64_0_1_3 (concatenate S4x4096x64 2 [⟨S4x4096x32, (subf (mulf (extractStridedSlice S4x4096x32 ![0, 0, 0] (rope Z) slices_S4x4096x64_S4x4096x32_0_0_0) C) (mulf (extractStridedSlice S4x4096x32 ![0, 0, 32] (rope Z) slices_S4x4096x64_S4x4096x32_0_0_32) S))⟩, ⟨S4x4096x32, (addf (mulf (extractStridedSlice S4x4096x32 ![0, 0, 0] (rope Z) slices_S4x4096x64_S4x4096x32_0_0_0) S) (mulf (extractStridedSlice S4x4096x32 ![0, 0, 32] (rope Z) slices_S4x4096x64_S4x4096x32_0_0_32) C))⟩] concatenates_S4x4096x32_S4x4096x32_S4x4096x64_d2)))⟩] concatenates_S4x4096x16x128_S4x4096x16x64_S4x4096x16x192_d3) (sitofp .f32 (constantI S_ 32 0#32)) pads_S4x4096x16x192_S4x4096x16x256_000_000_000_0640 h_S_) transposes_S4x4096x16x256_S4x16x256x4096_0_2_3_1) bitsLt_bf16_f32
/-- The values. -/
abbrev values (W : FVec Ideal S4x4096x16x256 .f32) : FVec Ideal S16384x2048 .bf16 :=
  truncf .bf16 (shapeCast _ (extractStridedSlice S4x4096x16x128 ![0, 0, 0, 128] W slices_S4x4096x16x256_S4x4096x16x128_0_0_0_128) shapeCasts_S4x4096x16x128_S16384x2048) bitsLt_bf16_f32

/-- The reference's first result: the normed input. -/
abbrev target9 (x : FVec Ideal S4x4096x4096 .f32) (gm : FVec Ideal S1x4096 .f32) : FVec Ideal S16384x4096 .bf16 :=
  truncf .bf16 (shapeCast _ (hid x gm) shapeCasts_S4x4096x4096_S16384x4096) bitsLt_bf16_f32
/-- The reference's second result: the keys. -/
abbrev target10 (x : FVec Ideal S4x4096x4096 .f32) (pos : IVec S4x4096 32) (gm : FVec Ideal S1x4096 .f32) (w : FVec Ideal S1x4096x15936 .f32)
    (g : FVec Ideal S1x512 .f32) (wk : FVec Ideal S1x512x4096 .f32) : FVec Ideal S4x16x256x4096 .bf16 :=
  keys (heads (proj (hid x gm) w) g wk) (proj (hid x gm) w) (Host.cos (angle pos)) (Host.sin (angle pos))
/-- The reference's third result: the values. -/
abbrev target11 (x : FVec Ideal S4x4096x4096 .f32) (gm : FVec Ideal S1x4096 .f32) (w : FVec Ideal S1x4096x15936 .f32)
    (g : FVec Ideal S1x512 .f32) (wk : FVec Ideal S1x512x4096 .f32) : FVec Ideal S16384x2048 .bf16 :=
  values (heads (proj (hid x gm) w) g wk)

/-- An entry of the normed input. -/
def unit (x : FVec Ideal S4x4096x4096 .f32) (gm : FVec Ideal S1x4096 .f32) (b : Fin 4) (s k : Fin 4096) : Ideal .f32 :=
  x (ix3 b s k) * Ideal.rsqrt (Ideal.div (∑ l, x (ix3 b s l) * x (ix3 b s l)) (Ideal.ofBits FTy.f32 1166016512#32) + Ideal.ofBits FTy.f32 897988541#32)
    * gm (ix2 0 k)
/-- An entry of the latent columns normed and projected, from those columns `A` and a column `B` of the weights. -/
def mixed (A B : Fin 512 → Ideal .f32) (g : FVec Ideal S1x512 .f32) : Ideal .f32 :=
  ∑ x, A x * Ideal.rsqrt (Ideal.div (∑ l, A l * A l) (Ideal.ofBits FTy.f32 1140850688#32) + Ideal.ofBits FTy.f32 897988541#32) * g (ix2 0 x) * B x

section
variable (x : FVec Ideal S4x4096x4096 .f32) (gm : FVec Ideal S1x4096 .f32) (w : FVec Ideal S1x4096x15936 .f32) (g : FVec Ideal S1x512 .f32)
  (wk : FVec Ideal S1x512x4096 .f32) (b : Fin 4) (s : Fin 4096)

theorem target9_row (R : Fin 16384) (k : Fin 4096) :
    target9 x gm (ix2 R k) = unit x gm ⟨R.val / 4096, by omega⟩ ⟨R.val % 4096, by omega⟩ k := by
  unfold unit
  pointwise [target9, hid]
theorem target9_apply (R : Fin 16384) (hR : R.val = b.val * 4096 + s.val) (k : Fin 4096) : target9 x gm (ix2 R k) = unit x gm b s k :=
  (target9_row x gm R k).trans (congrArg₂ (fun b s => unit x gm b s k) (Fin.ext (by dsimp only; omega)) (Fin.ext (by dsimp only; omega)))
theorem hid_apply (k : Fin 4096) : hid x gm (ix3 b s k) = unit x gm b s k := by
  unfold unit
  pointwise [hid]
theorem proj_apply (H) (n : Fin 15936) : proj H w (ix3 b s n) = ∑ k, H (ix3 b s k) * w (ix3 0 k n) := by
  pointwise [proj]
theorem heads_apply (Z : FVec Ideal S4x4096x15936 .f32) (d : Fin 16) (e : Fin 256) : heads Z g wk (ix4 b s d e)
    = mixed (fun l => Z (ix3 b s ⟨7168 + l.val, by omega⟩)) (fun l => wk (ix3 0 l ⟨d.val * 256 + e.val, by omega⟩)) g := by
  unfold mixed
  pointwise [heads, normed, latent]
theorem values_apply (W : FVec Ideal S4x4096x16x256 .f32) (R : Fin 16384) (hR : R.val = b.val * 4096 + s.val) (n : Fin 2048) :
    values W (ix2 R n) = W (ix4 b s ⟨n.val / 128, by omega⟩ ⟨128 + n.val % 128, by omega⟩) := by
  have hs := s.isLt
  pointwise [values]
  refine congrArg W (ix4_congr ?_ ?_ ?_ ?_) <;> dsimp only <;> omega
theorem angle_apply (pos) (j : Fin 32) : angle pos (ix3 b s j) = (FloatOps.sitofp FTy.f32 (pos (ix2 b s)) : Ideal .f32) * rate j.val := by
  pointwise [angle]
end

section
variable (W : FVec Ideal S4x4096x16x256 .f32) (Z : FVec Ideal S4x4096x15936 .f32) (C S : FVec Ideal S4x4096x32 .f32)
  (b : Fin 4) (d : Fin 16) (k : Fin 256) (s : Fin 4096)

/-- A head's own column of the keys. -/
theorem keys_plain (h : k.val < 128) : keys W Z C S (ix4 b d k s) = W (ix4 b s d k) := by
  pointwise [keys, rope]
  rw [dif_pos (by omega), dif_pos (by omega)]
/-- A column of the first half of the rotated ones. -/
theorem keys_low (j : Fin 32) (hk : k.val = 128 + j.val) : keys W Z C S (ix4 b d k s)
    = Z (ix3 b s ⟨7680 + j.val, by omega⟩) * C (ix3 b s j) - Z (ix3 b s ⟨7712 + j.val, by omega⟩) * S (ix3 b s j) := by
  have hj := j.isLt
  pointwise [keys, rope]
  rw [dif_pos (by omega), dif_neg (by omega), dif_pos (by omega)]
  refine congrArg₂ (· - ·) (congrArg₂ (· * ·) (congrArg Z (ix3_congr rfl rfl ?_)) (congrArg C (ix3_congr rfl rfl ?_)))
    (congrArg₂ (· * ·) (congrArg Z (ix3_congr rfl rfl ?_)) (congrArg S (ix3_congr rfl rfl ?_))) <;> dsimp only <;> omega
/-- A column of the second half of the rotated ones. -/
theorem keys_high (j : Fin 32) (hk : k.val = 160 + j.val) : keys W Z C S (ix4 b d k s)
    = Z (ix3 b s ⟨7680 + j.val, by omega⟩) * S (ix3 b s j) + Z (ix3 b s ⟨7712 + j.val, by omega⟩) * C (ix3 b s j) := by
  have hj := j.isLt
  pointwise [keys, rope]
  rw [dif_pos (by omega), dif_neg (by omega), dif_neg (by omega)]
  refine congrArg₂ (· + ·) (congrArg₂ (· * ·) (congrArg Z (ix3_congr rfl rfl ?_)) (congrArg S (ix3_congr rfl rfl ?_)))
    (congrArg₂ (· * ·) (congrArg Z (ix3_congr rfl rfl ?_)) (congrArg C (ix3_congr rfl rfl ?_))) <;> dsimp only <;> omega
/-- A column of the padding. -/
theorem keys_pad (h : 192 ≤ k.val) : keys W Z C S (ix4 b d k s) = 0 := by
  pointwise [keys, rope]
  rw [dif_neg (by omega)]
  exact sitofp_zero
end

theorem reference_eq1 (m : (ℓ : Loc nD τ sig) → Buf (Elt Ideal) ℓ) (c : Dev nD) : Value.res_main_v71 m c
    = target10 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl
theorem reference_eq2 (m : (ℓ : Loc nD τ sig) → Buf (Elt Ideal) ℓ) (c : Dev nD) : Value.res_main_v73 m c
    = target11 (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) := rfl

end Cert.KvRefIdeal.Hand

end
-- ==== Proof.Kv.Entry.lean ====
module

public import proofs.«01_k».proof.Proof.Kv.Tile
public import proofs.«01_k».proof.Proof.Kv.Ref
public import Idealize.ShloMosaic.Lib.Pipeline.ValueKit
public import Idealize.ShloMosaic.Lib.Pipeline.ReadBack
public import Idealize.ShloMosaic.Lib.Claim
public import Idealize.ShloMosaic.Lib.Pointwise

/-! # The key and value projections: what the call takes -/

@[expose] public section

set_option maxRecDepth 16384

noncomputable section

open Idealize.ShloMosaic Idealize.ShloMosaic.TcCoe Idealize.SL.Sem
open Idealize.ShloMosaic.Pipeline (Dat)

namespace Cert.KvIdeal.Hand
open Cert.KvIdeal Cert.KvIdeal.Gen
open Cert.QRefIdeal.Hand (rate)
open Cert.KvRefIdeal.Hand (unit mixed hid proj target9 target10 target11)
variable (m : (ℓ : Loc nD τ sig) → Buf (Elt Ideal) ℓ)

theorem lt_of (t : Fin cfg0.N) : t.val < 32 := lt_of_lt_of_eq t.isLt N_0

theorem idx : ∀ t : Fin cfg0.N,
    win0_0.index t = ![t.val, 0] ∧ win0_1.index t = ![0, 0] ∧ win0_2.index t = ![t.val, 0] ∧ win0_3.index t = ![0, 0]
      ∧ win0_4.index t = ![0, 0] ∧ win0_5.index t = ![0, 0] ∧ win0_6.index t = ![0, 0] ∧ win0_7.index t = ![0, 0]
      ∧ win0_8.index t = ![0, 0] ∧ win0_9.index t = ![t.val, 0] ∧ win0_10.index t = ![t.val / 8, 0, 0, t.val % 8] ∧ win0_11.index t = ![t.val, 0] :=
  (by decide +kernel : ∀ t : Fin grid0.N, _)

theorem row_lt (t : Fin cfg0.N) (r : Fin 512) : t.val * 512 + r.val < 16384 := by
  have := lt_of t; omega

/-! ## The blocks' entries -/

section
variable (c : Dev nD) (t : Fin cfg0.N)

theorem x_apply (r : Fin 512) (b : Fin 4) (s k : Fin 4096) (h : t.val * 512 + r.val = b.val * 4096 + s.val) :
    iblk m c 0 t (ix2 r k) = m ((c : Thread nD τ).loc main_arg0) (ix3 b s k) := by
  have e : ((cfg0.win 0).blk t).view.emb (ix2 r k) = ix2 (⟨t.val * 512 + r.val, row_lt t r⟩ : Fin 16384) k := by blk_ext [idx t]
  show V m c main_v46 (((cfg0.win 0).blk t).view.emb (ix2 r k)) = _
  rw [e]
  entry_read
  have hs := s.isLt
  pointwise
  exact congrArg (m ((c : Thread nD τ).loc main_arg0)) (Cert.QRefIdeal.Hand.ix3_congr (by dsimp only; omega) (by dsimp only; omega) rfl)
theorem gm_apply (k : Fin 4096) : iblk m c 1 t (ix2 0 k) = m ((c : Thread nD τ).loc main_arg2) (ix2 0 k) := by
  blk_ext! [iblk, V, idx t]
theorem pos_apply (r : Fin 512) (b : Fin 4) (s : Fin 4096) (h : t.val * 512 + r.val = b.val * 4096 + s.val) :
    iblk m c 2 t (ix2 r 0) = m ((c : Thread nD τ).loc main_arg1) (ix2 b s) := by
  blk_ext! [iblk, V, idx t]
theorem inv_apply (k : Fin 128) : iblk m c 3 t (ix2 0 k) = rate (k.val % 32) := by
  have e : ((cfg0.win 3).blk t).view.emb (ix2 0 k) = ix2 0 k := by blk_ext [idx t]
  show V m c main_v13 (((cfg0.win 3).blk t).view.emb (ix2 0 k)) = _
  rw [e]
  entry_read
  pointwise
theorem sgn_apply (k : Fin 128) : iblk m c 4 t (ix2 0 k) = if k.val % 64 < 32 then (-1 : EReal) else 1 := by
  have e : ((cfg0.win 4).blk t).view.emb (ix2 0 k) = ix2 0 k := by blk_ext [idx t]
  show V m c main_v21 (((cfg0.win 4).blk t).view.emb (ix2 0 k)) = _
  rw [e]
  entry_read
  pointwise
  split <;> rfl
theorem g_apply (k : Fin 512) : iblk m c 6 t (ix2 0 k) = m ((c : Thread nD τ).loc main_arg4) (ix2 0 k) := by
  blk_ext! [iblk, V, idx t]
theorem wk_apply (n : Fin 2048) (x : Fin 512) : iblk m c 7 t (ix2 n x)
    = m ((c : Thread nD τ).loc main_arg5) (ix3 0 x ⟨n.val / 128 * 256 + n.val % 128, by omega⟩) := by
  have e : ((cfg0.win 7).blk t).view.emb (ix2 n x) = ix2 n x := by blk_ext [idx t]
  show V m c main_v42 (((cfg0.win 7).blk t).view.emb (ix2 n x)) = _
  rw [e]
  entry_read
  pointwise
theorem wv_apply (n : Fin 2048) (x : Fin 512) : iblk m c 8 t (ix2 x n)
    = m ((c : Thread nD τ).loc main_arg5) (ix3 0 x ⟨n.val / 128 * 256 + (128 + n.val % 128), by omega⟩) := by
  blk_ext! [iblk, V, idx t]
end

/-! ## The weights of the latent and the rotated columns, as the call takes them -/

/-- The latent columns of the weights. -/
abbrev wLatent (w : FVec Ideal S1x4096x15936 .f32) : FVec Ideal S512x4096 .bf16 :=
  extractStridedSlice S512x4096 ![7168, 0] (truncf .bf16 (extractStridedSlice S7680x4096 ![0, 0]
    (transpose S15936x4096 [1, 0] (shapeCast S4096x15936 w shapeCasts_S1x4096x15936_S4096x15936) transposes_S4096x15936_S15936x4096_1_0)
    slices_S15936x4096_S7680x4096_0_0) bitsLt_bf16_f32) slices_S7680x4096_S512x4096_7168_0
/-- The rotated columns of the weights. -/
abbrev wRope (w : FVec Ideal S1x4096x15936 .f32) : FVec Ideal S64x4096 .f32 :=
  transpose S64x4096 [1, 0] (extractStridedSlice S4096x64 ![0, 7680] (shapeCast S4096x15936 w shapeCasts_S1x4096x15936_S4096x15936)
    slices_S4096x15936_S4096x64_0_7680) transposes_S4096x64_S64x4096_1_0
/-- The rotated columns of the weights, their halves exchanged. -/
abbrev wSwap (w : FVec Ideal S1x4096x15936 .f32) : FVec Ideal S64x4096 .f32 :=
  concatenate S64x4096 0
    [⟨S32x4096, extractStridedSlice S32x4096 ![32, 0] (wRope w) slices_S64x4096_S32x4096_32_0⟩,
      ⟨S32x4096, extractStridedSlice S32x4096 ![0, 0] (wRope w) slices_S64x4096_S32x4096_0_0⟩]
    concatenates_S32x4096_S32x4096_S64x4096_d0
/-- Zeros. -/
abbrev wZero : FVec Ideal S64x4096 .f32 := broadcastInDim S64x4096 ![] bcast_S_S64x4096 (constant S_ .f32 0x00000000#32)
/-- All of them, one below the other. -/
abbrev wAll (a : FVec Ideal S512x4096 .bf16) (p q z : FVec Ideal S64x4096 .f32) : FVec Ideal S768x4096 .bf16 :=
  concatenate S768x4096 0 [⟨S512x4096, a⟩, ⟨S256x4096, truncf .bf16 (concatenate S256x4096 0
    [⟨S64x4096, p⟩, ⟨S64x4096, z⟩, ⟨S64x4096, q⟩, ⟨S64x4096, z⟩] concatenates_S64x4096_S64x4096_S64x4096_S64x4096_S256x4096_d0) bitsLt_bf16_f32⟩]
    concatenates_S512x4096_S256x4096_S768x4096_d0

theorem entry33 (c : Dev nD) : V m c main_v33 = wLatent (m ((c : Thread nD τ).loc main_arg3)) := by
  entry_read
  rfl
theorem entry28 (c : Dev nD) : V m c main_v28 = wRope (m ((c : Thread nD τ).loc main_arg3)) := by
  entry_read
  rfl
theorem entry31 (c : Dev nD) : V m c main_v31 = wSwap (m ((c : Thread nD τ).loc main_arg3)) := by
  entry_read
  rfl
theorem entry32 (c : Dev nD) : V m c main_v32 = wZero := by
  entry_read
  rfl
set_option maxRecDepth 100000 in
set_option maxHeartbeats 1000000 in
theorem entry34 (c : Dev nD) : V m c main_v34 = concatenate S256x4096 0
    [⟨S64x4096, V m c main_v28⟩, ⟨S64x4096, V m c main_v32⟩, ⟨S64x4096, V m c main_v31⟩, ⟨S64x4096, V m c main_v32⟩]
    concatenates_S64x4096_S64x4096_S64x4096_S64x4096_S256x4096_d0 := rfl
set_option maxRecDepth 100000 in
set_option maxHeartbeats 1000000 in
theorem entry36 (c : Dev nD) : V m c main_v36 = concatenate S768x4096 0 [⟨S512x4096, V m c main_v33⟩, ⟨S256x4096, V m c main_v35⟩]
    concatenates_S512x4096_S256x4096_S768x4096_d0 := rfl
set_option maxRecDepth 100000 in
set_option maxHeartbeats 1000000 in
theorem entry35 (c : Dev nD) : V m c main_v35
    = (truncf .bf16 (V m c main_v34 : FVec Ideal S256x4096 .f32) bitsLt_bf16_f32 : FVec Ideal S256x4096 .bf16) := rfl

theorem all_apply (w) (n : Fin 768) (k : Fin 4096) : wAll (wLatent w) (wRope w) (wSwap w) wZero (ix2 n k)
    = if h : n.val < 512 then w (ix3 0 k ⟨7168 + n.val, by omega⟩)
      else if h : n.val - 512 < 64 then w (ix3 0 k ⟨7680 + (n.val - 512), by omega⟩)
      else if h : n.val - 512 - 64 < 64 then (0 : EReal)
      else if h : n.val - 512 - 64 - 64 < 64 then
        (if h : n.val - 512 - 64 - 64 < 32 then w (ix3 0 k ⟨7680 + (32 + (n.val - 512 - 64 - 64)), by omega⟩)
          else w (ix3 0 k ⟨7680 + (n.val - 512 - 64 - 64 - 32), by omega⟩))
      else (0 : EReal) := by
  pointwise [wAll, wLatent, wRope, wSwap, wZero]

theorem w_apply (c : Dev nD) (t : Fin cfg0.N) (n : Fin 768) (k : Fin 4096) : iblk m c 5 t (ix2 n k)
    = wAll (wLatent (m ((c : Thread nD τ).loc main_arg3))) (wRope (m ((c : Thread nD τ).loc main_arg3)))
        (wSwap (m ((c : Thread nD τ).loc main_arg3))) wZero (ix2 n k) := by
  have e : ((cfg0.win 5).blk t).view.emb (ix2 n k) = ix2 n k := by blk_ext [idx t]
  show V m c main_v36 (((cfg0.win 5).blk t).view.emb (ix2 n k)) = _
  rw [e, entry36, entry35, entry34, entry33, entry28, entry31, entry32]

section
variable (c : Dev nD) (t : Fin cfg0.N) (n : Fin 768) (k : Fin 4096) (l : Fin 15936)

theorem w_latent (hn : n.val < 512) (hl : l.val = 7168 + n.val) : iblk m c 5 t (ix2 n k) = m ((c : Thread nD τ).loc main_arg3) (ix3 0 k l) := by
  rw [w_apply, all_apply, dif_pos hn]
  exact congrArg (fun l => m ((c : Thread nD τ).loc main_arg3) (ix3 0 k l)) (Fin.ext (by dsimp only; omega))
theorem w_rope (j : ℕ) (hj : j < 64) (hn : n.val = 512 + j) (hl : l.val = 7680 + j) :
    iblk m c 5 t (ix2 n k) = m ((c : Thread nD τ).loc main_arg3) (ix3 0 k l) := by
  rw [w_apply, all_apply, dif_neg (by omega), dif_pos (by omega)]
  exact congrArg (fun l => m ((c : Thread nD τ).loc main_arg3) (ix3 0 k l)) (Fin.ext (by dsimp only; omega))
theorem w_swap (j : ℕ) (hj : j < 64) (hn : n.val = 640 + j) (hl : l.val = 7680 + (j + 32) % 64) :
    iblk m c 5 t (ix2 n k) = m ((c : Thread nD τ).loc main_arg3) (ix3 0 k l) := by
  rw [w_apply, all_apply, dif_neg (by omega), dif_neg (by omega), dif_neg (by omega), dif_pos (by omega)]
  by_cases h : j < 32
  · rw [dif_pos (by omega)]
    exact congrArg (fun l => m ((c : Thread nD τ).loc main_arg3) (ix3 0 k l)) (Fin.ext (by dsimp only; omega))
  · rw [dif_neg (by omega)]
    exact congrArg (fun l => m ((c : Thread nD τ).loc main_arg3) (ix3 0 k l)) (Fin.ext (by dsimp only; omega))
theorem w_zero (j : ℕ) (hj : 64 ≤ j) (hj' : j < 128) (hn : n.val = 512 + j ∨ n.val = 640 + j) : iblk m c 5 t (ix2 n k) = (0 : EReal) := by
  rw [w_apply, all_apply, dif_neg (by omega), dif_neg (by omega)]
  rcases hn with hn | hn
  · rw [dif_pos (by omega)]
  · rw [dif_neg (by omega), dif_neg (by omega)]
end

end Cert.KvIdeal.Hand

end
-- ==== Proof.Kv.Cell.lean ====
module

public import proofs.«01_k».proof.Proof.Kv.Tile
public import proofs.«01_k».proof.Proof.Kv.Ref
public import Idealize.ShloMosaic.Lib.Pipeline.ValueKit
public import Idealize.ShloMosaic.Lib.Pipeline.ReadBack
public import Idealize.ShloMosaic.Lib.Claim
public import Idealize.ShloMosaic.Lib.Pointwise

/-! # The key and value projections: the tile's entries, from entries of the blocks -/

@[expose] public section

set_option maxRecDepth 16384

noncomputable section

open Idealize.ShloMosaic Idealize.ShloMosaic.TcCoe Idealize.SL.Sem
open Idealize.ShloMosaic.Pipeline (Dat)

namespace Cert.KvIdeal.Hand
open Cert.KvIdeal Cert.KvIdeal.Gen
open Cert.QRefIdeal.Hand (rate)
open Cert.KvRefIdeal.Hand (unit mixed hid proj target9 target10 target11)
section
variable (x0 : Vec Ideal S512x4096 .f32) (x1 : Vec Ideal S1x4096 .f32) (x5 : Vec Ideal S768x4096 .bf16) (x6 : Vec Ideal S1x512 .f32)
  (r : Fin 512)

/-- A row of the block, normed: the reference's row. -/
theorem pay5_of (x : FVec Ideal Cert.KvRefIdeal.S4x4096x4096 .f32) (gm : FVec Ideal Cert.KvRefIdeal.S1x4096 .f32) (b : Fin 4) (s : Fin 4096)
    (hx : ∀ k, x0 (ix2 r k) = x (ix3 b s k)) (hg : ∀ k, x1 (ix2 0 k) = gm (ix2 0 k)) (k : Fin 4096) :
    k0_pay5 x0 x1 (ix2 r k) = unit x gm b s k := by
  unfold unit
  pointwise [k0_pay5]
  simp only [hx, hg]

/-- A column of the product is the reference's column where their weights are the same. -/
theorem pay6_of (H : FVec Ideal Cert.KvRefIdeal.S4x4096x4096 .f32) (w : FVec Ideal Cert.KvRefIdeal.S1x4096x15936 .f32) (b : Fin 4) (s : Fin 4096)
    (hp : ∀ k, k0_pay5 x0 x1 (ix2 r k) = H (ix3 b s k)) (n : Fin 768) (l : Fin 15936) (hw : ∀ k, x5 (ix2 n k) = w (ix3 0 k l)) :
    k0_pay6 x0 x1 x5 (ix2 r n) = proj H w (ix3 b s l) := by
  rw [Cert.KvRefIdeal.Hand.proj_apply]
  pointwise [k0_pay6]
  simp only [hp, hw]

/-- A column of the product is zero where its weights are. -/
theorem pay6_zero (n : Fin 768) (hw : ∀ k, x5 (ix2 n k) = (0 : EReal)) : k0_pay6 x0 x1 x5 (ix2 r n) = (0 : EReal) := by
  pointwise [k0_pay6]
  simp only [hw, mul_zero, Finset.sum_const_zero]

section
variable (g : FVec Ideal Cert.KvRefIdeal.S1x512 .f32) (A B : Fin 512 → Ideal .f32)
  (hA : ∀ (n : Fin 768) (l : Fin 512), n.val = l.val → k0_pay6 x0 x1 x5 (ix2 r n) = A l) (hg : ∀ k, x6 (ix2 0 k) = g (ix2 0 k))
include hA hg

theorem keys_of (x7 : Vec Ideal S2048x512 .bf16) (n : Fin 2048) (hB : ∀ x, x7 (ix2 n x) = B x) :
    k0_pay10 (k0_pay7 x0 x1 x5 x6) x7 (ix2 n r) = mixed A B g := by
  have hA' : ∀ l : Fin 512, k0_pay6 x0 x1 x5 (ix2 r ⟨l.val, by omega⟩) = A l := fun l => hA _ l rfl
  unfold mixed
  pointwise [k0_pay10, k0_pay7]
  simp only [hA', hg, hB]
  exact Finset.sum_congr rfl fun x _ => mul_comm _ _

theorem values_of (x8 : Vec Ideal S512x2048 .bf16) (n : Fin 2048) (hB : ∀ x, x8 (ix2 x n) = B x) :
    k0_pay9 (k0_pay7 x0 x1 x5 x6) (k0_pay8 x8) (ix2 r n) = mixed A B g := by
  have hA' : ∀ l : Fin 512, k0_pay6 x0 x1 x5 (ix2 r ⟨l.val, by omega⟩) = A l := fun l => hA _ l rfl
  unfold mixed
  pointwise [k0_pay9, k0_pay8, k0_pay7]
  simp only [hA', hg, hB]
end

theorem common_of (z : FVec Ideal S512x768 .f32) (p : Vec Ideal S512x1 .i32) (q s : Vec Ideal S1x128 .f32) (l : Fin 128) :
    k0_pay11 z p q s (ix2 l r)
      = z (ix2 r ⟨512 + l.val, by omega⟩) * Ideal.cos ((FloatOps.sitofp FTy.f32 (p (ix2 r 0)) : Ideal .f32) * q (ix2 0 l))
        + z (ix2 r ⟨640 + l.val, by omega⟩) * (Ideal.sin ((FloatOps.sitofp FTy.f32 (p (ix2 r 0)) : Ideal .f32) * q (ix2 0 l)) * s (ix2 0 l)) := by
  pointwise [k0_pay11]
end

theorem low_eq (a b x y : EReal) : a * x + b * (y * -1) = a * x - b * y := by
  rw [mul_neg, mul_one, mul_neg, sub_eq_add_neg]
theorem high_eq (a b x y : EReal) : b * x + a * (y * 1) = a * y + b * x := by
  rw [mul_one, add_comm]

/-- The tile at a row, from what its tables hold in that row: the reference's keys. -/
theorem cell_of (W : FVec Ideal Cert.KvRefIdeal.S4x4096x16x256 .f32) (Z : FVec Ideal Cert.KvRefIdeal.S4x4096x15936 .f32)
    (C S : FVec Ideal Cert.KvRefIdeal.S4x4096x32 .f32) (N : FVec Ideal S2048x512 .f32) (K : FVec Ideal S128x512 .bf16)
    (d : Fin 16) (k : Fin 256) (r : Fin 512) (b : Fin 4) (s : Fin 4096)
    (hN : ∀ (n : Fin 2048) (e : Fin 256), e.val < 128 → n.val = d.val * 128 + e.val → N (ix2 n r) = W (ix4 b s d e))
    (hlow : ∀ (l : Fin 128) (j : Fin 32), l.val = j.val → K (ix2 l r)
      = Z (ix3 b s ⟨7680 + j.val, by omega⟩) * C (ix3 b s j) + Z (ix3 b s ⟨7712 + j.val, by omega⟩) * (S (ix3 b s j) * (-1 : EReal)))
    (hhigh : ∀ (l : Fin 128) (j : Fin 32), l.val = 32 + j.val → K (ix2 l r)
      = Z (ix3 b s ⟨7712 + j.val, by omega⟩) * C (ix3 b s j) + Z (ix3 b s ⟨7680 + j.val, by omega⟩) * (S (ix3 b s j) * (1 : EReal)))
    (hpad : ∀ l : Fin 128, 64 ≤ l.val → K (ix2 l r) = (0 : EReal)) :
    tile N K (ix4 0 d k r) = Cert.KvRefIdeal.Hand.keys W Z C S (ix4 b d k s) := by
  have hk := k.isLt
  have hd := d.isLt
  by_cases h1 : k.val < 128
  · rw [Cert.KvRefIdeal.Hand.keys_plain W Z C S b d k s h1]
    exact (if_pos h1).trans (hN _ k h1 (by dsimp only; show (d.val * 128 + k.val) % 2048 = _; omega))
  · refine (if_neg h1).trans ?_
    by_cases h2 : k.val < 160
    · rw [Cert.KvRefIdeal.Hand.keys_low W Z C S b d k s ⟨k.val - 128, by omega⟩ (by dsimp only; omega)]
      exact (hlow _ ⟨k.val - 128, by omega⟩ (by show k.val % 128 = k.val - 128; omega)).trans (low_eq _ _ _ _)
    by_cases h3 : k.val < 192
    · rw [Cert.KvRefIdeal.Hand.keys_high W Z C S b d k s ⟨k.val - 160, by omega⟩ (by dsimp only; omega)]
      exact (hhigh _ ⟨k.val - 160, by omega⟩ (by show k.val % 128 = 32 + (k.val - 160); omega)).trans (high_eq _ _ _ _)
    · rw [Cert.KvRefIdeal.Hand.keys_pad W Z C S b d k s (by omega)]
      exact hpad _ (by show 64 ≤ k.val % 128; omega)

end Cert.KvIdeal.Hand

end
-- ==== Proof.Kv.Value.lean ====
module

public import proofs.«01_k».proof.Proof.Kv.Entry
public import proofs.«01_k».proof.Proof.Kv.Cell
public import Idealize.ShloMosaic.Lib.Pipeline.ValueKit
public import Idealize.ShloMosaic.Lib.Pipeline.ReadBack
public import Idealize.ShloMosaic.Lib.Claim
public import Idealize.ShloMosaic.Lib.Pointwise

/-! # The key and value projections: what the three arrays hold after the call -/

@[expose] public section

set_option maxRecDepth 16384

noncomputable section

open Idealize.ShloMosaic Idealize.ShloMosaic.TcCoe Idealize.SL.Sem
open Idealize.ShloMosaic.Pipeline (Dat)

namespace Cert.KvIdeal.Hand
open Cert.KvIdeal Cert.KvIdeal.Gen
open Cert.QRefIdeal.Hand (rate)
open Cert.KvRefIdeal.Hand (unit mixed hid proj heads angle target9 target10 target11)
variable (m : (ℓ : Loc nD τ sig) → Buf (Elt Ideal) ℓ)

section
variable (c : Dev nD) (t : Fin cfg0.N) (r : Fin 512) (b : Fin 4) (s : Fin 4096) (h : t.val * 512 + r.val = b.val * 4096 + s.val)
include h

theorem hid_row (k : Fin 4096) : k0_pay5 (iblk m c 0 t) (iblk m c 1 t) (ix2 r k) = unit (m ((c : Thread nD τ).loc main_arg0)) (m ((c : Thread nD τ).loc main_arg2)) b s k :=
  pay5_of _ _ r _ _ b s (fun k => x_apply m c t r b s k h) (fun k => gm_apply m c t k) k

/-- A column of the product is the reference's column where their weights are the same. -/
theorem proj_col (n : Fin 768) (l : Fin 15936) (hw : ∀ k, iblk m c 5 t (ix2 n k) = m ((c : Thread nD τ).loc main_arg3) (ix3 0 k l)) :
    k0_pay6 (iblk m c 0 t) (iblk m c 1 t) (iblk m c 5 t) (ix2 r n) = proj (hid (m ((c : Thread nD τ).loc main_arg0)) (m ((c : Thread nD τ).loc main_arg2))) (m ((c : Thread nD τ).loc main_arg3)) (ix3 b s l) :=
  pay6_of _ _ _ r _ _ b s (fun k => (hid_row m c t r b s h k).trans (Cert.KvRefIdeal.Hand.hid_apply _ _ b s k).symm) n l hw

theorem proj_latent (n : Fin 768) (l : Fin 512) (hn : n.val = l.val) : k0_pay6 (iblk m c 0 t) (iblk m c 1 t) (iblk m c 5 t) (ix2 r n)
    = proj (hid (m ((c : Thread nD τ).loc main_arg0)) (m ((c : Thread nD τ).loc main_arg2))) (m ((c : Thread nD τ).loc main_arg3)) (ix3 b s ⟨7168 + l.val, by omega⟩) :=
  proj_col m c t r b s h _ _ fun k => w_latent m c t n k _ (by omega) (by dsimp only; omega)

/-- A head's own row of keys. -/
theorem own_row (d : Fin 16) (e : Fin 256) (n : Fin 2048) (he : e.val < 128) (hn : n.val = d.val * 128 + e.val) : rows m c t (ix2 n r)
    = heads (proj (hid (m ((c : Thread nD τ).loc main_arg0)) (m ((c : Thread nD τ).loc main_arg2))) (m ((c : Thread nD τ).loc main_arg3))) (m ((c : Thread nD τ).loc main_arg4)) (m ((c : Thread nD τ).loc main_arg5)) (ix4 b s d e) := by
  rw [Cert.KvRefIdeal.Hand.heads_apply]
  refine keys_of _ _ _ _ r _ _ _ (fun n l hn => proj_latent m c t r b s h n l hn) (fun k => g_apply m c t k) _ n fun x => (wk_apply m c t n x).trans ?_
  exact congrArg (fun l => m ((c : Thread nD τ).loc main_arg5) (ix3 0 x l)) (Fin.ext (by dsimp only; omega))

/-- An entry of the values. -/
theorem value_row (n : Fin 2048) : k0_pay9 (P m c t) (k0_pay8 (iblk m c 8 t)) (ix2 r n)
    = target11 (m ((c : Thread nD τ).loc main_arg0)) (m ((c : Thread nD τ).loc main_arg2)) (m ((c : Thread nD τ).loc main_arg3)) (m ((c : Thread nD τ).loc main_arg4)) (m ((c : Thread nD τ).loc main_arg5)) (ix2 ⟨t.val * 512 + r.val, row_lt t r⟩ n) := by
  refine Eq.trans ?_ (Cert.KvRefIdeal.Hand.values_apply b s _ ⟨t.val * 512 + r.val, row_lt t r⟩ h n).symm
  rw [Cert.KvRefIdeal.Hand.heads_apply]
  exact values_of _ _ _ _ r _ _ _ (fun n l hn => proj_latent m c t r b s h n l hn) (fun k => g_apply m c t k) _ n fun x => wv_apply m c t n x

/-- An entry of the rows common to the heads. -/
theorem common_row (l : Fin 128) (j : Fin 32) (hl : l.val % 32 = j.val) : common m c t (ix2 l r)
    = k0_pay6 (iblk m c 0 t) (iblk m c 1 t) (iblk m c 5 t) (ix2 r ⟨512 + l.val, by omega⟩) * Ideal.cos (angle (m ((c : Thread nD τ).loc main_arg1)) (ix3 b s j))
      + k0_pay6 (iblk m c 0 t) (iblk m c 1 t) (iblk m c 5 t) (ix2 r ⟨640 + l.val, by omega⟩)
        * (Ideal.sin (angle (m ((c : Thread nD τ).loc main_arg1)) (ix3 b s j)) * (if l.val % 64 < 32 then (-1 : EReal) else 1)) := by
  refine (common_of r _ _ _ _ l).trans ?_
  rw [pos_apply m c t r b s h, inv_apply, sgn_apply, hl, Cert.KvRefIdeal.Hand.angle_apply]

/-- The tile of keys left at a point. -/
theorem cell (d : Fin 16) (k : Fin 256) : tile (rows m c t) (common m c t) (ix4 0 d k r)
    = target10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix4 b d k s) := by
  refine cell_of _ _ _ _ _ _ d k r b s (fun n e he hn => own_row m c t r b s h d e n he hn) (fun l j hl => ?_) (fun l j hl => ?_) (fun l hl => ?_)
  · rw [common_row m c t r b s h l j (by omega), if_pos (by omega),
      proj_col m c t r b s h ⟨512 + l.val, _⟩ ⟨7680 + j.val, by omega⟩ fun k => w_rope m c t _ k _ l.val (by omega) rfl (by dsimp only; omega),
      proj_col m c t r b s h ⟨640 + l.val, _⟩ ⟨7712 + j.val, by omega⟩ fun k => w_swap m c t _ k _ l.val (by omega) rfl (by dsimp only; omega)]
    rfl
  · rw [common_row m c t r b s h l j (by omega), if_neg (by omega),
      proj_col m c t r b s h ⟨512 + l.val, _⟩ ⟨7712 + j.val, by omega⟩ fun k => w_rope m c t _ k _ l.val (by omega) rfl (by dsimp only; omega),
      proj_col m c t r b s h ⟨640 + l.val, _⟩ ⟨7680 + j.val, by omega⟩ fun k => w_swap m c t _ k _ l.val (by omega) rfl (by dsimp only; omega)]
    rfl
  · have hl' := l.isLt
    rw [common_row m c t r b s h l ⟨l.val % 32, by omega⟩ rfl,
      pay6_zero _ _ _ r ⟨512 + l.val, _⟩ fun k => w_zero m c t _ k l.val hl hl' (Or.inl rfl),
      pay6_zero _ _ _ r ⟨640 + l.val, _⟩ fun k => w_zero m c t _ k l.val hl hl' (Or.inr rfl)]
    show (0 : EReal) * _ + 0 * _ = 0
    rw [zero_mul, zero_mul, add_zero]
end

theorem split_row (t : Fin cfg0.N) (r : Fin 512) : ∃ (b : Fin 4) (s : Fin 4096), t.val * 512 + r.val = b.val * 4096 + s.val ∧ b.val = t.val / 8
    ∧ s.val = t.val % 8 * 512 + r.val := by
  have := row_lt t r
  exact ⟨⟨t.val / 8, by omega⟩, ⟨t.val % 8 * 512 + r.val, by omega⟩, by dsimp only; omega, rfl, rfl⟩

/-- The normed input after the call is the reference's first result. -/
theorem final9 (c : Dev nD) : (dats m 0 c).arrAt 9 (cfgs 0).N = target9 (m ((c : Thread nD τ).loc main_arg0)) (m ((c : Thread nD τ).loc main_arg2)) := by
  refine (dats m 0 c).arrAt_eq_of_covers 9 _ (by decide +kernel) fun t _ y => ?_
  obtain ⟨r, k, rfl⟩ : ∃ r k, y = ix2 r k := ⟨y 0, y 1, (ix2_eta y).symm⟩
  obtain ⟨b, s, h, -, -⟩ := split_row t r
  have e : ((cfg0.win 9).blk t).view.emb (ix2 r k) = ix2 (⟨t.val * 512 + r.val, row_lt t r⟩ : Fin 16384) k := by
    blk_ext [idx t]
  refine Eq.trans ?_ (congrArg _ e).symm
  blk_simp
  rw [after0_9]
  unfold out0_9
  frame_out
  exact (hid_row m c t r b s h k).trans (Cert.KvRefIdeal.Hand.target9_apply _ _ b s ⟨t.val * 512 + r.val, row_lt t r⟩ h k).symm

/-- The keys after the call are the reference's second result. -/
theorem final10 (c : Dev nD) : (dats m 0 c).arrAt 10 (cfgs 0).N = target10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  obtain ⟨d, k, r, rfl⟩ : ∃ d k r, y = ix4 0 d k r := by
    refine ⟨y 1, y 2, y 3, (ix4_eta y).symm.trans ?_⟩
    have e0 : y 0 = (0 : Fin 1) := Fin.eq_zero (y 0 : Fin 1)
    rw [e0]
  obtain ⟨b, s, h, hb, hs⟩ := split_row t r
  have e : ((cfg0.win 10).blk t).view.emb (ix4 0 d k r) = ix4 b d k s := by
    blk_ext [idx t]
  refine Eq.trans ?_ (congrArg _ e).symm
  blk_simp
  rw [after0_10]
  exact (out10 m c t (ix4 0 d k r)).trans (cell m c t r b s h d k)

/-- The values after the call are the reference's third result. -/
theorem final11 (c : Dev nD) : (dats m 0 c).arrAt 11 (cfgs 0).N = target11 (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t _ y => ?_
  obtain ⟨r, k, rfl⟩ : ∃ r k, y = ix2 r k := ⟨y 0, y 1, (ix2_eta y).symm⟩
  obtain ⟨b, s, h, -, -⟩ := split_row t r
  have e : ((cfg0.win 11).blk t).view.emb (ix2 r k) = ix2 (⟨t.val * 512 + r.val, row_lt t r⟩ : Fin 16384) k := by
    blk_ext [idx t]
  refine Eq.trans ?_ (congrArg _ e).symm
  blk_simp
  rw [after0_11]
  unfold out0_11
  frame_out
  rw [pay45_eq]
  exact value_row m c t r b s h k

end Cert.KvIdeal.Hand

end
-- ==== Proof.Head.Value.lean ====
module

public import proofs.«01_k».proof.Proof.Gen.HeadIdeal.Value
public import proofs.«01_k».proof.Proof.Gen.HeadRefIdeal.Run
public import Idealize.ShloMosaic.Lib.Pipeline.ValueKit
public import Idealize.ShloMosaic.Lib.Pipeline.ReadBack
public import Idealize.ShloMosaic.Lib.Claim
public import Idealize.ShloMosaic.Lib.Pointwise

/-! # The cast of the first columns of the input weights: what the array holds after the call -/

@[expose] public section

set_option maxRecDepth 16384

noncomputable section

open Idealize.ShloMosaic Idealize.ShloMosaic.TcCoe Idealize.SL.Sem
open Idealize.ShloMosaic.Pipeline (Dat)

namespace Cert.HeadIdeal.Hand
open Cert.HeadIdeal Cert.HeadIdeal.Gen

variable (m : (ℓ : Loc nD τ sig) → Buf (Elt Ideal) ℓ)

/-- The reference's result: the columns the call casts, transposed. -/
abbrev target (w : FVec Ideal S1x4096x15936 .f32) : FVec Ideal S7680x4096 .bf16 :=
  truncf .bf16 (transpose S7680x4096 [1, 0] (extractStridedSlice Cert.HeadRefIdeal.S4096x7680 ![0, 0]
    (shapeCast S4096x15936 w Cert.HeadRefIdeal.Gen.shapeCasts_S1x4096x15936_S4096x15936) Cert.HeadRefIdeal.Gen.slices_S4096x15936_S4096x7680_0_0)
    Cert.HeadRefIdeal.Gen.transposes_S4096x7680_S7680x4096_1_0) Cert.HeadRefIdeal.Gen.bitsLt_bf16_f32

/-- Which block of each array a grid point works on. -/
theorem idx : ∀ t : Fin cfg0.N, win0_0.index t = ![t.val, 0] ∧ win0_1.index t = ![t.val, 0] :=
  (by decide +kernel : ∀ t : Fin grid0.N, _)

theorem row_lt (t : Fin cfg0.N) (r : Fin 512) : t.val * 512 + r.val < 7680 := by
  have := lt_of_lt_of_eq t.isLt N_0
  omega

theorem w_apply (c : Dev nD) (t : Fin cfg0.N) (r : Fin 512) (k : Fin 4096) :
    X0_0 m c t (ix2 r k) = m ((c : Thread nD τ).loc main_arg0) (ix3 0 k ⟨t.val * 512 + r.val, by have := row_lt t r; omega⟩) := by
  unfold X0_0 Pipeline.Window.fill
  rw [dif_pos (moved0_0 t _)]
  blk_ext! [iblk, V, idx t]

theorem target_apply (w) (n : Fin 7680) (k : Fin 4096) : target w (ix2 n k) = w (ix3 0 k ⟨n.val, by omega⟩) := by
  pointwise [target]

/-- What a grid point leaves. -/
theorem out (c : Dev nD) (t : Fin cfg0.N) (y) : outsAt0 m c t y = k0_pay1 (X0_0 m c t) y := by
  unfold outsAt0
  frame_out

/-- The array after the call is the reference's result. -/
theorem final (c : Dev nD) : (dats m 0 c).arrAt 1 (cfgs 0).N = target (m ((c : Thread nD τ).loc main_arg0)) := by
  refine (dats m 0 c).arrAt_eq_of_covers 1 _ (by decide +kernel) fun t _ y => ?_
  obtain ⟨r, k, rfl⟩ : ∃ r k, y = ix2 r k := ⟨y 0, y 1, (ix2_eta y).symm⟩
  have e : ((cfg0.win 1).blk t).view.emb (ix2 r k) = ix2 (⟨t.val * 512 + r.val, row_lt t r⟩ : Fin 7680) k := by
    blk_ext [idx t]
  refine Eq.trans ?_ (congrArg _ e).symm
  blk_simp
  rw [after0_1, target_apply]
  refine (out m c t (ix2 r k)).trans (Eq.trans ?_ (w_apply m c t r k))
  pointwise [k0_pay1]

end Cert.HeadIdeal.Hand

end
-- ==== Proof.lean ====
module

public import proofs.«01_k».proof.Defs
public import proofs.«01_k».proof.Proof.Gen.Gate.Frame
public import proofs.«01_k».proof.Proof.Gate.Value
public import proofs.«01_k».proof.Proof.Gen.GateRefIdeal.Run
public import proofs.«01_k».proof.Proof.Ffn.Bits
public import proofs.«01_k».proof.Proof.Ffn.Value
public import proofs.«01_k».proof.Proof.Gen.FfnRefIdeal.Run
public import proofs.«01_k».proof.Proof.Conv.Bits
public import proofs.«01_k».proof.Proof.Conv.Value
public import proofs.«01_k».proof.Proof.Gen.ConvRefIdeal.Run
public import proofs.«01_k».proof.Proof.Gen.Out.Frame
public import proofs.«01_k».proof.Proof.Out.Value
public import proofs.«01_k».proof.Proof.Gen.OutRefIdeal.Run
public import proofs.«01_k».proof.Proof.Gen.Branch.Frame
public import proofs.«01_k».proof.Proof.Branch.Value
public import proofs.«01_k».proof.Proof.Gen.BranchRefIdeal.Run
public import proofs.«01_k».proof.Proof.Attn.Bits
public import proofs.«01_k».proof.Proof.Attn.Value
public import proofs.«01_k».proof.Proof.Attn.Finite
public import proofs.«01_k».proof.Proof.Gen.AttnRefIdeal.Run
public import proofs.«01_k».proof.Proof.Gen.Q.Frame
public import proofs.«01_k».proof.Proof.Q.Value
public import proofs.«01_k».proof.Proof.Gen.QRefIdeal.Run
public import proofs.«01_k».proof.Proof.Gen.Kv.Frame
public import proofs.«01_k».proof.Proof.Kv.Value
public import proofs.«01_k».proof.Proof.Gen.KvRefIdeal.Run
public import proofs.«01_k».proof.Proof.Gen.Head.Frame
public import proofs.«01_k».proof.Proof.Head.Value
public import proofs.«01_k».proof.Proof.Gen.HeadRefIdeal.Run
public import Idealize.ShloMosaic.Lib.Claim

/-! # The claims, put together

Each program's frame is the generated one, or the one of its own `Frame` module; each value claim reads the call's run
and the reference's, and closes with the theorems of the call's `Value` module. -/
@[expose] public section

set_option maxRecDepth 16384

noncomputable section

open Idealize.ShloMosaic Idealize.ShloMosaic.TcCoe Idealize.SL.Sem

namespace Cert.Proof

theorem frameGateRef : Cert.quiescent_GateRefIdeal := fun m g _ =>
  (θ_run Cert.GateRefIdeal.defs _ _).mono
    (fun r h => ⟨fun c => (h c).2.2.2, sem_eq_zero_of_no_sems (by decide) r.2⟩)
    (Cert.GateRefIdeal.Value.run m g)

theorem algebraicGate : Cert.algebraic_GateIdeal_GateRefIdeal := by
  pair_intro
  · run_from Cert.GateIdeal.Gen.run_main m g
  · hlo_run
    · exact (Cert.GateIdeal.Hand.final5 m c).symm
    · exact (Cert.GateIdeal.Hand.final6 m c).symm
    · exact (Cert.GateIdeal.Hand.final7 m c).symm

theorem frameFfnRef : Cert.quiescent_FfnRefIdeal := fun m g _ =>
  (θ_run Cert.FfnRefIdeal.defs _ _).mono
    (fun r h => ⟨fun c => (h c).2, sem_eq_zero_of_no_sems (by decide) r.2⟩)
    (Cert.FfnRefIdeal.Value.run m g)

theorem algebraicFfn : Cert.algebraic_FfnIdeal_FfnRefIdeal := by
  pair_intro
  · run_from Cert.FfnIdeal.Hand.run_post m g
  · hlo_run
    · exact (Cert.FfnIdeal.Hand.final m c).symm

theorem frameConvRef : Cert.quiescent_ConvRefIdeal := fun m g _ =>
  (θ_run Cert.ConvRefIdeal.defs _ _).mono
    (fun r h => ⟨fun c => (h c).2.2.2, sem_eq_zero_of_no_sems (by decide) r.2⟩)
    (Cert.ConvRefIdeal.Value.run m g)

theorem algebraicConv : Cert.algebraic_ConvIdeal_ConvRefIdeal := by
  pair_intro
  · run_from Cert.ConvIdeal.Hand.run_post m g
  · hlo_run
    · exact (Cert.ConvIdeal.Hand.final5 m c).symm
    · exact (Cert.ConvIdeal.Hand.final6 m c).symm
    · exact (Cert.ConvIdeal.Hand.final7 m c).symm

theorem frameOutRef : Cert.quiescent_OutRefIdeal := fun m g _ =>
  (θ_run Cert.OutRefIdeal.defs _ _).mono
    (fun r h => ⟨fun c => (h c).2, sem_eq_zero_of_no_sems (by decide) r.2⟩)
    (Cert.OutRefIdeal.Value.run m g)

theorem algebraicOut : Cert.algebraic_OutIdeal_OutRefIdeal := by
  pair_intro
  · run_from Cert.OutIdeal.Gen.run_main m g
  · hlo_run
    · exact (Cert.OutIdeal.Hand.final m c).symm

theorem frameBranchRef : Cert.quiescent_BranchRefIdeal := fun m g _ =>
  (θ_run Cert.BranchRefIdeal.defs _ _).mono
    (fun r h => ⟨fun c => (h c).2, sem_eq_zero_of_no_sems (by decide) r.2⟩)
    (Cert.BranchRefIdeal.Value.run m g)

theorem algebraicBranch : Cert.algebraic_BranchIdeal_BranchRefIdeal := by
  pair_intro
  · run_from Cert.BranchIdeal.Gen.run_main m g
  · hlo_run
    · exact (Cert.BranchIdeal.Hand.final m c).symm

theorem frameAttnRef : Cert.quiescent_AttnRefIdeal := fun m g _ =>
  (θ_run Cert.AttnRefIdeal.defs _ _).mono
    (fun r h => ⟨fun c => (h c).2.2.2.2, sem_eq_zero_of_no_sems (by decide) r.2⟩)
    (Cert.AttnRefIdeal.Value.run m g)

theorem algebraicAttn : Cert.algebraic_AttnIdeal_AttnRefIdeal_pre_attn_finite := by
  pair_intro
  · run_from Cert.AttnIdeal.Hand.run_post m g
  · hlo_run
    · exact Cert.AttnRefIdeal.Hand.attn_eq _ _ _ ▸ (Cert.AttnIdeal.Hand.final6 m (Cert.AttnIdeal.Hand.reals m hpre).1 (Cert.AttnIdeal.Hand.reals m hpre).2 c).symm
    · exact (Cert.AttnIdeal.Hand.final7 m c).symm
    · exact (Cert.AttnIdeal.Hand.final8 m c).symm
    · exact (Cert.AttnIdeal.Hand.final9 m c).symm

theorem frameQRef : Cert.quiescent_QRefIdeal := fun m g _ =>
  (θ_run Cert.QRefIdeal.defs _ _).mono
    (fun r h => ⟨fun c => (h c).2, sem_eq_zero_of_no_sems (by decide) r.2⟩)
    (Cert.QRefIdeal.Value.run m g)

theorem algebraicQ : Cert.algebraic_QIdeal_QRefIdeal := by
  pair_intro
  · run_from Cert.QIdeal.Gen.run_main m g
  · run_from Cert.QRefIdeal.Value.run m' g'
    · refine (Cert.QRefIdeal.Hand.reference_eq m' c).trans ?_
      rw [(hagree c).1, (hagree c).2.1, (hagree c).2.2.1, (hagree c).2.2.2.1, (hagree c).2.2.2.2]
      exact (Cert.QIdeal.Hand.final m c).symm

theorem frameKvRef : Cert.quiescent_KvRefIdeal := fun m g _ =>
  (θ_run Cert.KvRefIdeal.defs _ _).mono
    (fun r h => ⟨fun c => (h c).2.2.2, sem_eq_zero_of_no_sems (by decide) r.2⟩)
    (Cert.KvRefIdeal.Value.run m g)

set_option maxHeartbeats 2000000 in
theorem algebraicKv : Cert.algebraic_KvIdeal_KvRefIdeal := by
  pair_intro
  · run_from Cert.KvIdeal.Gen.run_main m g
  · run_from Cert.KvRefIdeal.Value.run m' g'
    · exact (Cert.KvIdeal.Hand.final9 m c).symm
    · refine (Cert.KvRefIdeal.Hand.reference_eq1 m' c).trans ?_
      rw [(hagree c).1, (hagree c).2.1, (hagree c).2.2.1, (hagree c).2.2.2.1, (hagree c).2.2.2.2.1, (hagree c).2.2.2.2.2]
      exact (Cert.KvIdeal.Hand.final10 m c).symm
    · refine (Cert.KvRefIdeal.Hand.reference_eq2 m' c).trans ?_
      rw [(hagree c).1, (hagree c).2.2.1, (hagree c).2.2.2.1, (hagree c).2.2.2.2.1, (hagree c).2.2.2.2.2]
      exact (Cert.KvIdeal.Hand.final11 m c).symm

theorem frameHeadRef : Cert.quiescent_HeadRefIdeal := fun m g _ =>
  (θ_run Cert.HeadRefIdeal.defs _ _).mono
    (fun r h => ⟨fun c => (h c).2, sem_eq_zero_of_no_sems (by decide) r.2⟩)
    (Cert.HeadRefIdeal.Value.run m g)

theorem algebraicHead : Cert.algebraic_HeadIdeal_HeadRefIdeal := by
  pair_intro
  · run_from Cert.HeadIdeal.Gen.run_main m g
  · hlo_run
    · exact (Cert.HeadIdeal.Hand.final m c).symm

theorem claim : Cert.Claim :=
  ⟨Cert.Gate.Gen.facts, Cert.GateIdeal.Gen.facts, Cert.GateRefIdeal.Gen.facts, Cert.Ffn.Gen.facts, Cert.FfnIdeal.Gen.facts, Cert.FfnRefIdeal.Gen.facts, Cert.Conv.Gen.facts, Cert.ConvIdeal.Gen.facts, Cert.ConvRefIdeal.Gen.facts, Cert.Out.Gen.facts, Cert.OutIdeal.Gen.facts, Cert.OutRefIdeal.Gen.facts, Cert.Branch.Gen.facts, Cert.BranchIdeal.Gen.facts, Cert.BranchRefIdeal.Gen.facts, Cert.Attn.Gen.facts, Cert.AttnIdeal.Gen.facts, Cert.AttnRefIdeal.Gen.facts, Cert.Q.Gen.facts, Cert.QIdeal.Gen.facts, Cert.QRefIdeal.Gen.facts, Cert.Kv.Gen.facts, Cert.KvIdeal.Gen.facts, Cert.KvRefIdeal.Gen.facts, Cert.Head.Gen.facts, Cert.HeadIdeal.Gen.facts, Cert.HeadRefIdeal.Gen.facts, Cert.Pre_attn_finite.Gen.facts,
    fun m ρ _ => Cert.Gate.Gen.frame m ρ,
    fun m ρ _ => Cert.GateIdeal.Gen.frame m ρ,
    frameGateRef,
    Cert.Ffn.Hand.frame,
    fun m ρ _ => Cert.FfnIdeal.Hand.frame m ρ,
    frameFfnRef,
    Cert.Conv.Hand.frame,
    fun m ρ _ => Cert.ConvIdeal.Hand.frame m ρ,
    frameConvRef,
    fun m ρ _ => Cert.Out.Gen.frame m ρ,
    fun m ρ _ => Cert.OutIdeal.Gen.frame m ρ,
    frameOutRef,
    fun m ρ _ => Cert.Branch.Gen.frame m ρ,
    fun m ρ _ => Cert.BranchIdeal.Gen.frame m ρ,
    frameBranchRef,
    Cert.Attn.Hand.frame,
    fun m ρ _ => Cert.AttnIdeal.Hand.frame m ρ,
    fun m ρ _ => Cert.AttnIdeal.Hand.frame m ρ,
    frameAttnRef,
    fun m ρ _ => frameAttnRef m ρ trivial,
    fun m ρ _ => Cert.Q.Gen.frame m ρ,
    fun m ρ _ => Cert.QIdeal.Gen.frame m ρ,
    frameQRef,
    fun m ρ _ => Cert.Kv.Gen.frame m ρ,
    fun m ρ _ => Cert.KvIdeal.Gen.frame m ρ,
    frameKvRef,
    fun m ρ _ => Cert.Head.Gen.frame m ρ,
    fun m ρ _ => Cert.HeadIdeal.Gen.frame m ρ,
    frameHeadRef,
    trivial,
    algebraicGate,
    trivial,
    algebraicFfn,
    trivial,
    algebraicConv,
    trivial,
    algebraicOut,
    trivial,
    algebraicBranch,
    trivial,
    algebraicAttn,
    trivial,
    algebraicQ,
    trivial,
    algebraicKv,
    trivial,
    algebraicHead⟩

end Cert.Proof

end
